-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![128, 4096]⟩ ⟨2, ![4096, 4096]⟩ 0 32 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v11)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![4096, 64]⟩ ⟨2, ![4096, 2048]⟩ 1 32 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v11) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S128x4096 : Shape := ⟨2, ![128, 4096]⟩
abbrev S4096x2048 : Shape := ⟨2, ![4096, 2048]⟩
abbrev S4096x64 : Shape := ⟨2, ![4096, 64]⟩
abbrev S32x128x64 : Shape := ⟨3, ![32, 128, 64]⟩
abbrev S8x128 : Shape := ⟨2, ![8, 128]⟩
abbrev S32x8x128 : Shape := ⟨3, ![32, 8, 128]⟩
abbrev S32 : Shape := ⟨1, ![32]⟩
abbrev S_ : Shape := ⟨0, ![]⟩
abbrev S4096x256 : Shape := ⟨2, ![4096, 256]⟩
abbrev S128x256 : Shape := ⟨2, ![128, 256]⟩
abbrev S1x128x256 : Shape := ⟨3, ![1, 128, 256]⟩
abbrev S1 : Shape := ⟨1, ![1]⟩
abbrev S1x1x1 : Shape := ⟨3, ![1, 1, 1]⟩
abbrev S128x64 : Shape := ⟨2, ![128, 64]⟩
abbrev S1x128x64 : Shape := ⟨3, ![1, 128, 64]⟩
abbrev S1x8x128 : Shape := ⟨3, ![1, 8, 128]⟩
abbrev S1x32x8x128 : Shape := ⟨4, ![1, 32, 8, 128]⟩
abbrev S1x1x1x1 : Shape := ⟨4, ![1, 1, 1, 1]⟩

abbrev nBuf : Space → Nat
  | .hbm => 3
  | .vmem => 7
  | .smem => 0
  | _ => 0

abbrev bufTy : (tb : Table) → Fin (tcTables nBuf tb) → BufTy
  | .hbm, ⟨0, _⟩ => ⟨S128x4096, .f32⟩
  | .hbm, ⟨1, _⟩ => ⟨S4096x2048, .f32⟩
  | .hbm, ⟨2, _⟩ => ⟨S4096x64, .f32⟩
  | .local _ .vmem, ⟨0, _⟩ => ⟨S128x4096, .f32⟩
  | .local _ .vmem, ⟨1, _⟩ => ⟨S4096x2048, .f32⟩
  | .local _ .vmem, ⟨2, _⟩ => ⟨S4096x64, .f32⟩
  | .local _ .vmem, ⟨3, _⟩ => ⟨S32x128x64, .f32⟩
  | .local _ .vmem, ⟨4, _⟩ => ⟨S32x128x64, .f32⟩
  | .local _ .vmem, ⟨5, _⟩ => ⟨S8x128, .f32⟩
  | .local _ .vmem, ⟨6, _⟩ => ⟨S32x8x128, .f32⟩
  | _, _ => ⟨S128x4096, .f32⟩

abbrev dmaSemScopedAt0_0 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => true
  | 65 => true
  | 66 => true
  | 67 => true
  | 68 => true
  | 69 => true
  | 70 => true
  | 71 => true
  | 72 => true
  | 73 => true
  | 74 => true
  | 75 => true
  | 76 => true
  | 77 => true
  | 78 => true
  | 79 => true
  | 80 => true
  | 81 => true
  | 82 => true
  | 83 => true
  | 84 => true
  | 85 => true
  | 86 => true
  | 87 => true
  | 88 => true
  | 89 => true
  | 90 => true
  | 91 => true
  | 92 => true
  | 93 => true
  | 94 => true
  | 95 => true
  | 96 => true
  | 97 => true
  | 98 => true
  | 99 => true
  | 100 => true
  | 101 => true
  | 102 => true
  | 103 => true
  | 104 => true
  | 105 => true
  | 106 => true
  | 107 => true
  | 108 => true
  | 109 => true
  | 110 => true
  | 111 => true
  | 112 => true
  | 113 => true
  | 114 => true
  | 115 => true
  | 116 => true
  | 117 => true
  | 118 => true
  | 119 => true
  | 120 => true
  | 121 => true
  | 122 => true
  | 123 => true
  | 124 => true
  | 125 => true
  | 126 => true
  | 127 => true
  | _ => false

abbrev dmaSemScopedAt0_1 (i : Nat) : Bool := match i % 128 with
  | 0 => true
  | 1 => true
  | 2 => true
  | _ => false

abbrev dmaSemScopedAt (i : Nat) : Bool := match i / 128 with
  | 0 => dmaSemScopedAt0_0 i
  | 1 => dmaSemScopedAt0_1 i
  | _ => false

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 1 → Bool
  | ⟨0, _⟩ => false
  | _ => false

abbrev dmaSemScoped : Fin 131 → Bool
  | ⟨i, _⟩ => dmaSemScopedAt i

abbrev sig : RefSig :=
  (ofTc nBuf bufTy 1 131 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_scratch0 : Ref sig .tc := ⟨.vmem, 3, rfl⟩
abbrev cc0_scratch1 : Ref sig .tc := ⟨.vmem, 4, rfl⟩
abbrev cc0_scratch2 : Ref sig .tc := ⟨.vmem, 5, rfl⟩
abbrev cc0_scratch3 : Ref sig .tc := ⟨.vmem, 6, rfl⟩
abbrev cc0_sem0_0 : DmaSem sig := 0
abbrev cc0_sem1_0 : DmaSem sig := 1
abbrev cc0_sem2_0 : DmaSem sig := 2
abbrev barrier0 : Sem sig := 0

abbrev nD : Nat := 32
abbrev τ : Topo := Topo.v7x

variable {F : FTy → Type} [FloatOps F]

abbrev grid0 : Pipeline.Grid := .none

def k0_dev1 (d0 : Dev nD) : Nat :=
  let c0_i32_10 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_2 : BitVec 32 := 1#32
  let v8 : BitVec 32 := Scalar.addi v2 c1_i32_2
  let c32_i32_3 : BitVec 32 := 32#32
  let c0_i32 : BitVec 32 := 0#32
  let v9 : BitVec 1 := Scalar.cmpi .eq c32_i32_3 c0_i32
  let c1_i32_4 : BitVec 32 := 1#32
  let v10 : BitVec 32 := Scalar.select v9 c1_i32_4 c32_i32_3
  let v11 : BitVec 32 := Scalar.remsi v8 v10
  let c0_i32_6 : BitVec 32 := 0#32
  let v13 : BitVec 1 := Scalar.cmpi .slt v11 c0_i32_6
  let c0_i32_7 : BitVec 32 := 0#32
  let v14 : BitVec 1 := Scalar.cmpi .slt v10 c0_i32_7
  let v15 : BitVec 1 := Scalar.xori v13 v14
  let c0_i32_5 : BitVec 32 := 0#32
  let v12 : BitVec 1 := Scalar.cmpi .ne v11 c0_i32_5
  let v16 : BitVec 1 := Scalar.andi v15 v12
  let v17 : BitVec 32 := Scalar.addi v11 v10
  let v18 : BitVec 32 := Scalar.select v16 v17 v11
  let c1_i32_9 : BitVec 32 := 1#32
  let v19 : BitVec 32 := Scalar.muli v18 c1_i32_9
  let v20 : BitVec 32 := Scalar.addi c0_i32_10 v19
  v20.toNat
def k0_dev2 (d0 : Dev nD) : Nat :=
  let c0_i32_19 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32 : BitVec 32 := 2#32
  let v21 : BitVec 32 := Scalar.addi v2 c2_i32
  let c32_i32_11 : BitVec 32 := 32#32
  let c0_i32_12 : BitVec 32 := 0#32
  let v22 : BitVec 1 := Scalar.cmpi .eq c32_i32_11 c0_i32_12
  let c1_i32_13 : BitVec 32 := 1#32
  let v23 : BitVec 32 := Scalar.select v22 c1_i32_13 c32_i32_11
  let v24 : BitVec 32 := Scalar.remsi v21 v23
  let c0_i32_15 : BitVec 32 := 0#32
  let v26 : BitVec 1 := Scalar.cmpi .slt v24 c0_i32_15
  let c0_i32_16 : BitVec 32 := 0#32
  let v27 : BitVec 1 := Scalar.cmpi .slt v23 c0_i32_16
  let v28 : BitVec 1 := Scalar.xori v26 v27
  let c0_i32_14 : BitVec 32 := 0#32
  let v25 : BitVec 1 := Scalar.cmpi .ne v24 c0_i32_14
  let v29 : BitVec 1 := Scalar.andi v28 v25
  let v30 : BitVec 32 := Scalar.addi v24 v23
  let v31 : BitVec 32 := Scalar.select v29 v30 v24
  let c1_i32_18 : BitVec 32 := 1#32
  let v32 : BitVec 32 := Scalar.muli v31 c1_i32_18
  let v33 : BitVec 32 := Scalar.addi c0_i32_19 v32
  v33.toNat
def k0_dev3 (d0 : Dev nD) : Nat :=
  let c0_i32_28 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32 : BitVec 32 := 3#32
  let v34 : BitVec 32 := Scalar.addi v2 c3_i32
  let c32_i32_20 : BitVec 32 := 32#32
  let c0_i32_21 : BitVec 32 := 0#32
  let v35 : BitVec 1 := Scalar.cmpi .eq c32_i32_20 c0_i32_21
  let c1_i32_22 : BitVec 32 := 1#32
  let v36 : BitVec 32 := Scalar.select v35 c1_i32_22 c32_i32_20
  let v37 : BitVec 32 := Scalar.remsi v34 v36
  let c0_i32_24 : BitVec 32 := 0#32
  let v39 : BitVec 1 := Scalar.cmpi .slt v37 c0_i32_24
  let c0_i32_25 : BitVec 32 := 0#32
  let v40 : BitVec 1 := Scalar.cmpi .slt v36 c0_i32_25
  let v41 : BitVec 1 := Scalar.xori v39 v40
  let c0_i32_23 : BitVec 32 := 0#32
  let v38 : BitVec 1 := Scalar.cmpi .ne v37 c0_i32_23
  let v42 : BitVec 1 := Scalar.andi v41 v38
  let v43 : BitVec 32 := Scalar.addi v37 v36
  let v44 : BitVec 32 := Scalar.select v42 v43 v37
  let c1_i32_27 : BitVec 32 := 1#32
  let v45 : BitVec 32 := Scalar.muli v44 c1_i32_27
  let v46 : BitVec 32 := Scalar.addi c0_i32_28 v45
  v46.toNat
def k0_dev4 (d0 : Dev nD) : Nat :=
  let c0_i32_37 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32 : BitVec 32 := 4#32
  let v47 : BitVec 32 := Scalar.addi v2 c4_i32
  let c32_i32_29 : BitVec 32 := 32#32
  let c0_i32_30 : BitVec 32 := 0#32
  let v48 : BitVec 1 := Scalar.cmpi .eq c32_i32_29 c0_i32_30
  let c1_i32_31 : BitVec 32 := 1#32
  let v49 : BitVec 32 := Scalar.select v48 c1_i32_31 c32_i32_29
  let v50 : BitVec 32 := Scalar.remsi v47 v49
  let c0_i32_33 : BitVec 32 := 0#32
  let v52 : BitVec 1 := Scalar.cmpi .slt v50 c0_i32_33
  let c0_i32_34 : BitVec 32 := 0#32
  let v53 : BitVec 1 := Scalar.cmpi .slt v49 c0_i32_34
  let v54 : BitVec 1 := Scalar.xori v52 v53
  let c0_i32_32 : BitVec 32 := 0#32
  let v51 : BitVec 1 := Scalar.cmpi .ne v50 c0_i32_32
  let v55 : BitVec 1 := Scalar.andi v54 v51
  let v56 : BitVec 32 := Scalar.addi v50 v49
  let v57 : BitVec 32 := Scalar.select v55 v56 v50
  let c1_i32_36 : BitVec 32 := 1#32
  let v58 : BitVec 32 := Scalar.muli v57 c1_i32_36
  let v59 : BitVec 32 := Scalar.addi c0_i32_37 v58
  v59.toNat
def k0_dev5 (d0 : Dev nD) : Nat :=
  let c0_i32_46 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c5_i32 : BitVec 32 := 5#32
  let v60 : BitVec 32 := Scalar.addi v2 c5_i32
  let c32_i32_38 : BitVec 32 := 32#32
  let c0_i32_39 : BitVec 32 := 0#32
  let v61 : BitVec 1 := Scalar.cmpi .eq c32_i32_38 c0_i32_39
  let c1_i32_40 : BitVec 32 := 1#32
  let v62 : BitVec 32 := Scalar.select v61 c1_i32_40 c32_i32_38
  let v63 : BitVec 32 := Scalar.remsi v60 v62
  let c0_i32_42 : BitVec 32 := 0#32
  let v65 : BitVec 1 := Scalar.cmpi .slt v63 c0_i32_42
  let c0_i32_43 : BitVec 32 := 0#32
  let v66 : BitVec 1 := Scalar.cmpi .slt v62 c0_i32_43
  let v67 : BitVec 1 := Scalar.xori v65 v66
  let c0_i32_41 : BitVec 32 := 0#32
  let v64 : BitVec 1 := Scalar.cmpi .ne v63 c0_i32_41
  let v68 : BitVec 1 := Scalar.andi v67 v64
  let v69 : BitVec 32 := Scalar.addi v63 v62
  let v70 : BitVec 32 := Scalar.select v68 v69 v63
  let c1_i32_45 : BitVec 32 := 1#32
  let v71 : BitVec 32 := Scalar.muli v70 c1_i32_45
  let v72 : BitVec 32 := Scalar.addi c0_i32_46 v71
  v72.toNat
def k0_dev6 (d0 : Dev nD) : Nat :=
  let c0_i32_55 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c6_i32 : BitVec 32 := 6#32
  let v73 : BitVec 32 := Scalar.addi v2 c6_i32
  let c32_i32_47 : BitVec 32 := 32#32
  let c0_i32_48 : BitVec 32 := 0#32
  let v74 : BitVec 1 := Scalar.cmpi .eq c32_i32_47 c0_i32_48
  let c1_i32_49 : BitVec 32 := 1#32
  let v75 : BitVec 32 := Scalar.select v74 c1_i32_49 c32_i32_47
  let v76 : BitVec 32 := Scalar.remsi v73 v75
  let c0_i32_51 : BitVec 32 := 0#32
  let v78 : BitVec 1 := Scalar.cmpi .slt v76 c0_i32_51
  let c0_i32_52 : BitVec 32 := 0#32
  let v79 : BitVec 1 := Scalar.cmpi .slt v75 c0_i32_52
  let v80 : BitVec 1 := Scalar.xori v78 v79
  let c0_i32_50 : BitVec 32 := 0#32
  let v77 : BitVec 1 := Scalar.cmpi .ne v76 c0_i32_50
  let v81 : BitVec 1 := Scalar.andi v80 v77
  let v82 : BitVec 32 := Scalar.addi v76 v75
  let v83 : BitVec 32 := Scalar.select v81 v82 v76
  let c1_i32_54 : BitVec 32 := 1#32
  let v84 : BitVec 32 := Scalar.muli v83 c1_i32_54
  let v85 : BitVec 32 := Scalar.addi c0_i32_55 v84
  v85.toNat
def k0_dev7 (d0 : Dev nD) : Nat :=
  let c0_i32_64 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c7_i32 : BitVec 32 := 7#32
  let v86 : BitVec 32 := Scalar.addi v2 c7_i32
  let c32_i32_56 : BitVec 32 := 32#32
  let c0_i32_57 : BitVec 32 := 0#32
  let v87 : BitVec 1 := Scalar.cmpi .eq c32_i32_56 c0_i32_57
  let c1_i32_58 : BitVec 32 := 1#32
  let v88 : BitVec 32 := Scalar.select v87 c1_i32_58 c32_i32_56
  let v89 : BitVec 32 := Scalar.remsi v86 v88
  let c0_i32_60 : BitVec 32 := 0#32
  let v91 : BitVec 1 := Scalar.cmpi .slt v89 c0_i32_60
  let c0_i32_61 : BitVec 32 := 0#32
  let v92 : BitVec 1 := Scalar.cmpi .slt v88 c0_i32_61
  let v93 : BitVec 1 := Scalar.xori v91 v92
  let c0_i32_59 : BitVec 32 := 0#32
  let v90 : BitVec 1 := Scalar.cmpi .ne v89 c0_i32_59
  let v94 : BitVec 1 := Scalar.andi v93 v90
  let v95 : BitVec 32 := Scalar.addi v89 v88
  let v96 : BitVec 32 := Scalar.select v94 v95 v89
  let c1_i32_63 : BitVec 32 := 1#32
  let v97 : BitVec 32 := Scalar.muli v96 c1_i32_63
  let v98 : BitVec 32 := Scalar.addi c0_i32_64 v97
  v98.toNat
def k0_dev8 (d0 : Dev nD) : Nat :=
  let c0_i32_73 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v99 : BitVec 32 := Scalar.addi v2 c8_i32
  let c32_i32_65 : BitVec 32 := 32#32
  let c0_i32_66 : BitVec 32 := 0#32
  let v100 : BitVec 1 := Scalar.cmpi .eq c32_i32_65 c0_i32_66
  let c1_i32_67 : BitVec 32 := 1#32
  let v101 : BitVec 32 := Scalar.select v100 c1_i32_67 c32_i32_65
  let v102 : BitVec 32 := Scalar.remsi v99 v101
  let c0_i32_69 : BitVec 32 := 0#32
  let v104 : BitVec 1 := Scalar.cmpi .slt v102 c0_i32_69
  let c0_i32_70 : BitVec 32 := 0#32
  let v105 : BitVec 1 := Scalar.cmpi .slt v101 c0_i32_70
  let v106 : BitVec 1 := Scalar.xori v104 v105
  let c0_i32_68 : BitVec 32 := 0#32
  let v103 : BitVec 1 := Scalar.cmpi .ne v102 c0_i32_68
  let v107 : BitVec 1 := Scalar.andi v106 v103
  let v108 : BitVec 32 := Scalar.addi v102 v101
  let v109 : BitVec 32 := Scalar.select v107 v108 v102
  let c1_i32_72 : BitVec 32 := 1#32
  let v110 : BitVec 32 := Scalar.muli v109 c1_i32_72
  let v111 : BitVec 32 := Scalar.addi c0_i32_73 v110
  v111.toNat
def k0_dev9 (d0 : Dev nD) : Nat :=
  let c0_i32_82 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c9_i32 : BitVec 32 := 9#32
  let v112 : BitVec 32 := Scalar.addi v2 c9_i32
  let c32_i32_74 : BitVec 32 := 32#32
  let c0_i32_75 : BitVec 32 := 0#32
  let v113 : BitVec 1 := Scalar.cmpi .eq c32_i32_74 c0_i32_75
  let c1_i32_76 : BitVec 32 := 1#32
  let v114 : BitVec 32 := Scalar.select v113 c1_i32_76 c32_i32_74
  let v115 : BitVec 32 := Scalar.remsi v112 v114
  let c0_i32_78 : BitVec 32 := 0#32
  let v117 : BitVec 1 := Scalar.cmpi .slt v115 c0_i32_78
  let c0_i32_79 : BitVec 32 := 0#32
  let v118 : BitVec 1 := Scalar.cmpi .slt v114 c0_i32_79
  let v119 : BitVec 1 := Scalar.xori v117 v118
  let c0_i32_77 : BitVec 32 := 0#32
  let v116 : BitVec 1 := Scalar.cmpi .ne v115 c0_i32_77
  let v120 : BitVec 1 := Scalar.andi v119 v116
  let v121 : BitVec 32 := Scalar.addi v115 v114
  let v122 : BitVec 32 := Scalar.select v120 v121 v115
  let c1_i32_81 : BitVec 32 := 1#32
  let v123 : BitVec 32 := Scalar.muli v122 c1_i32_81
  let v124 : BitVec 32 := Scalar.addi c0_i32_82 v123
  v124.toNat
def k0_dev10 (d0 : Dev nD) : Nat :=
  let c0_i32_91 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c10_i32 : BitVec 32 := 10#32
  let v125 : BitVec 32 := Scalar.addi v2 c10_i32
  let c32_i32_83 : BitVec 32 := 32#32
  let c0_i32_84 : BitVec 32 := 0#32
  let v126 : BitVec 1 := Scalar.cmpi .eq c32_i32_83 c0_i32_84
  let c1_i32_85 : BitVec 32 := 1#32
  let v127 : BitVec 32 := Scalar.select v126 c1_i32_85 c32_i32_83
  let v128 : BitVec 32 := Scalar.remsi v125 v127
  let c0_i32_87 : BitVec 32 := 0#32
  let v130 : BitVec 1 := Scalar.cmpi .slt v128 c0_i32_87
  let c0_i32_88 : BitVec 32 := 0#32
  let v131 : BitVec 1 := Scalar.cmpi .slt v127 c0_i32_88
  let v132 : BitVec 1 := Scalar.xori v130 v131
  let c0_i32_86 : BitVec 32 := 0#32
  let v129 : BitVec 1 := Scalar.cmpi .ne v128 c0_i32_86
  let v133 : BitVec 1 := Scalar.andi v132 v129
  let v134 : BitVec 32 := Scalar.addi v128 v127
  let v135 : BitVec 32 := Scalar.select v133 v134 v128
  let c1_i32_90 : BitVec 32 := 1#32
  let v136 : BitVec 32 := Scalar.muli v135 c1_i32_90
  let v137 : BitVec 32 := Scalar.addi c0_i32_91 v136
  v137.toNat
def k0_dev11 (d0 : Dev nD) : Nat :=
  let c0_i32_100 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c11_i32 : BitVec 32 := 11#32
  let v138 : BitVec 32 := Scalar.addi v2 c11_i32
  let c32_i32_92 : BitVec 32 := 32#32
  let c0_i32_93 : BitVec 32 := 0#32
  let v139 : BitVec 1 := Scalar.cmpi .eq c32_i32_92 c0_i32_93
  let c1_i32_94 : BitVec 32 := 1#32
  let v140 : BitVec 32 := Scalar.select v139 c1_i32_94 c32_i32_92
  let v141 : BitVec 32 := Scalar.remsi v138 v140
  let c0_i32_96 : BitVec 32 := 0#32
  let v143 : BitVec 1 := Scalar.cmpi .slt v141 c0_i32_96
  let c0_i32_97 : BitVec 32 := 0#32
  let v144 : BitVec 1 := Scalar.cmpi .slt v140 c0_i32_97
  let v145 : BitVec 1 := Scalar.xori v143 v144
  let c0_i32_95 : BitVec 32 := 0#32
  let v142 : BitVec 1 := Scalar.cmpi .ne v141 c0_i32_95
  let v146 : BitVec 1 := Scalar.andi v145 v142
  let v147 : BitVec 32 := Scalar.addi v141 v140
  let v148 : BitVec 32 := Scalar.select v146 v147 v141
  let c1_i32_99 : BitVec 32 := 1#32
  let v149 : BitVec 32 := Scalar.muli v148 c1_i32_99
  let v150 : BitVec 32 := Scalar.addi c0_i32_100 v149
  v150.toNat
def k0_dev12 (d0 : Dev nD) : Nat :=
  let c0_i32_109 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c12_i32 : BitVec 32 := 12#32
  let v151 : BitVec 32 := Scalar.addi v2 c12_i32
  let c32_i32_101 : BitVec 32 := 32#32
  let c0_i32_102 : BitVec 32 := 0#32
  let v152 : BitVec 1 := Scalar.cmpi .eq c32_i32_101 c0_i32_102
  let c1_i32_103 : BitVec 32 := 1#32
  let v153 : BitVec 32 := Scalar.select v152 c1_i32_103 c32_i32_101
  let v154 : BitVec 32 := Scalar.remsi v151 v153
  let c0_i32_105 : BitVec 32 := 0#32
  let v156 : BitVec 1 := Scalar.cmpi .slt v154 c0_i32_105
  let c0_i32_106 : BitVec 32 := 0#32
  let v157 : BitVec 1 := Scalar.cmpi .slt v153 c0_i32_106
  let v158 : BitVec 1 := Scalar.xori v156 v157
  let c0_i32_104 : BitVec 32 := 0#32
  let v155 : BitVec 1 := Scalar.cmpi .ne v154 c0_i32_104
  let v159 : BitVec 1 := Scalar.andi v158 v155
  let v160 : BitVec 32 := Scalar.addi v154 v153
  let v161 : BitVec 32 := Scalar.select v159 v160 v154
  let c1_i32_108 : BitVec 32 := 1#32
  let v162 : BitVec 32 := Scalar.muli v161 c1_i32_108
  let v163 : BitVec 32 := Scalar.addi c0_i32_109 v162
  v163.toNat
def k0_dev13 (d0 : Dev nD) : Nat :=
  let c0_i32_118 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c13_i32 : BitVec 32 := 13#32
  let v164 : BitVec 32 := Scalar.addi v2 c13_i32
  let c32_i32_110 : BitVec 32 := 32#32
  let c0_i32_111 : BitVec 32 := 0#32
  let v165 : BitVec 1 := Scalar.cmpi .eq c32_i32_110 c0_i32_111
  let c1_i32_112 : BitVec 32 := 1#32
  let v166 : BitVec 32 := Scalar.select v165 c1_i32_112 c32_i32_110
  let v167 : BitVec 32 := Scalar.remsi v164 v166
  let c0_i32_114 : BitVec 32 := 0#32
  let v169 : BitVec 1 := Scalar.cmpi .slt v167 c0_i32_114
  let c0_i32_115 : BitVec 32 := 0#32
  let v170 : BitVec 1 := Scalar.cmpi .slt v166 c0_i32_115
  let v171 : BitVec 1 := Scalar.xori v169 v170
  let c0_i32_113 : BitVec 32 := 0#32
  let v168 : BitVec 1 := Scalar.cmpi .ne v167 c0_i32_113
  let v172 : BitVec 1 := Scalar.andi v171 v168
  let v173 : BitVec 32 := Scalar.addi v167 v166
  let v174 : BitVec 32 := Scalar.select v172 v173 v167
  let c1_i32_117 : BitVec 32 := 1#32
  let v175 : BitVec 32 := Scalar.muli v174 c1_i32_117
  let v176 : BitVec 32 := Scalar.addi c0_i32_118 v175
  v176.toNat
def k0_dev14 (d0 : Dev nD) : Nat :=
  let c0_i32_127 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c14_i32 : BitVec 32 := 14#32
  let v177 : BitVec 32 := Scalar.addi v2 c14_i32
  let c32_i32_119 : BitVec 32 := 32#32
  let c0_i32_120 : BitVec 32 := 0#32
  let v178 : BitVec 1 := Scalar.cmpi .eq c32_i32_119 c0_i32_120
  let c1_i32_121 : BitVec 32 := 1#32
  let v179 : BitVec 32 := Scalar.select v178 c1_i32_121 c32_i32_119
  let v180 : BitVec 32 := Scalar.remsi v177 v179
  let c0_i32_123 : BitVec 32 := 0#32
  let v182 : BitVec 1 := Scalar.cmpi .slt v180 c0_i32_123
  let c0_i32_124 : BitVec 32 := 0#32
  let v183 : BitVec 1 := Scalar.cmpi .slt v179 c0_i32_124
  let v184 : BitVec 1 := Scalar.xori v182 v183
  let c0_i32_122 : BitVec 32 := 0#32
  let v181 : BitVec 1 := Scalar.cmpi .ne v180 c0_i32_122
  let v185 : BitVec 1 := Scalar.andi v184 v181
  let v186 : BitVec 32 := Scalar.addi v180 v179
  let v187 : BitVec 32 := Scalar.select v185 v186 v180
  let c1_i32_126 : BitVec 32 := 1#32
  let v188 : BitVec 32 := Scalar.muli v187 c1_i32_126
  let v189 : BitVec 32 := Scalar.addi c0_i32_127 v188
  v189.toNat
def k0_dev15 (d0 : Dev nD) : Nat :=
  let c0_i32_136 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c15_i32 : BitVec 32 := 15#32
  let v190 : BitVec 32 := Scalar.addi v2 c15_i32
  let c32_i32_128 : BitVec 32 := 32#32
  let c0_i32_129 : BitVec 32 := 0#32
  let v191 : BitVec 1 := Scalar.cmpi .eq c32_i32_128 c0_i32_129
  let c1_i32_130 : BitVec 32 := 1#32
  let v192 : BitVec 32 := Scalar.select v191 c1_i32_130 c32_i32_128
  let v193 : BitVec 32 := Scalar.remsi v190 v192
  let c0_i32_132 : BitVec 32 := 0#32
  let v195 : BitVec 1 := Scalar.cmpi .slt v193 c0_i32_132
  let c0_i32_133 : BitVec 32 := 0#32
  let v196 : BitVec 1 := Scalar.cmpi .slt v192 c0_i32_133
  let v197 : BitVec 1 := Scalar.xori v195 v196
  let c0_i32_131 : BitVec 32 := 0#32
  let v194 : BitVec 1 := Scalar.cmpi .ne v193 c0_i32_131
  let v198 : BitVec 1 := Scalar.andi v197 v194
  let v199 : BitVec 32 := Scalar.addi v193 v192
  let v200 : BitVec 32 := Scalar.select v198 v199 v193
  let c1_i32_135 : BitVec 32 := 1#32
  let v201 : BitVec 32 := Scalar.muli v200 c1_i32_135
  let v202 : BitVec 32 := Scalar.addi c0_i32_136 v201
  v202.toNat
def k0_dev16 (d0 : Dev nD) : Nat :=
  let c0_i32_145 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32 : BitVec 32 := 16#32
  let v203 : BitVec 32 := Scalar.addi v2 c16_i32
  let c32_i32_137 : BitVec 32 := 32#32
  let c0_i32_138 : BitVec 32 := 0#32
  let v204 : BitVec 1 := Scalar.cmpi .eq c32_i32_137 c0_i32_138
  let c1_i32_139 : BitVec 32 := 1#32
  let v205 : BitVec 32 := Scalar.select v204 c1_i32_139 c32_i32_137
  let v206 : BitVec 32 := Scalar.remsi v203 v205
  let c0_i32_141 : BitVec 32 := 0#32
  let v208 : BitVec 1 := Scalar.cmpi .slt v206 c0_i32_141
  let c0_i32_142 : BitVec 32 := 0#32
  let v209 : BitVec 1 := Scalar.cmpi .slt v205 c0_i32_142
  let v210 : BitVec 1 := Scalar.xori v208 v209
  let c0_i32_140 : BitVec 32 := 0#32
  let v207 : BitVec 1 := Scalar.cmpi .ne v206 c0_i32_140
  let v211 : BitVec 1 := Scalar.andi v210 v207
  let v212 : BitVec 32 := Scalar.addi v206 v205
  let v213 : BitVec 32 := Scalar.select v211 v212 v206
  let c1_i32_144 : BitVec 32 := 1#32
  let v214 : BitVec 32 := Scalar.muli v213 c1_i32_144
  let v215 : BitVec 32 := Scalar.addi c0_i32_145 v214
  v215.toNat
def k0_dev17 (d0 : Dev nD) : Nat :=
  let c0_i32_154 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c17_i32 : BitVec 32 := 17#32
  let v216 : BitVec 32 := Scalar.addi v2 c17_i32
  let c32_i32_146 : BitVec 32 := 32#32
  let c0_i32_147 : BitVec 32 := 0#32
  let v217 : BitVec 1 := Scalar.cmpi .eq c32_i32_146 c0_i32_147
  let c1_i32_148 : BitVec 32 := 1#32
  let v218 : BitVec 32 := Scalar.select v217 c1_i32_148 c32_i32_146
  let v219 : BitVec 32 := Scalar.remsi v216 v218
  let c0_i32_150 : BitVec 32 := 0#32
  let v221 : BitVec 1 := Scalar.cmpi .slt v219 c0_i32_150
  let c0_i32_151 : BitVec 32 := 0#32
  let v222 : BitVec 1 := Scalar.cmpi .slt v218 c0_i32_151
  let v223 : BitVec 1 := Scalar.xori v221 v222
  let c0_i32_149 : BitVec 32 := 0#32
  let v220 : BitVec 1 := Scalar.cmpi .ne v219 c0_i32_149
  let v224 : BitVec 1 := Scalar.andi v223 v220
  let v225 : BitVec 32 := Scalar.addi v219 v218
  let v226 : BitVec 32 := Scalar.select v224 v225 v219
  let c1_i32_153 : BitVec 32 := 1#32
  let v227 : BitVec 32 := Scalar.muli v226 c1_i32_153
  let v228 : BitVec 32 := Scalar.addi c0_i32_154 v227
  v228.toNat
def k0_dev18 (d0 : Dev nD) : Nat :=
  let c0_i32_163 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c18_i32 : BitVec 32 := 18#32
  let v229 : BitVec 32 := Scalar.addi v2 c18_i32
  let c32_i32_155 : BitVec 32 := 32#32
  let c0_i32_156 : BitVec 32 := 0#32
  let v230 : BitVec 1 := Scalar.cmpi .eq c32_i32_155 c0_i32_156
  let c1_i32_157 : BitVec 32 := 1#32
  let v231 : BitVec 32 := Scalar.select v230 c1_i32_157 c32_i32_155
  let v232 : BitVec 32 := Scalar.remsi v229 v231
  let c0_i32_159 : BitVec 32 := 0#32
  let v234 : BitVec 1 := Scalar.cmpi .slt v232 c0_i32_159
  let c0_i32_160 : BitVec 32 := 0#32
  let v235 : BitVec 1 := Scalar.cmpi .slt v231 c0_i32_160
  let v236 : BitVec 1 := Scalar.xori v234 v235
  let c0_i32_158 : BitVec 32 := 0#32
  let v233 : BitVec 1 := Scalar.cmpi .ne v232 c0_i32_158
  let v237 : BitVec 1 := Scalar.andi v236 v233
  let v238 : BitVec 32 := Scalar.addi v232 v231
  let v239 : BitVec 32 := Scalar.select v237 v238 v232
  let c1_i32_162 : BitVec 32 := 1#32
  let v240 : BitVec 32 := Scalar.muli v239 c1_i32_162
  let v241 : BitVec 32 := Scalar.addi c0_i32_163 v240
  v241.toNat
def k0_dev19 (d0 : Dev nD) : Nat :=
  let c0_i32_172 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c19_i32 : BitVec 32 := 19#32
  let v242 : BitVec 32 := Scalar.addi v2 c19_i32
  let c32_i32_164 : BitVec 32 := 32#32
  let c0_i32_165 : BitVec 32 := 0#32
  let v243 : BitVec 1 := Scalar.cmpi .eq c32_i32_164 c0_i32_165
  let c1_i32_166 : BitVec 32 := 1#32
  let v244 : BitVec 32 := Scalar.select v243 c1_i32_166 c32_i32_164
  let v245 : BitVec 32 := Scalar.remsi v242 v244
  let c0_i32_168 : BitVec 32 := 0#32
  let v247 : BitVec 1 := Scalar.cmpi .slt v245 c0_i32_168
  let c0_i32_169 : BitVec 32 := 0#32
  let v248 : BitVec 1 := Scalar.cmpi .slt v244 c0_i32_169
  let v249 : BitVec 1 := Scalar.xori v247 v248
  let c0_i32_167 : BitVec 32 := 0#32
  let v246 : BitVec 1 := Scalar.cmpi .ne v245 c0_i32_167
  let v250 : BitVec 1 := Scalar.andi v249 v246
  let v251 : BitVec 32 := Scalar.addi v245 v244
  let v252 : BitVec 32 := Scalar.select v250 v251 v245
  let c1_i32_171 : BitVec 32 := 1#32
  let v253 : BitVec 32 := Scalar.muli v252 c1_i32_171
  let v254 : BitVec 32 := Scalar.addi c0_i32_172 v253
  v254.toNat
def k0_dev20 (d0 : Dev nD) : Nat :=
  let c0_i32_181 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c20_i32 : BitVec 32 := 20#32
  let v255 : BitVec 32 := Scalar.addi v2 c20_i32
  let c32_i32_173 : BitVec 32 := 32#32
  let c0_i32_174 : BitVec 32 := 0#32
  let v256 : BitVec 1 := Scalar.cmpi .eq c32_i32_173 c0_i32_174
  let c1_i32_175 : BitVec 32 := 1#32
  let v257 : BitVec 32 := Scalar.select v256 c1_i32_175 c32_i32_173
  let v258 : BitVec 32 := Scalar.remsi v255 v257
  let c0_i32_177 : BitVec 32 := 0#32
  let v260 : BitVec 1 := Scalar.cmpi .slt v258 c0_i32_177
  let c0_i32_178 : BitVec 32 := 0#32
  let v261 : BitVec 1 := Scalar.cmpi .slt v257 c0_i32_178
  let v262 : BitVec 1 := Scalar.xori v260 v261
  let c0_i32_176 : BitVec 32 := 0#32
  let v259 : BitVec 1 := Scalar.cmpi .ne v258 c0_i32_176
  let v263 : BitVec 1 := Scalar.andi v262 v259
  let v264 : BitVec 32 := Scalar.addi v258 v257
  let v265 : BitVec 32 := Scalar.select v263 v264 v258
  let c1_i32_180 : BitVec 32 := 1#32
  let v266 : BitVec 32 := Scalar.muli v265 c1_i32_180
  let v267 : BitVec 32 := Scalar.addi c0_i32_181 v266
  v267.toNat
def k0_dev21 (d0 : Dev nD) : Nat :=
  let c0_i32_190 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c21_i32 : BitVec 32 := 21#32
  let v268 : BitVec 32 := Scalar.addi v2 c21_i32
  let c32_i32_182 : BitVec 32 := 32#32
  let c0_i32_183 : BitVec 32 := 0#32
  let v269 : BitVec 1 := Scalar.cmpi .eq c32_i32_182 c0_i32_183
  let c1_i32_184 : BitVec 32 := 1#32
  let v270 : BitVec 32 := Scalar.select v269 c1_i32_184 c32_i32_182
  let v271 : BitVec 32 := Scalar.remsi v268 v270
  let c0_i32_186 : BitVec 32 := 0#32
  let v273 : BitVec 1 := Scalar.cmpi .slt v271 c0_i32_186
  let c0_i32_187 : BitVec 32 := 0#32
  let v274 : BitVec 1 := Scalar.cmpi .slt v270 c0_i32_187
  let v275 : BitVec 1 := Scalar.xori v273 v274
  let c0_i32_185 : BitVec 32 := 0#32
  let v272 : BitVec 1 := Scalar.cmpi .ne v271 c0_i32_185
  let v276 : BitVec 1 := Scalar.andi v275 v272
  let v277 : BitVec 32 := Scalar.addi v271 v270
  let v278 : BitVec 32 := Scalar.select v276 v277 v271
  let c1_i32_189 : BitVec 32 := 1#32
  let v279 : BitVec 32 := Scalar.muli v278 c1_i32_189
  let v280 : BitVec 32 := Scalar.addi c0_i32_190 v279
  v280.toNat
def k0_dev22 (d0 : Dev nD) : Nat :=
  let c0_i32_199 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c22_i32 : BitVec 32 := 22#32
  let v281 : BitVec 32 := Scalar.addi v2 c22_i32
  let c32_i32_191 : BitVec 32 := 32#32
  let c0_i32_192 : BitVec 32 := 0#32
  let v282 : BitVec 1 := Scalar.cmpi .eq c32_i32_191 c0_i32_192
  let c1_i32_193 : BitVec 32 := 1#32
  let v283 : BitVec 32 := Scalar.select v282 c1_i32_193 c32_i32_191
  let v284 : BitVec 32 := Scalar.remsi v281 v283
  let c0_i32_195 : BitVec 32 := 0#32
  let v286 : BitVec 1 := Scalar.cmpi .slt v284 c0_i32_195
  let c0_i32_196 : BitVec 32 := 0#32
  let v287 : BitVec 1 := Scalar.cmpi .slt v283 c0_i32_196
  let v288 : BitVec 1 := Scalar.xori v286 v287
  let c0_i32_194 : BitVec 32 := 0#32
  let v285 : BitVec 1 := Scalar.cmpi .ne v284 c0_i32_194
  let v289 : BitVec 1 := Scalar.andi v288 v285
  let v290 : BitVec 32 := Scalar.addi v284 v283
  let v291 : BitVec 32 := Scalar.select v289 v290 v284
  let c1_i32_198 : BitVec 32 := 1#32
  let v292 : BitVec 32 := Scalar.muli v291 c1_i32_198
  let v293 : BitVec 32 := Scalar.addi c0_i32_199 v292
  v293.toNat
def k0_dev23 (d0 : Dev nD) : Nat :=
  let c0_i32_208 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c23_i32 : BitVec 32 := 23#32
  let v294 : BitVec 32 := Scalar.addi v2 c23_i32
  let c32_i32_200 : BitVec 32 := 32#32
  let c0_i32_201 : BitVec 32 := 0#32
  let v295 : BitVec 1 := Scalar.cmpi .eq c32_i32_200 c0_i32_201
  let c1_i32_202 : BitVec 32 := 1#32
  let v296 : BitVec 32 := Scalar.select v295 c1_i32_202 c32_i32_200
  let v297 : BitVec 32 := Scalar.remsi v294 v296
  let c0_i32_204 : BitVec 32 := 0#32
  let v299 : BitVec 1 := Scalar.cmpi .slt v297 c0_i32_204
  let c0_i32_205 : BitVec 32 := 0#32
  let v300 : BitVec 1 := Scalar.cmpi .slt v296 c0_i32_205
  let v301 : BitVec 1 := Scalar.xori v299 v300
  let c0_i32_203 : BitVec 32 := 0#32
  let v298 : BitVec 1 := Scalar.cmpi .ne v297 c0_i32_203
  let v302 : BitVec 1 := Scalar.andi v301 v298
  let v303 : BitVec 32 := Scalar.addi v297 v296
  let v304 : BitVec 32 := Scalar.select v302 v303 v297
  let c1_i32_207 : BitVec 32 := 1#32
  let v305 : BitVec 32 := Scalar.muli v304 c1_i32_207
  let v306 : BitVec 32 := Scalar.addi c0_i32_208 v305
  v306.toNat
def k0_dev24 (d0 : Dev nD) : Nat :=
  let c0_i32_217 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c24_i32 : BitVec 32 := 24#32
  let v307 : BitVec 32 := Scalar.addi v2 c24_i32
  let c32_i32_209 : BitVec 32 := 32#32
  let c0_i32_210 : BitVec 32 := 0#32
  let v308 : BitVec 1 := Scalar.cmpi .eq c32_i32_209 c0_i32_210
  let c1_i32_211 : BitVec 32 := 1#32
  let v309 : BitVec 32 := Scalar.select v308 c1_i32_211 c32_i32_209
  let v310 : BitVec 32 := Scalar.remsi v307 v309
  let c0_i32_213 : BitVec 32 := 0#32
  let v312 : BitVec 1 := Scalar.cmpi .slt v310 c0_i32_213
  let c0_i32_214 : BitVec 32 := 0#32
  let v313 : BitVec 1 := Scalar.cmpi .slt v309 c0_i32_214
  let v314 : BitVec 1 := Scalar.xori v312 v313
  let c0_i32_212 : BitVec 32 := 0#32
  let v311 : BitVec 1 := Scalar.cmpi .ne v310 c0_i32_212
  let v315 : BitVec 1 := Scalar.andi v314 v311
  let v316 : BitVec 32 := Scalar.addi v310 v309
  let v317 : BitVec 32 := Scalar.select v315 v316 v310
  let c1_i32_216 : BitVec 32 := 1#32
  let v318 : BitVec 32 := Scalar.muli v317 c1_i32_216
  let v319 : BitVec 32 := Scalar.addi c0_i32_217 v318
  v319.toNat
def k0_dev25 (d0 : Dev nD) : Nat :=
  let c0_i32_226 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c25_i32 : BitVec 32 := 25#32
  let v320 : BitVec 32 := Scalar.addi v2 c25_i32
  let c32_i32_218 : BitVec 32 := 32#32
  let c0_i32_219 : BitVec 32 := 0#32
  let v321 : BitVec 1 := Scalar.cmpi .eq c32_i32_218 c0_i32_219
  let c1_i32_220 : BitVec 32 := 1#32
  let v322 : BitVec 32 := Scalar.select v321 c1_i32_220 c32_i32_218
  let v323 : BitVec 32 := Scalar.remsi v320 v322
  let c0_i32_222 : BitVec 32 := 0#32
  let v325 : BitVec 1 := Scalar.cmpi .slt v323 c0_i32_222
  let c0_i32_223 : BitVec 32 := 0#32
  let v326 : BitVec 1 := Scalar.cmpi .slt v322 c0_i32_223
  let v327 : BitVec 1 := Scalar.xori v325 v326
  let c0_i32_221 : BitVec 32 := 0#32
  let v324 : BitVec 1 := Scalar.cmpi .ne v323 c0_i32_221
  let v328 : BitVec 1 := Scalar.andi v327 v324
  let v329 : BitVec 32 := Scalar.addi v323 v322
  let v330 : BitVec 32 := Scalar.select v328 v329 v323
  let c1_i32_225 : BitVec 32 := 1#32
  let v331 : BitVec 32 := Scalar.muli v330 c1_i32_225
  let v332 : BitVec 32 := Scalar.addi c0_i32_226 v331
  v332.toNat
def k0_dev26 (d0 : Dev nD) : Nat :=
  let c0_i32_235 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c26_i32 : BitVec 32 := 26#32
  let v333 : BitVec 32 := Scalar.addi v2 c26_i32
  let c32_i32_227 : BitVec 32 := 32#32
  let c0_i32_228 : BitVec 32 := 0#32
  let v334 : BitVec 1 := Scalar.cmpi .eq c32_i32_227 c0_i32_228
  let c1_i32_229 : BitVec 32 := 1#32
  let v335 : BitVec 32 := Scalar.select v334 c1_i32_229 c32_i32_227
  let v336 : BitVec 32 := Scalar.remsi v333 v335
  let c0_i32_231 : BitVec 32 := 0#32
  let v338 : BitVec 1 := Scalar.cmpi .slt v336 c0_i32_231
  let c0_i32_232 : BitVec 32 := 0#32
  let v339 : BitVec 1 := Scalar.cmpi .slt v335 c0_i32_232
  let v340 : BitVec 1 := Scalar.xori v338 v339
  let c0_i32_230 : BitVec 32 := 0#32
  let v337 : BitVec 1 := Scalar.cmpi .ne v336 c0_i32_230
  let v341 : BitVec 1 := Scalar.andi v340 v337
  let v342 : BitVec 32 := Scalar.addi v336 v335
  let v343 : BitVec 32 := Scalar.select v341 v342 v336
  let c1_i32_234 : BitVec 32 := 1#32
  let v344 : BitVec 32 := Scalar.muli v343 c1_i32_234
  let v345 : BitVec 32 := Scalar.addi c0_i32_235 v344
  v345.toNat
def k0_dev27 (d0 : Dev nD) : Nat :=
  let c0_i32_244 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c27_i32 : BitVec 32 := 27#32
  let v346 : BitVec 32 := Scalar.addi v2 c27_i32
  let c32_i32_236 : BitVec 32 := 32#32
  let c0_i32_237 : BitVec 32 := 0#32
  let v347 : BitVec 1 := Scalar.cmpi .eq c32_i32_236 c0_i32_237
  let c1_i32_238 : BitVec 32 := 1#32
  let v348 : BitVec 32 := Scalar.select v347 c1_i32_238 c32_i32_236
  let v349 : BitVec 32 := Scalar.remsi v346 v348
  let c0_i32_240 : BitVec 32 := 0#32
  let v351 : BitVec 1 := Scalar.cmpi .slt v349 c0_i32_240
  let c0_i32_241 : BitVec 32 := 0#32
  let v352 : BitVec 1 := Scalar.cmpi .slt v348 c0_i32_241
  let v353 : BitVec 1 := Scalar.xori v351 v352
  let c0_i32_239 : BitVec 32 := 0#32
  let v350 : BitVec 1 := Scalar.cmpi .ne v349 c0_i32_239
  let v354 : BitVec 1 := Scalar.andi v353 v350
  let v355 : BitVec 32 := Scalar.addi v349 v348
  let v356 : BitVec 32 := Scalar.select v354 v355 v349
  let c1_i32_243 : BitVec 32 := 1#32
  let v357 : BitVec 32 := Scalar.muli v356 c1_i32_243
  let v358 : BitVec 32 := Scalar.addi c0_i32_244 v357
  v358.toNat
def k0_dev28 (d0 : Dev nD) : Nat :=
  let c0_i32_253 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c28_i32 : BitVec 32 := 28#32
  let v359 : BitVec 32 := Scalar.addi v2 c28_i32
  let c32_i32_245 : BitVec 32 := 32#32
  let c0_i32_246 : BitVec 32 := 0#32
  let v360 : BitVec 1 := Scalar.cmpi .eq c32_i32_245 c0_i32_246
  let c1_i32_247 : BitVec 32 := 1#32
  let v361 : BitVec 32 := Scalar.select v360 c1_i32_247 c32_i32_245
  let v362 : BitVec 32 := Scalar.remsi v359 v361
  let c0_i32_249 : BitVec 32 := 0#32
  let v364 : BitVec 1 := Scalar.cmpi .slt v362 c0_i32_249
  let c0_i32_250 : BitVec 32 := 0#32
  let v365 : BitVec 1 := Scalar.cmpi .slt v361 c0_i32_250
  let v366 : BitVec 1 := Scalar.xori v364 v365
  let c0_i32_248 : BitVec 32 := 0#32
  let v363 : BitVec 1 := Scalar.cmpi .ne v362 c0_i32_248
  let v367 : BitVec 1 := Scalar.andi v366 v363
  let v368 : BitVec 32 := Scalar.addi v362 v361
  let v369 : BitVec 32 := Scalar.select v367 v368 v362
  let c1_i32_252 : BitVec 32 := 1#32
  let v370 : BitVec 32 := Scalar.muli v369 c1_i32_252
  let v371 : BitVec 32 := Scalar.addi c0_i32_253 v370
  v371.toNat
def k0_dev29 (d0 : Dev nD) : Nat :=
  let c0_i32_262 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c29_i32 : BitVec 32 := 29#32
  let v372 : BitVec 32 := Scalar.addi v2 c29_i32
  let c32_i32_254 : BitVec 32 := 32#32
  let c0_i32_255 : BitVec 32 := 0#32
  let v373 : BitVec 1 := Scalar.cmpi .eq c32_i32_254 c0_i32_255
  let c1_i32_256 : BitVec 32 := 1#32
  let v374 : BitVec 32 := Scalar.select v373 c1_i32_256 c32_i32_254
  let v375 : BitVec 32 := Scalar.remsi v372 v374
  let c0_i32_258 : BitVec 32 := 0#32
  let v377 : BitVec 1 := Scalar.cmpi .slt v375 c0_i32_258
  let c0_i32_259 : BitVec 32 := 0#32
  let v378 : BitVec 1 := Scalar.cmpi .slt v374 c0_i32_259
  let v379 : BitVec 1 := Scalar.xori v377 v378
  let c0_i32_257 : BitVec 32 := 0#32
  let v376 : BitVec 1 := Scalar.cmpi .ne v375 c0_i32_257
  let v380 : BitVec 1 := Scalar.andi v379 v376
  let v381 : BitVec 32 := Scalar.addi v375 v374
  let v382 : BitVec 32 := Scalar.select v380 v381 v375
  let c1_i32_261 : BitVec 32 := 1#32
  let v383 : BitVec 32 := Scalar.muli v382 c1_i32_261
  let v384 : BitVec 32 := Scalar.addi c0_i32_262 v383
  v384.toNat
def k0_dev30 (d0 : Dev nD) : Nat :=
  let c0_i32_271 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c30_i32 : BitVec 32 := 30#32
  let v385 : BitVec 32 := Scalar.addi v2 c30_i32
  let c32_i32_263 : BitVec 32 := 32#32
  let c0_i32_264 : BitVec 32 := 0#32
  let v386 : BitVec 1 := Scalar.cmpi .eq c32_i32_263 c0_i32_264
  let c1_i32_265 : BitVec 32 := 1#32
  let v387 : BitVec 32 := Scalar.select v386 c1_i32_265 c32_i32_263
  let v388 : BitVec 32 := Scalar.remsi v385 v387
  let c0_i32_267 : BitVec 32 := 0#32
  let v390 : BitVec 1 := Scalar.cmpi .slt v388 c0_i32_267
  let c0_i32_268 : BitVec 32 := 0#32
  let v391 : BitVec 1 := Scalar.cmpi .slt v387 c0_i32_268
  let v392 : BitVec 1 := Scalar.xori v390 v391
  let c0_i32_266 : BitVec 32 := 0#32
  let v389 : BitVec 1 := Scalar.cmpi .ne v388 c0_i32_266
  let v393 : BitVec 1 := Scalar.andi v392 v389
  let v394 : BitVec 32 := Scalar.addi v388 v387
  let v395 : BitVec 32 := Scalar.select v393 v394 v388
  let c1_i32_270 : BitVec 32 := 1#32
  let v396 : BitVec 32 := Scalar.muli v395 c1_i32_270
  let v397 : BitVec 32 := Scalar.addi c0_i32_271 v396
  v397.toNat
def k0_dev31 (d0 : Dev nD) : Nat :=
  let c0_i32_280 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32 : BitVec 32 := 31#32
  let v398 : BitVec 32 := Scalar.addi v2 c31_i32
  let c32_i32_272 : BitVec 32 := 32#32
  let c0_i32_273 : BitVec 32 := 0#32
  let v399 : BitVec 1 := Scalar.cmpi .eq c32_i32_272 c0_i32_273
  let c1_i32_274 : BitVec 32 := 1#32
  let v400 : BitVec 32 := Scalar.select v399 c1_i32_274 c32_i32_272
  let v401 : BitVec 32 := Scalar.remsi v398 v400
  let c0_i32_276 : BitVec 32 := 0#32
  let v403 : BitVec 1 := Scalar.cmpi .slt v401 c0_i32_276
  let c0_i32_277 : BitVec 32 := 0#32
  let v404 : BitVec 1 := Scalar.cmpi .slt v400 c0_i32_277
  let v405 : BitVec 1 := Scalar.xori v403 v404
  let c0_i32_275 : BitVec 32 := 0#32
  let v402 : BitVec 1 := Scalar.cmpi .ne v401 c0_i32_275
  let v406 : BitVec 1 := Scalar.andi v405 v402
  let v407 : BitVec 32 := Scalar.addi v401 v400
  let v408 : BitVec 32 := Scalar.select v406 v407 v401
  let c1_i32_279 : BitVec 32 := 1#32
  let v409 : BitVec 32 := Scalar.muli v408 c1_i32_279
  let v410 : BitVec 32 := Scalar.addi c0_i32_280 v409
  v410.toNat
def k0_cond1 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_293 : BitVec 32 := 0#32
  let v427 : BitVec 1 := Scalar.cmpi .ne v2 c0_i32_293
  let v428 : BitVec 32 := Scalar.extui v427
  let c0_i32_296 : BitVec 32 := 0#32
  let v429 : BitVec 1 := Scalar.cmpi .ne v428 c0_i32_296
  v429

def k0_off1 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off2 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1200 : BitVec 32 := 0#32
  let c0_i32_1201 : BitVec 32 := 0#32
  ![v2.toNat, 0, 0]
def k0_dev32 : Nat :=
  let c0_i32_1199 : BitVec 32 := 0#32
  let c0_i32_1197 : BitVec 32 := 0#32
  let c1_i32_1198 : BitVec 32 := 1#32
  let v1220 : BitVec 32 := Scalar.muli c0_i32_1197 c1_i32_1198
  let v1221 : BitVec 32 := Scalar.addi c0_i32_1199 v1220
  v1221.toNat
def k0_cond2 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_297 : BitVec 32 := 0#32
  let v430 : BitVec 1 := Scalar.cmpi .eq v2 c0_i32_297
  let v431 : BitVec 32 := Scalar.extui v430
  let c0_i32_298 : BitVec 32 := 0#32
  let v432 : BitVec 1 := Scalar.cmpi .ne v431 c0_i32_298
  v432

def k0_off3 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v1221 : Index := Scalar.indexCast v2
  let c0_1197 : Index := 0#32
  let c0_1198 : Index := 0#32
  ![v1221.toNat, 0, 0]
def k0_cond3 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_301 : BitVec 32 := 1#32
  let v437 : BitVec 1 := Scalar.cmpi .ne v2 c1_i32_301
  let v438 : BitVec 32 := Scalar.extui v437
  let c0_i32_304 : BitVec 32 := 0#32
  let v439 : BitVec 1 := Scalar.cmpi .ne v438 c0_i32_304
  v439

def k0_off4 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off5 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1200 : BitVec 32 := 0#32
  let c0_i32_1201 : BitVec 32 := 0#32
  ![v2.toNat, 0, 0]
def k0_dev33 : Nat :=
  let c0_i32_1199 : BitVec 32 := 0#32
  let c1_i32_1197 : BitVec 32 := 1#32
  let c1_i32_1198 : BitVec 32 := 1#32
  let v1220 : BitVec 32 := Scalar.muli c1_i32_1197 c1_i32_1198
  let v1221 : BitVec 32 := Scalar.addi c0_i32_1199 v1220
  v1221.toNat
def k0_cond4 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_305 : BitVec 32 := 1#32
  let v440 : BitVec 1 := Scalar.cmpi .eq v2 c1_i32_305
  let v441 : BitVec 32 := Scalar.extui v440
  let c0_i32_306 : BitVec 32 := 0#32
  let v442 : BitVec 1 := Scalar.cmpi .ne v441 c0_i32_306
  v442

def k0_off6 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v1221 : Index := Scalar.indexCast v2
  let c0_1197 : Index := 0#32
  let c0_1198 : Index := 0#32
  ![v1221.toNat, 0, 0]
def k0_cond5 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32_309 : BitVec 32 := 2#32
  let v447 : BitVec 1 := Scalar.cmpi .ne v2 c2_i32_309
  let v448 : BitVec 32 := Scalar.extui v447
  let c0_i32_312 : BitVec 32 := 0#32
  let v449 : BitVec 1 := Scalar.cmpi .ne v448 c0_i32_312
  v449

def k0_off7 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off8 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1200 : BitVec 32 := 0#32
  let c0_i32_1201 : BitVec 32 := 0#32
  ![v2.toNat, 0, 0]
def k0_dev34 : Nat :=
  let c0_i32_1199 : BitVec 32 := 0#32
  let c2_i32_1197 : BitVec 32 := 2#32
  let c1_i32_1198 : BitVec 32 := 1#32
  let v1220 : BitVec 32 := Scalar.muli c2_i32_1197 c1_i32_1198
  let v1221 : BitVec 32 := Scalar.addi c0_i32_1199 v1220
  v1221.toNat
def k0_cond6 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32_313 : BitVec 32 := 2#32
  let v450 : BitVec 1 := Scalar.cmpi .eq v2 c2_i32_313
  let v451 : BitVec 32 := Scalar.extui v450
  let c0_i32_314 : BitVec 32 := 0#32
  let v452 : BitVec 1 := Scalar.cmpi .ne v451 c0_i32_314
  v452

def k0_off9 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v1221 : Index := Scalar.indexCast v2
  let c0_1197 : Index := 0#32
  let c0_1198 : Index := 0#32
  ![v1221.toNat, 0, 0]
def k0_cond7 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32_317 : BitVec 32 := 3#32
  let v457 : BitVec 1 := Scalar.cmpi .ne v2 c3_i32_317
  let v458 : BitVec 32 := Scalar.extui v457
  let c0_i32_320 : BitVec 32 := 0#32
  let v459 : BitVec 1 := Scalar.cmpi .ne v458 c0_i32_320
  v459

def k0_off10 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off11 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1200 : BitVec 32 := 0#32
  let c0_i32_1201 : BitVec 32 := 0#32
  ![v2.toNat, 0, 0]
def k0_dev35 : Nat :=
  let c0_i32_1199 : BitVec 32 := 0#32
  let c3_i32_1197 : BitVec 32 := 3#32
  let c1_i32_1198 : BitVec 32 := 1#32
  let v1220 : BitVec 32 := Scalar.muli c3_i32_1197 c1_i32_1198
  let v1221 : BitVec 32 := Scalar.addi c0_i32_1199 v1220
  v1221.toNat
def k0_cond8 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32_321 : BitVec 32 := 3#32
  let v460 : BitVec 1 := Scalar.cmpi .eq v2 c3_i32_321
  let v461 : BitVec 32 := Scalar.extui v460
  let c0_i32_322 : BitVec 32 := 0#32
  let v462 : BitVec 1 := Scalar.cmpi .ne v461 c0_i32_322
  v462

def k0_off12 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v1221 : Index := Scalar.indexCast v2
  let c0_1197 : Index := 0#32
  let c0_1198 : Index := 0#32
  ![v1221.toNat, 0, 0]
def k0_cond9 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32_329 : BitVec 32 := 4#32
  let v477 : BitVec 1 := Scalar.cmpi .ne v2 c4_i32_329
  let v478 : BitVec 32 := Scalar.extui v477
  let c0_i32_332 : BitVec 32 := 0#32
  let v479 : BitVec 1 := Scalar.cmpi .ne v478 c0_i32_332
  v479

def k0_off13 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off14 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1200 : BitVec 32 := 0#32
  let c0_i32_1201 : BitVec 32 := 0#32
  ![v2.toNat, 0, 0]
def k0_dev36 : Nat :=
  let c0_i32_1199 : BitVec 32 := 0#32
  let c4_i32_1197 : BitVec 32 := 4#32
  let c1_i32_1198 : BitVec 32 := 1#32
  let v1220 : BitVec 32 := Scalar.muli c4_i32_1197 c1_i32_1198
  let v1221 : BitVec 32 := Scalar.addi c0_i32_1199 v1220
  v1221.toNat
def k0_cond10 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32_333 : BitVec 32 := 4#32
  let v480 : BitVec 1 := Scalar.cmpi .eq v2 c4_i32_333
  let v481 : BitVec 32 := Scalar.extui v480
  let c0_i32_334 : BitVec 32 := 0#32
  let v482 : BitVec 1 := Scalar.cmpi .ne v481 c0_i32_334
  v482

def k0_off15 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v1221 : Index := Scalar.indexCast v2
  let c0_1197 : Index := 0#32
  let c0_1198 : Index := 0#32
  ![v1221.toNat, 0, 0]
def k0_cond11 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c5_i32_337 : BitVec 32 := 5#32
  let v487 : BitVec 1 := Scalar.cmpi .ne v2 c5_i32_337
  let v488 : BitVec 32 := Scalar.extui v487
  let c0_i32_340 : BitVec 32 := 0#32
  let v489 : BitVec 1 := Scalar.cmpi .ne v488 c0_i32_340
  v489

def k0_off16 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off17 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1200 : BitVec 32 := 0#32
  let c0_i32_1201 : BitVec 32 := 0#32
  ![v2.toNat, 0, 0]
def k0_dev37 : Nat :=
  let c0_i32_1199 : BitVec 32 := 0#32
  let c5_i32_1197 : BitVec 32 := 5#32
  let c1_i32_1198 : BitVec 32 := 1#32
  let v1220 : BitVec 32 := Scalar.muli c5_i32_1197 c1_i32_1198
  let v1221 : BitVec 32 := Scalar.addi c0_i32_1199 v1220
  v1221.toNat
def k0_cond12 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c5_i32_341 : BitVec 32 := 5#32
  let v490 : BitVec 1 := Scalar.cmpi .eq v2 c5_i32_341
  let v491 : BitVec 32 := Scalar.extui v490
  let c0_i32_342 : BitVec 32 := 0#32
  let v492 : BitVec 1 := Scalar.cmpi .ne v491 c0_i32_342
  v492

def k0_off18 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v1221 : Index := Scalar.indexCast v2
  let c0_1197 : Index := 0#32
  let c0_1198 : Index := 0#32
  ![v1221.toNat, 0, 0]
def k0_cond13 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c6_i32_345 : BitVec 32 := 6#32
  let v497 : BitVec 1 := Scalar.cmpi .ne v2 c6_i32_345
  let v498 : BitVec 32 := Scalar.extui v497
  let c0_i32_348 : BitVec 32 := 0#32
  let v499 : BitVec 1 := Scalar.cmpi .ne v498 c0_i32_348
  v499

def k0_off19 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off20 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1200 : BitVec 32 := 0#32
  let c0_i32_1201 : BitVec 32 := 0#32
  ![v2.toNat, 0, 0]
def k0_dev38 : Nat :=
  let c0_i32_1199 : BitVec 32 := 0#32
  let c6_i32_1197 : BitVec 32 := 6#32
  let c1_i32_1198 : BitVec 32 := 1#32
  let v1220 : BitVec 32 := Scalar.muli c6_i32_1197 c1_i32_1198
  let v1221 : BitVec 32 := Scalar.addi c0_i32_1199 v1220
  v1221.toNat
def k0_cond14 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c6_i32_349 : BitVec 32 := 6#32
  let v500 : BitVec 1 := Scalar.cmpi .eq v2 c6_i32_349
  let v501 : BitVec 32 := Scalar.extui v500
  let c0_i32_350 : BitVec 32 := 0#32
  let v502 : BitVec 1 := Scalar.cmpi .ne v501 c0_i32_350
  v502

def k0_off21 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v1221 : Index := Scalar.indexCast v2
  let c0_1197 : Index := 0#32
  let c0_1198 : Index := 0#32
  ![v1221.toNat, 0, 0]
def k0_cond15 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c7_i32_353 : BitVec 32 := 7#32
  let v507 : BitVec 1 := Scalar.cmpi .ne v2 c7_i32_353
  let v508 : BitVec 32 := Scalar.extui v507
  let c0_i32_356 : BitVec 32 := 0#32
  let v509 : BitVec 1 := Scalar.cmpi .ne v508 c0_i32_356
  v509

def k0_off22 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off23 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1200 : BitVec 32 := 0#32
  let c0_i32_1201 : BitVec 32 := 0#32
  ![v2.toNat, 0, 0]
def k0_dev39 : Nat :=
  let c0_i32_1199 : BitVec 32 := 0#32
  let c7_i32_1197 : BitVec 32 := 7#32
  let c1_i32_1198 : BitVec 32 := 1#32
  let v1220 : BitVec 32 := Scalar.muli c7_i32_1197 c1_i32_1198
  let v1221 : BitVec 32 := Scalar.addi c0_i32_1199 v1220
  v1221.toNat
def k0_cond16 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c7_i32_357 : BitVec 32 := 7#32
  let v510 : BitVec 1 := Scalar.cmpi .eq v2 c7_i32_357
  let v511 : BitVec 32 := Scalar.extui v510
  let c0_i32_358 : BitVec 32 := 0#32
  let v512 : BitVec 1 := Scalar.cmpi .ne v511 c0_i32_358
  v512

def k0_off24 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v1221 : Index := Scalar.indexCast v2
  let c0_1197 : Index := 0#32
  let c0_1198 : Index := 0#32
  ![v1221.toNat, 0, 0]
def k0_cond17 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_365 : BitVec 32 := 8#32
  let v527 : BitVec 1 := Scalar.cmpi .ne v2 c8_i32_365
  let v528 : BitVec 32 := Scalar.extui v527
  let c0_i32_368 : BitVec 32 := 0#32
  let v529 : BitVec 1 := Scalar.cmpi .ne v528 c0_i32_368
  v529

def k0_off25 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off26 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1200 : BitVec 32 := 0#32
  let c0_i32_1201 : BitVec 32 := 0#32
  ![v2.toNat, 0, 0]
def k0_dev40 : Nat :=
  let c0_i32_1199 : BitVec 32 := 0#32
  let c8_i32_1197 : BitVec 32 := 8#32
  let c1_i32_1198 : BitVec 32 := 1#32
  let v1220 : BitVec 32 := Scalar.muli c8_i32_1197 c1_i32_1198
  let v1221 : BitVec 32 := Scalar.addi c0_i32_1199 v1220
  v1221.toNat
def k0_cond18 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_369 : BitVec 32 := 8#32
  let v530 : BitVec 1 := Scalar.cmpi .eq v2 c8_i32_369
  let v531 : BitVec 32 := Scalar.extui v530
  let c0_i32_370 : BitVec 32 := 0#32
  let v532 : BitVec 1 := Scalar.cmpi .ne v531 c0_i32_370
  v532

def k0_off27 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v1221 : Index := Scalar.indexCast v2
  let c0_1197 : Index := 0#32
  let c0_1198 : Index := 0#32
  ![v1221.toNat, 0, 0]
def k0_cond19 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c9_i32_373 : BitVec 32 := 9#32
  let v537 : BitVec 1 := Scalar.cmpi .ne v2 c9_i32_373
  let v538 : BitVec 32 := Scalar.extui v537
  let c0_i32_376 : BitVec 32 := 0#32
  let v539 : BitVec 1 := Scalar.cmpi .ne v538 c0_i32_376
  v539

def k0_off28 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off29 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1200 : BitVec 32 := 0#32
  let c0_i32_1201 : BitVec 32 := 0#32
  ![v2.toNat, 0, 0]
def k0_dev41 : Nat :=
  let c0_i32_1199 : BitVec 32 := 0#32
  let c9_i32_1197 : BitVec 32 := 9#32
  let c1_i32_1198 : BitVec 32 := 1#32
  let v1220 : BitVec 32 := Scalar.muli c9_i32_1197 c1_i32_1198
  let v1221 : BitVec 32 := Scalar.addi c0_i32_1199 v1220
  v1221.toNat
def k0_cond20 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c9_i32_377 : BitVec 32 := 9#32
  let v540 : BitVec 1 := Scalar.cmpi .eq v2 c9_i32_377
  let v541 : BitVec 32 := Scalar.extui v540
  let c0_i32_378 : BitVec 32 := 0#32
  let v542 : BitVec 1 := Scalar.cmpi .ne v541 c0_i32_378
  v542

def k0_off30 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v1221 : Index := Scalar.indexCast v2
  let c0_1197 : Index := 0#32
  let c0_1198 : Index := 0#32
  ![v1221.toNat, 0, 0]
def k0_cond21 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c10_i32_381 : BitVec 32 := 10#32
  let v547 : BitVec 1 := Scalar.cmpi .ne v2 c10_i32_381
  let v548 : BitVec 32 := Scalar.extui v547
  let c0_i32_384 : BitVec 32 := 0#32
  let v549 : BitVec 1 := Scalar.cmpi .ne v548 c0_i32_384
  v549

def k0_off31 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off32 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1200 : BitVec 32 := 0#32
  let c0_i32_1201 : BitVec 32 := 0#32
  ![v2.toNat, 0, 0]
def k0_dev42 : Nat :=
  let c0_i32_1199 : BitVec 32 := 0#32
  let c10_i32_1197 : BitVec 32 := 10#32
  let c1_i32_1198 : BitVec 32 := 1#32
  let v1220 : BitVec 32 := Scalar.muli c10_i32_1197 c1_i32_1198
  let v1221 : BitVec 32 := Scalar.addi c0_i32_1199 v1220
  v1221.toNat
def k0_cond22 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c10_i32_385 : BitVec 32 := 10#32
  let v550 : BitVec 1 := Scalar.cmpi .eq v2 c10_i32_385
  let v551 : BitVec 32 := Scalar.extui v550
  let c0_i32_386 : BitVec 32 := 0#32
  let v552 : BitVec 1 := Scalar.cmpi .ne v551 c0_i32_386
  v552

def k0_off33 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v1221 : Index := Scalar.indexCast v2
  let c0_1197 : Index := 0#32
  let c0_1198 : Index := 0#32
  ![v1221.toNat, 0, 0]
def k0_cond23 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c11_i32_389 : BitVec 32 := 11#32
  let v557 : BitVec 1 := Scalar.cmpi .ne v2 c11_i32_389
  let v558 : BitVec 32 := Scalar.extui v557
  let c0_i32_392 : BitVec 32 := 0#32
  let v559 : BitVec 1 := Scalar.cmpi .ne v558 c0_i32_392
  v559

def k0_off34 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off35 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1200 : BitVec 32 := 0#32
  let c0_i32_1201 : BitVec 32 := 0#32
  ![v2.toNat, 0, 0]
def k0_dev43 : Nat :=
  let c0_i32_1199 : BitVec 32 := 0#32
  let c11_i32_1197 : BitVec 32 := 11#32
  let c1_i32_1198 : BitVec 32 := 1#32
  let v1220 : BitVec 32 := Scalar.muli c11_i32_1197 c1_i32_1198
  let v1221 : BitVec 32 := Scalar.addi c0_i32_1199 v1220
  v1221.toNat
def k0_cond24 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c11_i32_393 : BitVec 32 := 11#32
  let v560 : BitVec 1 := Scalar.cmpi .eq v2 c11_i32_393
  let v561 : BitVec 32 := Scalar.extui v560
  let c0_i32_394 : BitVec 32 := 0#32
  let v562 : BitVec 1 := Scalar.cmpi .ne v561 c0_i32_394
  v562

def k0_off36 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v1221 : Index := Scalar.indexCast v2
  let c0_1197 : Index := 0#32
  let c0_1198 : Index := 0#32
  ![v1221.toNat, 0, 0]
def k0_cond25 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c12_i32_401 : BitVec 32 := 12#32
  let v577 : BitVec 1 := Scalar.cmpi .ne v2 c12_i32_401
  let v578 : BitVec 32 := Scalar.extui v577
  let c0_i32_404 : BitVec 32 := 0#32
  let v579 : BitVec 1 := Scalar.cmpi .ne v578 c0_i32_404
  v579

def k0_off37 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off38 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1200 : BitVec 32 := 0#32
  let c0_i32_1201 : BitVec 32 := 0#32
  ![v2.toNat, 0, 0]
def k0_dev44 : Nat :=
  let c0_i32_1199 : BitVec 32 := 0#32
  let c12_i32_1197 : BitVec 32 := 12#32
  let c1_i32_1198 : BitVec 32 := 1#32
  let v1220 : BitVec 32 := Scalar.muli c12_i32_1197 c1_i32_1198
  let v1221 : BitVec 32 := Scalar.addi c0_i32_1199 v1220
  v1221.toNat
def k0_cond26 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c12_i32_405 : BitVec 32 := 12#32
  let v580 : BitVec 1 := Scalar.cmpi .eq v2 c12_i32_405
  let v581 : BitVec 32 := Scalar.extui v580
  let c0_i32_406 : BitVec 32 := 0#32
  let v582 : BitVec 1 := Scalar.cmpi .ne v581 c0_i32_406
  v582

def k0_off39 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v1221 : Index := Scalar.indexCast v2
  let c0_1197 : Index := 0#32
  let c0_1198 : Index := 0#32
  ![v1221.toNat, 0, 0]
def k0_cond27 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c13_i32_409 : BitVec 32 := 13#32
  let v587 : BitVec 1 := Scalar.cmpi .ne v2 c13_i32_409
  let v588 : BitVec 32 := Scalar.extui v587
  let c0_i32_412 : BitVec 32 := 0#32
  let v589 : BitVec 1 := Scalar.cmpi .ne v588 c0_i32_412
  v589

def k0_off40 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off41 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1200 : BitVec 32 := 0#32
  let c0_i32_1201 : BitVec 32 := 0#32
  ![v2.toNat, 0, 0]
def k0_dev45 : Nat :=
  let c0_i32_1199 : BitVec 32 := 0#32
  let c13_i32_1197 : BitVec 32 := 13#32
  let c1_i32_1198 : BitVec 32 := 1#32
  let v1220 : BitVec 32 := Scalar.muli c13_i32_1197 c1_i32_1198
  let v1221 : BitVec 32 := Scalar.addi c0_i32_1199 v1220
  v1221.toNat
def k0_cond28 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c13_i32_413 : BitVec 32 := 13#32
  let v590 : BitVec 1 := Scalar.cmpi .eq v2 c13_i32_413
  let v591 : BitVec 32 := Scalar.extui v590
  let c0_i32_414 : BitVec 32 := 0#32
  let v592 : BitVec 1 := Scalar.cmpi .ne v591 c0_i32_414
  v592

def k0_off42 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v1221 : Index := Scalar.indexCast v2
  let c0_1197 : Index := 0#32
  let c0_1198 : Index := 0#32
  ![v1221.toNat, 0, 0]
def k0_cond29 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c14_i32_417 : BitVec 32 := 14#32
  let v597 : BitVec 1 := Scalar.cmpi .ne v2 c14_i32_417
  let v598 : BitVec 32 := Scalar.extui v597
  let c0_i32_420 : BitVec 32 := 0#32
  let v599 : BitVec 1 := Scalar.cmpi .ne v598 c0_i32_420
  v599

def k0_off43 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off44 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1200 : BitVec 32 := 0#32
  let c0_i32_1201 : BitVec 32 := 0#32
  ![v2.toNat, 0, 0]
def k0_dev46 : Nat :=
  let c0_i32_1199 : BitVec 32 := 0#32
  let c14_i32_1197 : BitVec 32 := 14#32
  let c1_i32_1198 : BitVec 32 := 1#32
  let v1220 : BitVec 32 := Scalar.muli c14_i32_1197 c1_i32_1198
  let v1221 : BitVec 32 := Scalar.addi c0_i32_1199 v1220
  v1221.toNat
def k0_cond30 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c14_i32_421 : BitVec 32 := 14#32
  let v600 : BitVec 1 := Scalar.cmpi .eq v2 c14_i32_421
  let v601 : BitVec 32 := Scalar.extui v600
  let c0_i32_422 : BitVec 32 := 0#32
  let v602 : BitVec 1 := Scalar.cmpi .ne v601 c0_i32_422
  v602

def k0_off45 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v1221 : Index := Scalar.indexCast v2
  let c0_1197 : Index := 0#32
  let c0_1198 : Index := 0#32
  ![v1221.toNat, 0, 0]
def k0_cond31 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c15_i32_425 : BitVec 32 := 15#32
  let v607 : BitVec 1 := Scalar.cmpi .ne v2 c15_i32_425
  let v608 : BitVec 32 := Scalar.extui v607
  let c0_i32_428 : BitVec 32 := 0#32
  let v609 : BitVec 1 := Scalar.cmpi .ne v608 c0_i32_428
  v609

def k0_off46 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off47 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1200 : BitVec 32 := 0#32
  let c0_i32_1201 : BitVec 32 := 0#32
  ![v2.toNat, 0, 0]
def k0_dev47 : Nat :=
  let c0_i32_1199 : BitVec 32 := 0#32
  let c15_i32_1197 : BitVec 32 := 15#32
  let c1_i32_1198 : BitVec 32 := 1#32
  let v1220 : BitVec 32 := Scalar.muli c15_i32_1197 c1_i32_1198
  let v1221 : BitVec 32 := Scalar.addi c0_i32_1199 v1220
  v1221.toNat
def k0_cond32 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c15_i32_429 : BitVec 32 := 15#32
  let v610 : BitVec 1 := Scalar.cmpi .eq v2 c15_i32_429
  let v611 : BitVec 32 := Scalar.extui v610
  let c0_i32_430 : BitVec 32 := 0#32
  let v612 : BitVec 1 := Scalar.cmpi .ne v611 c0_i32_430
  v612

def k0_off48 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v1221 : Index := Scalar.indexCast v2
  let c0_1197 : Index := 0#32
  let c0_1198 : Index := 0#32
  ![v1221.toNat, 0, 0]
def k0_cond33 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32_437 : BitVec 32 := 16#32
  let v627 : BitVec 1 := Scalar.cmpi .ne v2 c16_i32_437
  let v628 : BitVec 32 := Scalar.extui v627
  let c0_i32_440 : BitVec 32 := 0#32
  let v629 : BitVec 1 := Scalar.cmpi .ne v628 c0_i32_440
  v629

def k0_off49 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off50 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1200 : BitVec 32 := 0#32
  let c0_i32_1201 : BitVec 32 := 0#32
  ![v2.toNat, 0, 0]
def k0_dev48 : Nat :=
  let c0_i32_1199 : BitVec 32 := 0#32
  let c16_i32_1197 : BitVec 32 := 16#32
  let c1_i32_1198 : BitVec 32 := 1#32
  let v1220 : BitVec 32 := Scalar.muli c16_i32_1197 c1_i32_1198
  let v1221 : BitVec 32 := Scalar.addi c0_i32_1199 v1220
  v1221.toNat
def k0_cond34 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32_441 : BitVec 32 := 16#32
  let v630 : BitVec 1 := Scalar.cmpi .eq v2 c16_i32_441
  let v631 : BitVec 32 := Scalar.extui v630
  let c0_i32_442 : BitVec 32 := 0#32
  let v632 : BitVec 1 := Scalar.cmpi .ne v631 c0_i32_442
  v632

def k0_off51 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v1221 : Index := Scalar.indexCast v2
  let c0_1197 : Index := 0#32
  let c0_1198 : Index := 0#32
  ![v1221.toNat, 0, 0]
def k0_cond35 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c17_i32_445 : BitVec 32 := 17#32
  let v637 : BitVec 1 := Scalar.cmpi .ne v2 c17_i32_445
  let v638 : BitVec 32 := Scalar.extui v637
  let c0_i32_448 : BitVec 32 := 0#32
  let v639 : BitVec 1 := Scalar.cmpi .ne v638 c0_i32_448
  v639

def k0_off52 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off53 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1200 : BitVec 32 := 0#32
  let c0_i32_1201 : BitVec 32 := 0#32
  ![v2.toNat, 0, 0]
def k0_dev49 : Nat :=
  let c0_i32_1199 : BitVec 32 := 0#32
  let c17_i32_1197 : BitVec 32 := 17#32
  let c1_i32_1198 : BitVec 32 := 1#32
  let v1220 : BitVec 32 := Scalar.muli c17_i32_1197 c1_i32_1198
  let v1221 : BitVec 32 := Scalar.addi c0_i32_1199 v1220
  v1221.toNat
def k0_cond36 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c17_i32_449 : BitVec 32 := 17#32
  let v640 : BitVec 1 := Scalar.cmpi .eq v2 c17_i32_449
  let v641 : BitVec 32 := Scalar.extui v640
  let c0_i32_450 : BitVec 32 := 0#32
  let v642 : BitVec 1 := Scalar.cmpi .ne v641 c0_i32_450
  v642

def k0_off54 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v1221 : Index := Scalar.indexCast v2
  let c0_1197 : Index := 0#32
  let c0_1198 : Index := 0#32
  ![v1221.toNat, 0, 0]
def k0_cond37 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c18_i32_453 : BitVec 32 := 18#32
  let v647 : BitVec 1 := Scalar.cmpi .ne v2 c18_i32_453
  let v648 : BitVec 32 := Scalar.extui v647
  let c0_i32_456 : BitVec 32 := 0#32
  let v649 : BitVec 1 := Scalar.cmpi .ne v648 c0_i32_456
  v649

def k0_off55 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off56 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1200 : BitVec 32 := 0#32
  let c0_i32_1201 : BitVec 32 := 0#32
  ![v2.toNat, 0, 0]
def k0_dev50 : Nat :=
  let c0_i32_1199 : BitVec 32 := 0#32
  let c18_i32_1197 : BitVec 32 := 18#32
  let c1_i32_1198 : BitVec 32 := 1#32
  let v1220 : BitVec 32 := Scalar.muli c18_i32_1197 c1_i32_1198
  let v1221 : BitVec 32 := Scalar.addi c0_i32_1199 v1220
  v1221.toNat
def k0_cond38 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c18_i32_457 : BitVec 32 := 18#32
  let v650 : BitVec 1 := Scalar.cmpi .eq v2 c18_i32_457
  let v651 : BitVec 32 := Scalar.extui v650
  let c0_i32_458 : BitVec 32 := 0#32
  let v652 : BitVec 1 := Scalar.cmpi .ne v651 c0_i32_458
  v652

def k0_off57 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v1221 : Index := Scalar.indexCast v2
  let c0_1197 : Index := 0#32
  let c0_1198 : Index := 0#32
  ![v1221.toNat, 0, 0]
def k0_cond39 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c19_i32_461 : BitVec 32 := 19#32
  let v657 : BitVec 1 := Scalar.cmpi .ne v2 c19_i32_461
  let v658 : BitVec 32 := Scalar.extui v657
  let c0_i32_464 : BitVec 32 := 0#32
  let v659 : BitVec 1 := Scalar.cmpi .ne v658 c0_i32_464
  v659

def k0_off58 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off59 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1200 : BitVec 32 := 0#32
  let c0_i32_1201 : BitVec 32 := 0#32
  ![v2.toNat, 0, 0]
def k0_dev51 : Nat :=
  let c0_i32_1199 : BitVec 32 := 0#32
  let c19_i32_1197 : BitVec 32 := 19#32
  let c1_i32_1198 : BitVec 32 := 1#32
  let v1220 : BitVec 32 := Scalar.muli c19_i32_1197 c1_i32_1198
  let v1221 : BitVec 32 := Scalar.addi c0_i32_1199 v1220
  v1221.toNat
def k0_cond40 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c19_i32_465 : BitVec 32 := 19#32
  let v660 : BitVec 1 := Scalar.cmpi .eq v2 c19_i32_465
  let v661 : BitVec 32 := Scalar.extui v660
  let c0_i32_466 : BitVec 32 := 0#32
  let v662 : BitVec 1 := Scalar.cmpi .ne v661 c0_i32_466
  v662

def k0_off60 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v1221 : Index := Scalar.indexCast v2
  let c0_1197 : Index := 0#32
  let c0_1198 : Index := 0#32
  ![v1221.toNat, 0, 0]
def k0_cond41 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c20_i32_473 : BitVec 32 := 20#32
  let v677 : BitVec 1 := Scalar.cmpi .ne v2 c20_i32_473
  let v678 : BitVec 32 := Scalar.extui v677
  let c0_i32_476 : BitVec 32 := 0#32
  let v679 : BitVec 1 := Scalar.cmpi .ne v678 c0_i32_476
  v679

def k0_off61 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off62 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1200 : BitVec 32 := 0#32
  let c0_i32_1201 : BitVec 32 := 0#32
  ![v2.toNat, 0, 0]
def k0_dev52 : Nat :=
  let c0_i32_1199 : BitVec 32 := 0#32
  let c20_i32_1197 : BitVec 32 := 20#32
  let c1_i32_1198 : BitVec 32 := 1#32
  let v1220 : BitVec 32 := Scalar.muli c20_i32_1197 c1_i32_1198
  let v1221 : BitVec 32 := Scalar.addi c0_i32_1199 v1220
  v1221.toNat
def k0_cond42 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c20_i32_477 : BitVec 32 := 20#32
  let v680 : BitVec 1 := Scalar.cmpi .eq v2 c20_i32_477
  let v681 : BitVec 32 := Scalar.extui v680
  let c0_i32_478 : BitVec 32 := 0#32
  let v682 : BitVec 1 := Scalar.cmpi .ne v681 c0_i32_478
  v682

def k0_off63 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v1221 : Index := Scalar.indexCast v2
  let c0_1197 : Index := 0#32
  let c0_1198 : Index := 0#32
  ![v1221.toNat, 0, 0]
def k0_cond43 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c21_i32_481 : BitVec 32 := 21#32
  let v687 : BitVec 1 := Scalar.cmpi .ne v2 c21_i32_481
  let v688 : BitVec 32 := Scalar.extui v687
  let c0_i32_484 : BitVec 32 := 0#32
  let v689 : BitVec 1 := Scalar.cmpi .ne v688 c0_i32_484
  v689

def k0_off64 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off65 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1200 : BitVec 32 := 0#32
  let c0_i32_1201 : BitVec 32 := 0#32
  ![v2.toNat, 0, 0]
def k0_dev53 : Nat :=
  let c0_i32_1199 : BitVec 32 := 0#32
  let c21_i32_1197 : BitVec 32 := 21#32
  let c1_i32_1198 : BitVec 32 := 1#32
  let v1220 : BitVec 32 := Scalar.muli c21_i32_1197 c1_i32_1198
  let v1221 : BitVec 32 := Scalar.addi c0_i32_1199 v1220
  v1221.toNat
def k0_cond44 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c21_i32_485 : BitVec 32 := 21#32
  let v690 : BitVec 1 := Scalar.cmpi .eq v2 c21_i32_485
  let v691 : BitVec 32 := Scalar.extui v690
  let c0_i32_486 : BitVec 32 := 0#32
  let v692 : BitVec 1 := Scalar.cmpi .ne v691 c0_i32_486
  v692

def k0_off66 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v1221 : Index := Scalar.indexCast v2
  let c0_1197 : Index := 0#32
  let c0_1198 : Index := 0#32
  ![v1221.toNat, 0, 0]
def k0_cond45 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c22_i32_489 : BitVec 32 := 22#32
  let v697 : BitVec 1 := Scalar.cmpi .ne v2 c22_i32_489
  let v698 : BitVec 32 := Scalar.extui v697
  let c0_i32_492 : BitVec 32 := 0#32
  let v699 : BitVec 1 := Scalar.cmpi .ne v698 c0_i32_492
  v699

def k0_off67 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off68 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1200 : BitVec 32 := 0#32
  let c0_i32_1201 : BitVec 32 := 0#32
  ![v2.toNat, 0, 0]
def k0_dev54 : Nat :=
  let c0_i32_1199 : BitVec 32 := 0#32
  let c22_i32_1197 : BitVec 32 := 22#32
  let c1_i32_1198 : BitVec 32 := 1#32
  let v1220 : BitVec 32 := Scalar.muli c22_i32_1197 c1_i32_1198
  let v1221 : BitVec 32 := Scalar.addi c0_i32_1199 v1220
  v1221.toNat
def k0_cond46 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c22_i32_493 : BitVec 32 := 22#32
  let v700 : BitVec 1 := Scalar.cmpi .eq v2 c22_i32_493
  let v701 : BitVec 32 := Scalar.extui v700
  let c0_i32_494 : BitVec 32 := 0#32
  let v702 : BitVec 1 := Scalar.cmpi .ne v701 c0_i32_494
  v702

def k0_off69 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v1221 : Index := Scalar.indexCast v2
  let c0_1197 : Index := 0#32
  let c0_1198 : Index := 0#32
  ![v1221.toNat, 0, 0]
def k0_cond47 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c23_i32_497 : BitVec 32 := 23#32
  let v707 : BitVec 1 := Scalar.cmpi .ne v2 c23_i32_497
  let v708 : BitVec 32 := Scalar.extui v707
  let c0_i32_500 : BitVec 32 := 0#32
  let v709 : BitVec 1 := Scalar.cmpi .ne v708 c0_i32_500
  v709

def k0_off70 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off71 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1200 : BitVec 32 := 0#32
  let c0_i32_1201 : BitVec 32 := 0#32
  ![v2.toNat, 0, 0]
def k0_dev55 : Nat :=
  let c0_i32_1199 : BitVec 32 := 0#32
  let c23_i32_1197 : BitVec 32 := 23#32
  let c1_i32_1198 : BitVec 32 := 1#32
  let v1220 : BitVec 32 := Scalar.muli c23_i32_1197 c1_i32_1198
  let v1221 : BitVec 32 := Scalar.addi c0_i32_1199 v1220
  v1221.toNat
def k0_cond48 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c23_i32_501 : BitVec 32 := 23#32
  let v710 : BitVec 1 := Scalar.cmpi .eq v2 c23_i32_501
  let v711 : BitVec 32 := Scalar.extui v710
  let c0_i32_502 : BitVec 32 := 0#32
  let v712 : BitVec 1 := Scalar.cmpi .ne v711 c0_i32_502
  v712

def k0_off72 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v1221 : Index := Scalar.indexCast v2
  let c0_1197 : Index := 0#32
  let c0_1198 : Index := 0#32
  ![v1221.toNat, 0, 0]
def k0_cond49 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c24_i32_509 : BitVec 32 := 24#32
  let v727 : BitVec 1 := Scalar.cmpi .ne v2 c24_i32_509
  let v728 : BitVec 32 := Scalar.extui v727
  let c0_i32_512 : BitVec 32 := 0#32
  let v729 : BitVec 1 := Scalar.cmpi .ne v728 c0_i32_512
  v729

def k0_off73 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off74 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1200 : BitVec 32 := 0#32
  let c0_i32_1201 : BitVec 32 := 0#32
  ![v2.toNat, 0, 0]
def k0_dev56 : Nat :=
  let c0_i32_1199 : BitVec 32 := 0#32
  let c24_i32_1197 : BitVec 32 := 24#32
  let c1_i32_1198 : BitVec 32 := 1#32
  let v1220 : BitVec 32 := Scalar.muli c24_i32_1197 c1_i32_1198
  let v1221 : BitVec 32 := Scalar.addi c0_i32_1199 v1220
  v1221.toNat
def k0_cond50 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c24_i32_513 : BitVec 32 := 24#32
  let v730 : BitVec 1 := Scalar.cmpi .eq v2 c24_i32_513
  let v731 : BitVec 32 := Scalar.extui v730
  let c0_i32_514 : BitVec 32 := 0#32
  let v732 : BitVec 1 := Scalar.cmpi .ne v731 c0_i32_514
  v732

def k0_off75 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v1221 : Index := Scalar.indexCast v2
  let c0_1197 : Index := 0#32
  let c0_1198 : Index := 0#32
  ![v1221.toNat, 0, 0]
def k0_cond51 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c25_i32_517 : BitVec 32 := 25#32
  let v737 : BitVec 1 := Scalar.cmpi .ne v2 c25_i32_517
  let v738 : BitVec 32 := Scalar.extui v737
  let c0_i32_520 : BitVec 32 := 0#32
  let v739 : BitVec 1 := Scalar.cmpi .ne v738 c0_i32_520
  v739

def k0_off76 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off77 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1200 : BitVec 32 := 0#32
  let c0_i32_1201 : BitVec 32 := 0#32
  ![v2.toNat, 0, 0]
def k0_dev57 : Nat :=
  let c0_i32_1199 : BitVec 32 := 0#32
  let c25_i32_1197 : BitVec 32 := 25#32
  let c1_i32_1198 : BitVec 32 := 1#32
  let v1220 : BitVec 32 := Scalar.muli c25_i32_1197 c1_i32_1198
  let v1221 : BitVec 32 := Scalar.addi c0_i32_1199 v1220
  v1221.toNat
def k0_cond52 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c25_i32_521 : BitVec 32 := 25#32
  let v740 : BitVec 1 := Scalar.cmpi .eq v2 c25_i32_521
  let v741 : BitVec 32 := Scalar.extui v740
  let c0_i32_522 : BitVec 32 := 0#32
  let v742 : BitVec 1 := Scalar.cmpi .ne v741 c0_i32_522
  v742

def k0_off78 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v1221 : Index := Scalar.indexCast v2
  let c0_1197 : Index := 0#32
  let c0_1198 : Index := 0#32
  ![v1221.toNat, 0, 0]
def k0_cond53 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c26_i32_525 : BitVec 32 := 26#32
  let v747 : BitVec 1 := Scalar.cmpi .ne v2 c26_i32_525
  let v748 : BitVec 32 := Scalar.extui v747
  let c0_i32_528 : BitVec 32 := 0#32
  let v749 : BitVec 1 := Scalar.cmpi .ne v748 c0_i32_528
  v749

def k0_off79 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off80 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1200 : BitVec 32 := 0#32
  let c0_i32_1201 : BitVec 32 := 0#32
  ![v2.toNat, 0, 0]
def k0_dev58 : Nat :=
  let c0_i32_1199 : BitVec 32 := 0#32
  let c26_i32_1197 : BitVec 32 := 26#32
  let c1_i32_1198 : BitVec 32 := 1#32
  let v1220 : BitVec 32 := Scalar.muli c26_i32_1197 c1_i32_1198
  let v1221 : BitVec 32 := Scalar.addi c0_i32_1199 v1220
  v1221.toNat
def k0_cond54 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c26_i32_529 : BitVec 32 := 26#32
  let v750 : BitVec 1 := Scalar.cmpi .eq v2 c26_i32_529
  let v751 : BitVec 32 := Scalar.extui v750
  let c0_i32_530 : BitVec 32 := 0#32
  let v752 : BitVec 1 := Scalar.cmpi .ne v751 c0_i32_530
  v752

def k0_off81 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v1221 : Index := Scalar.indexCast v2
  let c0_1197 : Index := 0#32
  let c0_1198 : Index := 0#32
  ![v1221.toNat, 0, 0]
def k0_cond55 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c27_i32_533 : BitVec 32 := 27#32
  let v757 : BitVec 1 := Scalar.cmpi .ne v2 c27_i32_533
  let v758 : BitVec 32 := Scalar.extui v757
  let c0_i32_536 : BitVec 32 := 0#32
  let v759 : BitVec 1 := Scalar.cmpi .ne v758 c0_i32_536
  v759

def k0_off82 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off83 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1200 : BitVec 32 := 0#32
  let c0_i32_1201 : BitVec 32 := 0#32
  ![v2.toNat, 0, 0]
def k0_dev59 : Nat :=
  let c0_i32_1199 : BitVec 32 := 0#32
  let c27_i32_1197 : BitVec 32 := 27#32
  let c1_i32_1198 : BitVec 32 := 1#32
  let v1220 : BitVec 32 := Scalar.muli c27_i32_1197 c1_i32_1198
  let v1221 : BitVec 32 := Scalar.addi c0_i32_1199 v1220
  v1221.toNat
def k0_cond56 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c27_i32_537 : BitVec 32 := 27#32
  let v760 : BitVec 1 := Scalar.cmpi .eq v2 c27_i32_537
  let v761 : BitVec 32 := Scalar.extui v760
  let c0_i32_538 : BitVec 32 := 0#32
  let v762 : BitVec 1 := Scalar.cmpi .ne v761 c0_i32_538
  v762

def k0_off84 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v1221 : Index := Scalar.indexCast v2
  let c0_1197 : Index := 0#32
  let c0_1198 : Index := 0#32
  ![v1221.toNat, 0, 0]
def k0_cond57 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c28_i32_545 : BitVec 32 := 28#32
  let v777 : BitVec 1 := Scalar.cmpi .ne v2 c28_i32_545
  let v778 : BitVec 32 := Scalar.extui v777
  let c0_i32_548 : BitVec 32 := 0#32
  let v779 : BitVec 1 := Scalar.cmpi .ne v778 c0_i32_548
  v779

def k0_off85 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off86 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1200 : BitVec 32 := 0#32
  let c0_i32_1201 : BitVec 32 := 0#32
  ![v2.toNat, 0, 0]
def k0_dev60 : Nat :=
  let c0_i32_1199 : BitVec 32 := 0#32
  let c28_i32_1197 : BitVec 32 := 28#32
  let c1_i32_1198 : BitVec 32 := 1#32
  let v1220 : BitVec 32 := Scalar.muli c28_i32_1197 c1_i32_1198
  let v1221 : BitVec 32 := Scalar.addi c0_i32_1199 v1220
  v1221.toNat
def k0_cond58 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c28_i32_549 : BitVec 32 := 28#32
  let v780 : BitVec 1 := Scalar.cmpi .eq v2 c28_i32_549
  let v781 : BitVec 32 := Scalar.extui v780
  let c0_i32_550 : BitVec 32 := 0#32
  let v782 : BitVec 1 := Scalar.cmpi .ne v781 c0_i32_550
  v782

def k0_off87 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v1221 : Index := Scalar.indexCast v2
  let c0_1197 : Index := 0#32
  let c0_1198 : Index := 0#32
  ![v1221.toNat, 0, 0]
def k0_cond59 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c29_i32_553 : BitVec 32 := 29#32
  let v787 : BitVec 1 := Scalar.cmpi .ne v2 c29_i32_553
  let v788 : BitVec 32 := Scalar.extui v787
  let c0_i32_556 : BitVec 32 := 0#32
  let v789 : BitVec 1 := Scalar.cmpi .ne v788 c0_i32_556
  v789

def k0_off88 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off89 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1200 : BitVec 32 := 0#32
  let c0_i32_1201 : BitVec 32 := 0#32
  ![v2.toNat, 0, 0]
def k0_dev61 : Nat :=
  let c0_i32_1199 : BitVec 32 := 0#32
  let c29_i32_1197 : BitVec 32 := 29#32
  let c1_i32_1198 : BitVec 32 := 1#32
  let v1220 : BitVec 32 := Scalar.muli c29_i32_1197 c1_i32_1198
  let v1221 : BitVec 32 := Scalar.addi c0_i32_1199 v1220
  v1221.toNat
def k0_cond60 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c29_i32_557 : BitVec 32 := 29#32
  let v790 : BitVec 1 := Scalar.cmpi .eq v2 c29_i32_557
  let v791 : BitVec 32 := Scalar.extui v790
  let c0_i32_558 : BitVec 32 := 0#32
  let v792 : BitVec 1 := Scalar.cmpi .ne v791 c0_i32_558
  v792

def k0_off90 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v1221 : Index := Scalar.indexCast v2
  let c0_1197 : Index := 0#32
  let c0_1198 : Index := 0#32
  ![v1221.toNat, 0, 0]
def k0_cond61 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c30_i32_561 : BitVec 32 := 30#32
  let v797 : BitVec 1 := Scalar.cmpi .ne v2 c30_i32_561
  let v798 : BitVec 32 := Scalar.extui v797
  let c0_i32_564 : BitVec 32 := 0#32
  let v799 : BitVec 1 := Scalar.cmpi .ne v798 c0_i32_564
  v799

def k0_off91 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off92 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1200 : BitVec 32 := 0#32
  let c0_i32_1201 : BitVec 32 := 0#32
  ![v2.toNat, 0, 0]
def k0_dev62 : Nat :=
  let c0_i32_1199 : BitVec 32 := 0#32
  let c30_i32_1197 : BitVec 32 := 30#32
  let c1_i32_1198 : BitVec 32 := 1#32
  let v1220 : BitVec 32 := Scalar.muli c30_i32_1197 c1_i32_1198
  let v1221 : BitVec 32 := Scalar.addi c0_i32_1199 v1220
  v1221.toNat
def k0_cond62 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c30_i32_565 : BitVec 32 := 30#32
  let v800 : BitVec 1 := Scalar.cmpi .eq v2 c30_i32_565
  let v801 : BitVec 32 := Scalar.extui v800
  let c0_i32_566 : BitVec 32 := 0#32
  let v802 : BitVec 1 := Scalar.cmpi .ne v801 c0_i32_566
  v802

def k0_off93 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v1221 : Index := Scalar.indexCast v2
  let c0_1197 : Index := 0#32
  let c0_1198 : Index := 0#32
  ![v1221.toNat, 0, 0]
def k0_cond63 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32_569 : BitVec 32 := 31#32
  let v807 : BitVec 1 := Scalar.cmpi .ne v2 c31_i32_569
  let v808 : BitVec 32 := Scalar.extui v807
  let c0_i32_572 : BitVec 32 := 0#32
  let v809 : BitVec 1 := Scalar.cmpi .ne v808 c0_i32_572
  v809

def k0_off94 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off95 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1200 : BitVec 32 := 0#32
  let c0_i32_1201 : BitVec 32 := 0#32
  ![v2.toNat, 0, 0]
def k0_dev63 : Nat :=
  let c0_i32_1199 : BitVec 32 := 0#32
  let c31_i32_1197 : BitVec 32 := 31#32
  let c1_i32_1198 : BitVec 32 := 1#32
  let v1220 : BitVec 32 := Scalar.muli c31_i32_1197 c1_i32_1198
  let v1221 : BitVec 32 := Scalar.addi c0_i32_1199 v1220
  v1221.toNat
def k0_cond64 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32_573 : BitVec 32 := 31#32
  let v810 : BitVec 1 := Scalar.cmpi .eq v2 c31_i32_573
  let v811 : BitVec 32 := Scalar.extui v810
  let c0_i32_574 : BitVec 32 := 0#32
  let v812 : BitVec 1 := Scalar.cmpi .ne v811 c0_i32_574
  v812

def k0_off96 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v1221 : Index := Scalar.indexCast v2
  let c0_1197 : Index := 0#32
  let c0_1198 : Index := 0#32
  ![v1221.toNat, 0, 0]
def k0_cond65 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_577 : BitVec 32 := 0#32
  let v817 : BitVec 1 := Scalar.cmpi .ne v2 c0_i32_577
  let v818 : BitVec 32 := Scalar.extui v817
  let c0_i32_579 : BitVec 32 := 0#32
  let v819 : BitVec 1 := Scalar.cmpi .ne v818 c0_i32_579
  v819

def k0_off97 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off98 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1200 : BitVec 32 := 0#32
  let c0_i32_1201 : BitVec 32 := 0#32
  ![v2.toNat, 0, 0]
def k0_dev64 : Nat :=
  let c0_i32_1199 : BitVec 32 := 0#32
  let c0_i32_1197 : BitVec 32 := 0#32
  let c1_i32_1198 : BitVec 32 := 1#32
  let v1220 : BitVec 32 := Scalar.muli c0_i32_1197 c1_i32_1198
  let v1221 : BitVec 32 := Scalar.addi c0_i32_1199 v1220
  v1221.toNat
def k0_cond66 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_580 : BitVec 32 := 1#32
  let v820 : BitVec 1 := Scalar.cmpi .ne v2 c1_i32_580
  let v821 : BitVec 32 := Scalar.extui v820
  let c0_i32_582 : BitVec 32 := 0#32
  let v822 : BitVec 1 := Scalar.cmpi .ne v821 c0_i32_582
  v822

def k0_off99 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off100 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1200 : BitVec 32 := 0#32
  let c0_i32_1201 : BitVec 32 := 0#32
  ![v2.toNat, 0, 0]
def k0_dev65 : Nat :=
  let c0_i32_1199 : BitVec 32 := 0#32
  let c1_i32_1197 : BitVec 32 := 1#32
  let c1_i32_1198 : BitVec 32 := 1#32
  let v1220 : BitVec 32 := Scalar.muli c1_i32_1197 c1_i32_1198
  let v1221 : BitVec 32 := Scalar.addi c0_i32_1199 v1220
  v1221.toNat
def k0_cond67 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32_583 : BitVec 32 := 2#32
  let v823 : BitVec 1 := Scalar.cmpi .ne v2 c2_i32_583
  let v824 : BitVec 32 := Scalar.extui v823
  let c0_i32_585 : BitVec 32 := 0#32
  let v825 : BitVec 1 := Scalar.cmpi .ne v824 c0_i32_585
  v825

def k0_off101 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off102 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1200 : BitVec 32 := 0#32
  let c0_i32_1201 : BitVec 32 := 0#32
  ![v2.toNat, 0, 0]
def k0_dev66 : Nat :=
  let c0_i32_1199 : BitVec 32 := 0#32
  let c2_i32_1197 : BitVec 32 := 2#32
  let c1_i32_1198 : BitVec 32 := 1#32
  let v1220 : BitVec 32 := Scalar.muli c2_i32_1197 c1_i32_1198
  let v1221 : BitVec 32 := Scalar.addi c0_i32_1199 v1220
  v1221.toNat
def k0_cond68 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32_586 : BitVec 32 := 3#32
  let v826 : BitVec 1 := Scalar.cmpi .ne v2 c3_i32_586
  let v827 : BitVec 32 := Scalar.extui v826
  let c0_i32_588 : BitVec 32 := 0#32
  let v828 : BitVec 1 := Scalar.cmpi .ne v827 c0_i32_588
  v828

def k0_off103 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off104 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1200 : BitVec 32 := 0#32
  let c0_i32_1201 : BitVec 32 := 0#32
  ![v2.toNat, 0, 0]
def k0_dev67 : Nat :=
  let c0_i32_1199 : BitVec 32 := 0#32
  let c3_i32_1197 : BitVec 32 := 3#32
  let c1_i32_1198 : BitVec 32 := 1#32
  let v1220 : BitVec 32 := Scalar.muli c3_i32_1197 c1_i32_1198
  let v1221 : BitVec 32 := Scalar.addi c0_i32_1199 v1220
  v1221.toNat
def k0_cond69 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32_589 : BitVec 32 := 4#32
  let v829 : BitVec 1 := Scalar.cmpi .ne v2 c4_i32_589
  let v830 : BitVec 32 := Scalar.extui v829
  let c0_i32_591 : BitVec 32 := 0#32
  let v831 : BitVec 1 := Scalar.cmpi .ne v830 c0_i32_591
  v831

def k0_off105 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off106 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1200 : BitVec 32 := 0#32
  let c0_i32_1201 : BitVec 32 := 0#32
  ![v2.toNat, 0, 0]
def k0_dev68 : Nat :=
  let c0_i32_1199 : BitVec 32 := 0#32
  let c4_i32_1197 : BitVec 32 := 4#32
  let c1_i32_1198 : BitVec 32 := 1#32
  let v1220 : BitVec 32 := Scalar.muli c4_i32_1197 c1_i32_1198
  let v1221 : BitVec 32 := Scalar.addi c0_i32_1199 v1220
  v1221.toNat
def k0_cond70 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c5_i32_592 : BitVec 32 := 5#32
  let v832 : BitVec 1 := Scalar.cmpi .ne v2 c5_i32_592
  let v833 : BitVec 32 := Scalar.extui v832
  let c0_i32_594 : BitVec 32 := 0#32
  let v834 : BitVec 1 := Scalar.cmpi .ne v833 c0_i32_594
  v834

def k0_off107 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off108 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1200 : BitVec 32 := 0#32
  let c0_i32_1201 : BitVec 32 := 0#32
  ![v2.toNat, 0, 0]
def k0_dev69 : Nat :=
  let c0_i32_1199 : BitVec 32 := 0#32
  let c5_i32_1197 : BitVec 32 := 5#32
  let c1_i32_1198 : BitVec 32 := 1#32
  let v1220 : BitVec 32 := Scalar.muli c5_i32_1197 c1_i32_1198
  let v1221 : BitVec 32 := Scalar.addi c0_i32_1199 v1220
  v1221.toNat
def k0_cond71 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c6_i32_595 : BitVec 32 := 6#32
  let v835 : BitVec 1 := Scalar.cmpi .ne v2 c6_i32_595
  let v836 : BitVec 32 := Scalar.extui v835
  let c0_i32_597 : BitVec 32 := 0#32
  let v837 : BitVec 1 := Scalar.cmpi .ne v836 c0_i32_597
  v837

def k0_off109 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off110 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1200 : BitVec 32 := 0#32
  let c0_i32_1201 : BitVec 32 := 0#32
  ![v2.toNat, 0, 0]
def k0_dev70 : Nat :=
  let c0_i32_1199 : BitVec 32 := 0#32
  let c6_i32_1197 : BitVec 32 := 6#32
  let c1_i32_1198 : BitVec 32 := 1#32
  let v1220 : BitVec 32 := Scalar.muli c6_i32_1197 c1_i32_1198
  let v1221 : BitVec 32 := Scalar.addi c0_i32_1199 v1220
  v1221.toNat
def k0_cond72 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c7_i32_598 : BitVec 32 := 7#32
  let v838 : BitVec 1 := Scalar.cmpi .ne v2 c7_i32_598
  let v839 : BitVec 32 := Scalar.extui v838
  let c0_i32_600 : BitVec 32 := 0#32
  let v840 : BitVec 1 := Scalar.cmpi .ne v839 c0_i32_600
  v840

def k0_off111 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off112 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1200 : BitVec 32 := 0#32
  let c0_i32_1201 : BitVec 32 := 0#32
  ![v2.toNat, 0, 0]
def k0_dev71 : Nat :=
  let c0_i32_1199 : BitVec 32 := 0#32
  let c7_i32_1197 : BitVec 32 := 7#32
  let c1_i32_1198 : BitVec 32 := 1#32
  let v1220 : BitVec 32 := Scalar.muli c7_i32_1197 c1_i32_1198
  let v1221 : BitVec 32 := Scalar.addi c0_i32_1199 v1220
  v1221.toNat
def k0_cond73 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_601 : BitVec 32 := 8#32
  let v841 : BitVec 1 := Scalar.cmpi .ne v2 c8_i32_601
  let v842 : BitVec 32 := Scalar.extui v841
  let c0_i32_603 : BitVec 32 := 0#32
  let v843 : BitVec 1 := Scalar.cmpi .ne v842 c0_i32_603
  v843

def k0_off113 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off114 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1200 : BitVec 32 := 0#32
  let c0_i32_1201 : BitVec 32 := 0#32
  ![v2.toNat, 0, 0]
def k0_dev72 : Nat :=
  let c0_i32_1199 : BitVec 32 := 0#32
  let c8_i32_1197 : BitVec 32 := 8#32
  let c1_i32_1198 : BitVec 32 := 1#32
  let v1220 : BitVec 32 := Scalar.muli c8_i32_1197 c1_i32_1198
  let v1221 : BitVec 32 := Scalar.addi c0_i32_1199 v1220
  v1221.toNat
def k0_cond74 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c9_i32_604 : BitVec 32 := 9#32
  let v844 : BitVec 1 := Scalar.cmpi .ne v2 c9_i32_604
  let v845 : BitVec 32 := Scalar.extui v844
  let c0_i32_606 : BitVec 32 := 0#32
  let v846 : BitVec 1 := Scalar.cmpi .ne v845 c0_i32_606
  v846

def k0_off115 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off116 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1200 : BitVec 32 := 0#32
  let c0_i32_1201 : BitVec 32 := 0#32
  ![v2.toNat, 0, 0]
def k0_dev73 : Nat :=
  let c0_i32_1199 : BitVec 32 := 0#32
  let c9_i32_1197 : BitVec 32 := 9#32
  let c1_i32_1198 : BitVec 32 := 1#32
  let v1220 : BitVec 32 := Scalar.muli c9_i32_1197 c1_i32_1198
  let v1221 : BitVec 32 := Scalar.addi c0_i32_1199 v1220
  v1221.toNat
def k0_cond75 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c10_i32_607 : BitVec 32 := 10#32
  let v847 : BitVec 1 := Scalar.cmpi .ne v2 c10_i32_607
  let v848 : BitVec 32 := Scalar.extui v847
  let c0_i32_609 : BitVec 32 := 0#32
  let v849 : BitVec 1 := Scalar.cmpi .ne v848 c0_i32_609
  v849

def k0_off117 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off118 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1200 : BitVec 32 := 0#32
  let c0_i32_1201 : BitVec 32 := 0#32
  ![v2.toNat, 0, 0]
def k0_dev74 : Nat :=
  let c0_i32_1199 : BitVec 32 := 0#32
  let c10_i32_1197 : BitVec 32 := 10#32
  let c1_i32_1198 : BitVec 32 := 1#32
  let v1220 : BitVec 32 := Scalar.muli c10_i32_1197 c1_i32_1198
  let v1221 : BitVec 32 := Scalar.addi c0_i32_1199 v1220
  v1221.toNat
def k0_cond76 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c11_i32_610 : BitVec 32 := 11#32
  let v850 : BitVec 1 := Scalar.cmpi .ne v2 c11_i32_610
  let v851 : BitVec 32 := Scalar.extui v850
  let c0_i32_612 : BitVec 32 := 0#32
  let v852 : BitVec 1 := Scalar.cmpi .ne v851 c0_i32_612
  v852

def k0_off119 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off120 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1200 : BitVec 32 := 0#32
  let c0_i32_1201 : BitVec 32 := 0#32
  ![v2.toNat, 0, 0]
def k0_dev75 : Nat :=
  let c0_i32_1199 : BitVec 32 := 0#32
  let c11_i32_1197 : BitVec 32 := 11#32
  let c1_i32_1198 : BitVec 32 := 1#32
  let v1220 : BitVec 32 := Scalar.muli c11_i32_1197 c1_i32_1198
  let v1221 : BitVec 32 := Scalar.addi c0_i32_1199 v1220
  v1221.toNat
def k0_cond77 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c12_i32_613 : BitVec 32 := 12#32
  let v853 : BitVec 1 := Scalar.cmpi .ne v2 c12_i32_613
  let v854 : BitVec 32 := Scalar.extui v853
  let c0_i32_615 : BitVec 32 := 0#32
  let v855 : BitVec 1 := Scalar.cmpi .ne v854 c0_i32_615
  v855

def k0_off121 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off122 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1200 : BitVec 32 := 0#32
  let c0_i32_1201 : BitVec 32 := 0#32
  ![v2.toNat, 0, 0]
def k0_dev76 : Nat :=
  let c0_i32_1199 : BitVec 32 := 0#32
  let c12_i32_1197 : BitVec 32 := 12#32
  let c1_i32_1198 : BitVec 32 := 1#32
  let v1220 : BitVec 32 := Scalar.muli c12_i32_1197 c1_i32_1198
  let v1221 : BitVec 32 := Scalar.addi c0_i32_1199 v1220
  v1221.toNat
def k0_cond78 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c13_i32_616 : BitVec 32 := 13#32
  let v856 : BitVec 1 := Scalar.cmpi .ne v2 c13_i32_616
  let v857 : BitVec 32 := Scalar.extui v856
  let c0_i32_618 : BitVec 32 := 0#32
  let v858 : BitVec 1 := Scalar.cmpi .ne v857 c0_i32_618
  v858

def k0_off123 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off124 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1200 : BitVec 32 := 0#32
  let c0_i32_1201 : BitVec 32 := 0#32
  ![v2.toNat, 0, 0]
def k0_dev77 : Nat :=
  let c0_i32_1199 : BitVec 32 := 0#32
  let c13_i32_1197 : BitVec 32 := 13#32
  let c1_i32_1198 : BitVec 32 := 1#32
  let v1220 : BitVec 32 := Scalar.muli c13_i32_1197 c1_i32_1198
  let v1221 : BitVec 32 := Scalar.addi c0_i32_1199 v1220
  v1221.toNat
def k0_cond79 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c14_i32_619 : BitVec 32 := 14#32
  let v859 : BitVec 1 := Scalar.cmpi .ne v2 c14_i32_619
  let v860 : BitVec 32 := Scalar.extui v859
  let c0_i32_621 : BitVec 32 := 0#32
  let v861 : BitVec 1 := Scalar.cmpi .ne v860 c0_i32_621
  v861

def k0_off125 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off126 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1200 : BitVec 32 := 0#32
  let c0_i32_1201 : BitVec 32 := 0#32
  ![v2.toNat, 0, 0]
def k0_dev78 : Nat :=
  let c0_i32_1199 : BitVec 32 := 0#32
  let c14_i32_1197 : BitVec 32 := 14#32
  let c1_i32_1198 : BitVec 32 := 1#32
  let v1220 : BitVec 32 := Scalar.muli c14_i32_1197 c1_i32_1198
  let v1221 : BitVec 32 := Scalar.addi c0_i32_1199 v1220
  v1221.toNat
def k0_cond80 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c15_i32_622 : BitVec 32 := 15#32
  let v862 : BitVec 1 := Scalar.cmpi .ne v2 c15_i32_622
  let v863 : BitVec 32 := Scalar.extui v862
  let c0_i32_624 : BitVec 32 := 0#32
  let v864 : BitVec 1 := Scalar.cmpi .ne v863 c0_i32_624
  v864

def k0_off127 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off128 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1200 : BitVec 32 := 0#32
  let c0_i32_1201 : BitVec 32 := 0#32
  ![v2.toNat, 0, 0]
def k0_dev79 : Nat :=
  let c0_i32_1199 : BitVec 32 := 0#32
  let c15_i32_1197 : BitVec 32 := 15#32
  let c1_i32_1198 : BitVec 32 := 1#32
  let v1220 : BitVec 32 := Scalar.muli c15_i32_1197 c1_i32_1198
  let v1221 : BitVec 32 := Scalar.addi c0_i32_1199 v1220
  v1221.toNat
def k0_cond81 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32_625 : BitVec 32 := 16#32
  let v865 : BitVec 1 := Scalar.cmpi .ne v2 c16_i32_625
  let v866 : BitVec 32 := Scalar.extui v865
  let c0_i32_627 : BitVec 32 := 0#32
  let v867 : BitVec 1 := Scalar.cmpi .ne v866 c0_i32_627
  v867

def k0_off129 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off130 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1200 : BitVec 32 := 0#32
  let c0_i32_1201 : BitVec 32 := 0#32
  ![v2.toNat, 0, 0]
def k0_dev80 : Nat :=
  let c0_i32_1199 : BitVec 32 := 0#32
  let c16_i32_1197 : BitVec 32 := 16#32
  let c1_i32_1198 : BitVec 32 := 1#32
  let v1220 : BitVec 32 := Scalar.muli c16_i32_1197 c1_i32_1198
  let v1221 : BitVec 32 := Scalar.addi c0_i32_1199 v1220
  v1221.toNat
def k0_cond82 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c17_i32_628 : BitVec 32 := 17#32
  let v868 : BitVec 1 := Scalar.cmpi .ne v2 c17_i32_628
  let v869 : BitVec 32 := Scalar.extui v868
  let c0_i32_630 : BitVec 32 := 0#32
  let v870 : BitVec 1 := Scalar.cmpi .ne v869 c0_i32_630
  v870

def k0_off131 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off132 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1200 : BitVec 32 := 0#32
  let c0_i32_1201 : BitVec 32 := 0#32
  ![v2.toNat, 0, 0]
def k0_dev81 : Nat :=
  let c0_i32_1199 : BitVec 32 := 0#32
  let c17_i32_1197 : BitVec 32 := 17#32
  let c1_i32_1198 : BitVec 32 := 1#32
  let v1220 : BitVec 32 := Scalar.muli c17_i32_1197 c1_i32_1198
  let v1221 : BitVec 32 := Scalar.addi c0_i32_1199 v1220
  v1221.toNat
def k0_cond83 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c18_i32_631 : BitVec 32 := 18#32
  let v871 : BitVec 1 := Scalar.cmpi .ne v2 c18_i32_631
  let v872 : BitVec 32 := Scalar.extui v871
  let c0_i32_633 : BitVec 32 := 0#32
  let v873 : BitVec 1 := Scalar.cmpi .ne v872 c0_i32_633
  v873

def k0_off133 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off134 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1200 : BitVec 32 := 0#32
  let c0_i32_1201 : BitVec 32 := 0#32
  ![v2.toNat, 0, 0]
def k0_dev82 : Nat :=
  let c0_i32_1199 : BitVec 32 := 0#32
  let c18_i32_1197 : BitVec 32 := 18#32
  let c1_i32_1198 : BitVec 32 := 1#32
  let v1220 : BitVec 32 := Scalar.muli c18_i32_1197 c1_i32_1198
  let v1221 : BitVec 32 := Scalar.addi c0_i32_1199 v1220
  v1221.toNat
def k0_cond84 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c19_i32_634 : BitVec 32 := 19#32
  let v874 : BitVec 1 := Scalar.cmpi .ne v2 c19_i32_634
  let v875 : BitVec 32 := Scalar.extui v874
  let c0_i32_636 : BitVec 32 := 0#32
  let v876 : BitVec 1 := Scalar.cmpi .ne v875 c0_i32_636
  v876

def k0_off135 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off136 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1200 : BitVec 32 := 0#32
  let c0_i32_1201 : BitVec 32 := 0#32
  ![v2.toNat, 0, 0]
def k0_dev83 : Nat :=
  let c0_i32_1199 : BitVec 32 := 0#32
  let c19_i32_1197 : BitVec 32 := 19#32
  let c1_i32_1198 : BitVec 32 := 1#32
  let v1220 : BitVec 32 := Scalar.muli c19_i32_1197 c1_i32_1198
  let v1221 : BitVec 32 := Scalar.addi c0_i32_1199 v1220
  v1221.toNat
def k0_cond85 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c20_i32_637 : BitVec 32 := 20#32
  let v877 : BitVec 1 := Scalar.cmpi .ne v2 c20_i32_637
  let v878 : BitVec 32 := Scalar.extui v877
  let c0_i32_639 : BitVec 32 := 0#32
  let v879 : BitVec 1 := Scalar.cmpi .ne v878 c0_i32_639
  v879

def k0_off137 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off138 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1200 : BitVec 32 := 0#32
  let c0_i32_1201 : BitVec 32 := 0#32
  ![v2.toNat, 0, 0]
def k0_dev84 : Nat :=
  let c0_i32_1199 : BitVec 32 := 0#32
  let c20_i32_1197 : BitVec 32 := 20#32
  let c1_i32_1198 : BitVec 32 := 1#32
  let v1220 : BitVec 32 := Scalar.muli c20_i32_1197 c1_i32_1198
  let v1221 : BitVec 32 := Scalar.addi c0_i32_1199 v1220
  v1221.toNat
def k0_cond86 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c21_i32_640 : BitVec 32 := 21#32
  let v880 : BitVec 1 := Scalar.cmpi .ne v2 c21_i32_640
  let v881 : BitVec 32 := Scalar.extui v880
  let c0_i32_642 : BitVec 32 := 0#32
  let v882 : BitVec 1 := Scalar.cmpi .ne v881 c0_i32_642
  v882

def k0_off139 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off140 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1200 : BitVec 32 := 0#32
  let c0_i32_1201 : BitVec 32 := 0#32
  ![v2.toNat, 0, 0]
def k0_dev85 : Nat :=
  let c0_i32_1199 : BitVec 32 := 0#32
  let c21_i32_1197 : BitVec 32 := 21#32
  let c1_i32_1198 : BitVec 32 := 1#32
  let v1220 : BitVec 32 := Scalar.muli c21_i32_1197 c1_i32_1198
  let v1221 : BitVec 32 := Scalar.addi c0_i32_1199 v1220
  v1221.toNat
def k0_cond87 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c22_i32_643 : BitVec 32 := 22#32
  let v883 : BitVec 1 := Scalar.cmpi .ne v2 c22_i32_643
  let v884 : BitVec 32 := Scalar.extui v883
  let c0_i32_645 : BitVec 32 := 0#32
  let v885 : BitVec 1 := Scalar.cmpi .ne v884 c0_i32_645
  v885

def k0_off141 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off142 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1200 : BitVec 32 := 0#32
  let c0_i32_1201 : BitVec 32 := 0#32
  ![v2.toNat, 0, 0]
def k0_dev86 : Nat :=
  let c0_i32_1199 : BitVec 32 := 0#32
  let c22_i32_1197 : BitVec 32 := 22#32
  let c1_i32_1198 : BitVec 32 := 1#32
  let v1220 : BitVec 32 := Scalar.muli c22_i32_1197 c1_i32_1198
  let v1221 : BitVec 32 := Scalar.addi c0_i32_1199 v1220
  v1221.toNat
def k0_cond88 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c23_i32_646 : BitVec 32 := 23#32
  let v886 : BitVec 1 := Scalar.cmpi .ne v2 c23_i32_646
  let v887 : BitVec 32 := Scalar.extui v886
  let c0_i32_648 : BitVec 32 := 0#32
  let v888 : BitVec 1 := Scalar.cmpi .ne v887 c0_i32_648
  v888

def k0_off143 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off144 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1200 : BitVec 32 := 0#32
  let c0_i32_1201 : BitVec 32 := 0#32
  ![v2.toNat, 0, 0]
def k0_dev87 : Nat :=
  let c0_i32_1199 : BitVec 32 := 0#32
  let c23_i32_1197 : BitVec 32 := 23#32
  let c1_i32_1198 : BitVec 32 := 1#32
  let v1220 : BitVec 32 := Scalar.muli c23_i32_1197 c1_i32_1198
  let v1221 : BitVec 32 := Scalar.addi c0_i32_1199 v1220
  v1221.toNat
def k0_cond89 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c24_i32_649 : BitVec 32 := 24#32
  let v889 : BitVec 1 := Scalar.cmpi .ne v2 c24_i32_649
  let v890 : BitVec 32 := Scalar.extui v889
  let c0_i32_651 : BitVec 32 := 0#32
  let v891 : BitVec 1 := Scalar.cmpi .ne v890 c0_i32_651
  v891

def k0_off145 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off146 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1200 : BitVec 32 := 0#32
  let c0_i32_1201 : BitVec 32 := 0#32
  ![v2.toNat, 0, 0]
def k0_dev88 : Nat :=
  let c0_i32_1199 : BitVec 32 := 0#32
  let c24_i32_1197 : BitVec 32 := 24#32
  let c1_i32_1198 : BitVec 32 := 1#32
  let v1220 : BitVec 32 := Scalar.muli c24_i32_1197 c1_i32_1198
  let v1221 : BitVec 32 := Scalar.addi c0_i32_1199 v1220
  v1221.toNat
def k0_cond90 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c25_i32_652 : BitVec 32 := 25#32
  let v892 : BitVec 1 := Scalar.cmpi .ne v2 c25_i32_652
  let v893 : BitVec 32 := Scalar.extui v892
  let c0_i32_654 : BitVec 32 := 0#32
  let v894 : BitVec 1 := Scalar.cmpi .ne v893 c0_i32_654
  v894

def k0_off147 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off148 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1200 : BitVec 32 := 0#32
  let c0_i32_1201 : BitVec 32 := 0#32
  ![v2.toNat, 0, 0]
def k0_dev89 : Nat :=
  let c0_i32_1199 : BitVec 32 := 0#32
  let c25_i32_1197 : BitVec 32 := 25#32
  let c1_i32_1198 : BitVec 32 := 1#32
  let v1220 : BitVec 32 := Scalar.muli c25_i32_1197 c1_i32_1198
  let v1221 : BitVec 32 := Scalar.addi c0_i32_1199 v1220
  v1221.toNat
def k0_cond91 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c26_i32_655 : BitVec 32 := 26#32
  let v895 : BitVec 1 := Scalar.cmpi .ne v2 c26_i32_655
  let v896 : BitVec 32 := Scalar.extui v895
  let c0_i32_657 : BitVec 32 := 0#32
  let v897 : BitVec 1 := Scalar.cmpi .ne v896 c0_i32_657
  v897

def k0_off149 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off150 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1200 : BitVec 32 := 0#32
  let c0_i32_1201 : BitVec 32 := 0#32
  ![v2.toNat, 0, 0]
def k0_dev90 : Nat :=
  let c0_i32_1199 : BitVec 32 := 0#32
  let c26_i32_1197 : BitVec 32 := 26#32
  let c1_i32_1198 : BitVec 32 := 1#32
  let v1220 : BitVec 32 := Scalar.muli c26_i32_1197 c1_i32_1198
  let v1221 : BitVec 32 := Scalar.addi c0_i32_1199 v1220
  v1221.toNat
def k0_cond92 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c27_i32_658 : BitVec 32 := 27#32
  let v898 : BitVec 1 := Scalar.cmpi .ne v2 c27_i32_658
  let v899 : BitVec 32 := Scalar.extui v898
  let c0_i32_660 : BitVec 32 := 0#32
  let v900 : BitVec 1 := Scalar.cmpi .ne v899 c0_i32_660
  v900

def k0_off151 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off152 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1200 : BitVec 32 := 0#32
  let c0_i32_1201 : BitVec 32 := 0#32
  ![v2.toNat, 0, 0]
def k0_dev91 : Nat :=
  let c0_i32_1199 : BitVec 32 := 0#32
  let c27_i32_1197 : BitVec 32 := 27#32
  let c1_i32_1198 : BitVec 32 := 1#32
  let v1220 : BitVec 32 := Scalar.muli c27_i32_1197 c1_i32_1198
  let v1221 : BitVec 32 := Scalar.addi c0_i32_1199 v1220
  v1221.toNat
def k0_cond93 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c28_i32_661 : BitVec 32 := 28#32
  let v901 : BitVec 1 := Scalar.cmpi .ne v2 c28_i32_661
  let v902 : BitVec 32 := Scalar.extui v901
  let c0_i32_663 : BitVec 32 := 0#32
  let v903 : BitVec 1 := Scalar.cmpi .ne v902 c0_i32_663
  v903

def k0_off153 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off154 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1200 : BitVec 32 := 0#32
  let c0_i32_1201 : BitVec 32 := 0#32
  ![v2.toNat, 0, 0]
def k0_dev92 : Nat :=
  let c0_i32_1199 : BitVec 32 := 0#32
  let c28_i32_1197 : BitVec 32 := 28#32
  let c1_i32_1198 : BitVec 32 := 1#32
  let v1220 : BitVec 32 := Scalar.muli c28_i32_1197 c1_i32_1198
  let v1221 : BitVec 32 := Scalar.addi c0_i32_1199 v1220
  v1221.toNat
def k0_cond94 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c29_i32_664 : BitVec 32 := 29#32
  let v904 : BitVec 1 := Scalar.cmpi .ne v2 c29_i32_664
  let v905 : BitVec 32 := Scalar.extui v904
  let c0_i32_666 : BitVec 32 := 0#32
  let v906 : BitVec 1 := Scalar.cmpi .ne v905 c0_i32_666
  v906

def k0_off155 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off156 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1200 : BitVec 32 := 0#32
  let c0_i32_1201 : BitVec 32 := 0#32
  ![v2.toNat, 0, 0]
def k0_dev93 : Nat :=
  let c0_i32_1199 : BitVec 32 := 0#32
  let c29_i32_1197 : BitVec 32 := 29#32
  let c1_i32_1198 : BitVec 32 := 1#32
  let v1220 : BitVec 32 := Scalar.muli c29_i32_1197 c1_i32_1198
  let v1221 : BitVec 32 := Scalar.addi c0_i32_1199 v1220
  v1221.toNat
def k0_cond95 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c30_i32_667 : BitVec 32 := 30#32
  let v907 : BitVec 1 := Scalar.cmpi .ne v2 c30_i32_667
  let v908 : BitVec 32 := Scalar.extui v907
  let c0_i32_669 : BitVec 32 := 0#32
  let v909 : BitVec 1 := Scalar.cmpi .ne v908 c0_i32_669
  v909

def k0_off157 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off158 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1200 : BitVec 32 := 0#32
  let c0_i32_1201 : BitVec 32 := 0#32
  ![v2.toNat, 0, 0]
def k0_dev94 : Nat :=
  let c0_i32_1199 : BitVec 32 := 0#32
  let c30_i32_1197 : BitVec 32 := 30#32
  let c1_i32_1198 : BitVec 32 := 1#32
  let v1220 : BitVec 32 := Scalar.muli c30_i32_1197 c1_i32_1198
  let v1221 : BitVec 32 := Scalar.addi c0_i32_1199 v1220
  v1221.toNat
def k0_cond96 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32_670 : BitVec 32 := 31#32
  let v910 : BitVec 1 := Scalar.cmpi .ne v2 c31_i32_670
  let v911 : BitVec 32 := Scalar.extui v910
  let c0_i32_672 : BitVec 32 := 0#32
  let v912 : BitVec 1 := Scalar.cmpi .ne v911 c0_i32_672
  v912

def k0_off159 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off160 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1200 : BitVec 32 := 0#32
  let c0_i32_1201 : BitVec 32 := 0#32
  ![v2.toNat, 0, 0]
def k0_dev95 : Nat :=
  let c0_i32_1199 : BitVec 32 := 0#32
  let c31_i32_1197 : BitVec 32 := 31#32
  let c1_i32_1198 : BitVec 32 := 1#32
  let v1220 : BitVec 32 := Scalar.muli c31_i32_1197 c1_i32_1198
  let v1221 : BitVec 32 := Scalar.addi c0_i32_1199 v1220
  v1221.toNat
def k0_cond129 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_973 : BitVec 32 := 0#32
  let v1028 : BitVec 1 := Scalar.cmpi .ne v2 c0_i32_973
  let v1029 : BitVec 32 := Scalar.extui v1028
  let c0_i32_976 : BitVec 32 := 0#32
  let v1030 : BitVec 1 := Scalar.cmpi .ne v1029 c0_i32_976
  v1030

def k0_off161 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1201 : BitVec 32 := 0#32
  let c0_i32_1202 : BitVec 32 := 0#32
  ![v2.toNat, 0, 0]
def k0_cond130 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_977 : BitVec 32 := 1#32
  let v1031 : BitVec 1 := Scalar.cmpi .ne v2 c1_i32_977
  let v1032 : BitVec 32 := Scalar.extui v1031
  let c0_i32_980 : BitVec 32 := 0#32
  let v1033 : BitVec 1 := Scalar.cmpi .ne v1032 c0_i32_980
  v1033

def k0_off162 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1201 : BitVec 32 := 0#32
  let c0_i32_1202 : BitVec 32 := 0#32
  ![v2.toNat, 0, 0]
def k0_cond131 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32_981 : BitVec 32 := 2#32
  let v1034 : BitVec 1 := Scalar.cmpi .ne v2 c2_i32_981
  let v1035 : BitVec 32 := Scalar.extui v1034
  let c0_i32_984 : BitVec 32 := 0#32
  let v1036 : BitVec 1 := Scalar.cmpi .ne v1035 c0_i32_984
  v1036

def k0_off163 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1201 : BitVec 32 := 0#32
  let c0_i32_1202 : BitVec 32 := 0#32
  ![v2.toNat, 0, 0]
def k0_cond132 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32_985 : BitVec 32 := 3#32
  let v1037 : BitVec 1 := Scalar.cmpi .ne v2 c3_i32_985
  let v1038 : BitVec 32 := Scalar.extui v1037
  let c0_i32_988 : BitVec 32 := 0#32
  let v1039 : BitVec 1 := Scalar.cmpi .ne v1038 c0_i32_988
  v1039

def k0_off164 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1201 : BitVec 32 := 0#32
  let c0_i32_1202 : BitVec 32 := 0#32
  ![v2.toNat, 0, 0]
def k0_cond133 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32_989 : BitVec 32 := 4#32
  let v1040 : BitVec 1 := Scalar.cmpi .ne v2 c4_i32_989
  let v1041 : BitVec 32 := Scalar.extui v1040
  let c0_i32_992 : BitVec 32 := 0#32
  let v1042 : BitVec 1 := Scalar.cmpi .ne v1041 c0_i32_992
  v1042

def k0_off165 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1201 : BitVec 32 := 0#32
  let c0_i32_1202 : BitVec 32 := 0#32
  ![v2.toNat, 0, 0]
def k0_cond134 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c5_i32_993 : BitVec 32 := 5#32
  let v1043 : BitVec 1 := Scalar.cmpi .ne v2 c5_i32_993
  let v1044 : BitVec 32 := Scalar.extui v1043
  let c0_i32_996 : BitVec 32 := 0#32
  let v1045 : BitVec 1 := Scalar.cmpi .ne v1044 c0_i32_996
  v1045

def k0_off166 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1201 : BitVec 32 := 0#32
  let c0_i32_1202 : BitVec 32 := 0#32
  ![v2.toNat, 0, 0]
def k0_cond135 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c6_i32_997 : BitVec 32 := 6#32
  let v1046 : BitVec 1 := Scalar.cmpi .ne v2 c6_i32_997
  let v1047 : BitVec 32 := Scalar.extui v1046
  let c0_i32_1000 : BitVec 32 := 0#32
  let v1048 : BitVec 1 := Scalar.cmpi .ne v1047 c0_i32_1000
  v1048

def k0_off167 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1201 : BitVec 32 := 0#32
  let c0_i32_1202 : BitVec 32 := 0#32
  ![v2.toNat, 0, 0]
def k0_cond136 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c7_i32_1001 : BitVec 32 := 7#32
  let v1049 : BitVec 1 := Scalar.cmpi .ne v2 c7_i32_1001
  let v1050 : BitVec 32 := Scalar.extui v1049
  let c0_i32_1004 : BitVec 32 := 0#32
  let v1051 : BitVec 1 := Scalar.cmpi .ne v1050 c0_i32_1004
  v1051

def k0_off168 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1201 : BitVec 32 := 0#32
  let c0_i32_1202 : BitVec 32 := 0#32
  ![v2.toNat, 0, 0]
def k0_cond137 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_1005 : BitVec 32 := 8#32
  let v1052 : BitVec 1 := Scalar.cmpi .ne v2 c8_i32_1005
  let v1053 : BitVec 32 := Scalar.extui v1052
  let c0_i32_1008 : BitVec 32 := 0#32
  let v1054 : BitVec 1 := Scalar.cmpi .ne v1053 c0_i32_1008
  v1054

def k0_off169 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1201 : BitVec 32 := 0#32
  let c0_i32_1202 : BitVec 32 := 0#32
  ![v2.toNat, 0, 0]
def k0_cond138 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c9_i32_1009 : BitVec 32 := 9#32
  let v1055 : BitVec 1 := Scalar.cmpi .ne v2 c9_i32_1009
  let v1056 : BitVec 32 := Scalar.extui v1055
  let c0_i32_1012 : BitVec 32 := 0#32
  let v1057 : BitVec 1 := Scalar.cmpi .ne v1056 c0_i32_1012
  v1057

def k0_off170 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1201 : BitVec 32 := 0#32
  let c0_i32_1202 : BitVec 32 := 0#32
  ![v2.toNat, 0, 0]
def k0_cond139 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c10_i32_1013 : BitVec 32 := 10#32
  let v1058 : BitVec 1 := Scalar.cmpi .ne v2 c10_i32_1013
  let v1059 : BitVec 32 := Scalar.extui v1058
  let c0_i32_1016 : BitVec 32 := 0#32
  let v1060 : BitVec 1 := Scalar.cmpi .ne v1059 c0_i32_1016
  v1060

def k0_off171 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1201 : BitVec 32 := 0#32
  let c0_i32_1202 : BitVec 32 := 0#32
  ![v2.toNat, 0, 0]
def k0_cond140 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c11_i32_1017 : BitVec 32 := 11#32
  let v1061 : BitVec 1 := Scalar.cmpi .ne v2 c11_i32_1017
  let v1062 : BitVec 32 := Scalar.extui v1061
  let c0_i32_1020 : BitVec 32 := 0#32
  let v1063 : BitVec 1 := Scalar.cmpi .ne v1062 c0_i32_1020
  v1063

def k0_off172 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1201 : BitVec 32 := 0#32
  let c0_i32_1202 : BitVec 32 := 0#32
  ![v2.toNat, 0, 0]
def k0_cond141 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c12_i32_1021 : BitVec 32 := 12#32
  let v1064 : BitVec 1 := Scalar.cmpi .ne v2 c12_i32_1021
  let v1065 : BitVec 32 := Scalar.extui v1064
  let c0_i32_1024 : BitVec 32 := 0#32
  let v1066 : BitVec 1 := Scalar.cmpi .ne v1065 c0_i32_1024
  v1066

def k0_off173 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1201 : BitVec 32 := 0#32
  let c0_i32_1202 : BitVec 32 := 0#32
  ![v2.toNat, 0, 0]
def k0_cond142 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c13_i32_1025 : BitVec 32 := 13#32
  let v1067 : BitVec 1 := Scalar.cmpi .ne v2 c13_i32_1025
  let v1068 : BitVec 32 := Scalar.extui v1067
  let c0_i32_1028 : BitVec 32 := 0#32
  let v1069 : BitVec 1 := Scalar.cmpi .ne v1068 c0_i32_1028
  v1069

def k0_off174 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1201 : BitVec 32 := 0#32
  let c0_i32_1202 : BitVec 32 := 0#32
  ![v2.toNat, 0, 0]
def k0_cond143 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c14_i32_1029 : BitVec 32 := 14#32
  let v1070 : BitVec 1 := Scalar.cmpi .ne v2 c14_i32_1029
  let v1071 : BitVec 32 := Scalar.extui v1070
  let c0_i32_1032 : BitVec 32 := 0#32
  let v1072 : BitVec 1 := Scalar.cmpi .ne v1071 c0_i32_1032
  v1072

def k0_off175 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1201 : BitVec 32 := 0#32
  let c0_i32_1202 : BitVec 32 := 0#32
  ![v2.toNat, 0, 0]
def k0_cond144 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c15_i32_1033 : BitVec 32 := 15#32
  let v1073 : BitVec 1 := Scalar.cmpi .ne v2 c15_i32_1033
  let v1074 : BitVec 32 := Scalar.extui v1073
  let c0_i32_1036 : BitVec 32 := 0#32
  let v1075 : BitVec 1 := Scalar.cmpi .ne v1074 c0_i32_1036
  v1075

def k0_off176 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1201 : BitVec 32 := 0#32
  let c0_i32_1202 : BitVec 32 := 0#32
  ![v2.toNat, 0, 0]
def k0_cond145 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32_1037 : BitVec 32 := 16#32
  let v1076 : BitVec 1 := Scalar.cmpi .ne v2 c16_i32_1037
  let v1077 : BitVec 32 := Scalar.extui v1076
  let c0_i32_1040 : BitVec 32 := 0#32
  let v1078 : BitVec 1 := Scalar.cmpi .ne v1077 c0_i32_1040
  v1078

def k0_off177 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1201 : BitVec 32 := 0#32
  let c0_i32_1202 : BitVec 32 := 0#32
  ![v2.toNat, 0, 0]
def k0_cond146 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c17_i32_1041 : BitVec 32 := 17#32
  let v1079 : BitVec 1 := Scalar.cmpi .ne v2 c17_i32_1041
  let v1080 : BitVec 32 := Scalar.extui v1079
  let c0_i32_1044 : BitVec 32 := 0#32
  let v1081 : BitVec 1 := Scalar.cmpi .ne v1080 c0_i32_1044
  v1081

def k0_off178 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1201 : BitVec 32 := 0#32
  let c0_i32_1202 : BitVec 32 := 0#32
  ![v2.toNat, 0, 0]
def k0_cond147 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c18_i32_1045 : BitVec 32 := 18#32
  let v1082 : BitVec 1 := Scalar.cmpi .ne v2 c18_i32_1045
  let v1083 : BitVec 32 := Scalar.extui v1082
  let c0_i32_1048 : BitVec 32 := 0#32
  let v1084 : BitVec 1 := Scalar.cmpi .ne v1083 c0_i32_1048
  v1084

def k0_off179 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1201 : BitVec 32 := 0#32
  let c0_i32_1202 : BitVec 32 := 0#32
  ![v2.toNat, 0, 0]
def k0_cond148 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c19_i32_1049 : BitVec 32 := 19#32
  let v1085 : BitVec 1 := Scalar.cmpi .ne v2 c19_i32_1049
  let v1086 : BitVec 32 := Scalar.extui v1085
  let c0_i32_1052 : BitVec 32 := 0#32
  let v1087 : BitVec 1 := Scalar.cmpi .ne v1086 c0_i32_1052
  v1087

def k0_off180 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1201 : BitVec 32 := 0#32
  let c0_i32_1202 : BitVec 32 := 0#32
  ![v2.toNat, 0, 0]
def k0_cond149 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c20_i32_1053 : BitVec 32 := 20#32
  let v1088 : BitVec 1 := Scalar.cmpi .ne v2 c20_i32_1053
  let v1089 : BitVec 32 := Scalar.extui v1088
  let c0_i32_1056 : BitVec 32 := 0#32
  let v1090 : BitVec 1 := Scalar.cmpi .ne v1089 c0_i32_1056
  v1090

def k0_off181 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1201 : BitVec 32 := 0#32
  let c0_i32_1202 : BitVec 32 := 0#32
  ![v2.toNat, 0, 0]
def k0_cond150 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c21_i32_1057 : BitVec 32 := 21#32
  let v1091 : BitVec 1 := Scalar.cmpi .ne v2 c21_i32_1057
  let v1092 : BitVec 32 := Scalar.extui v1091
  let c0_i32_1060 : BitVec 32 := 0#32
  let v1093 : BitVec 1 := Scalar.cmpi .ne v1092 c0_i32_1060
  v1093

def k0_off182 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1201 : BitVec 32 := 0#32
  let c0_i32_1202 : BitVec 32 := 0#32
  ![v2.toNat, 0, 0]
def k0_cond151 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c22_i32_1061 : BitVec 32 := 22#32
  let v1094 : BitVec 1 := Scalar.cmpi .ne v2 c22_i32_1061
  let v1095 : BitVec 32 := Scalar.extui v1094
  let c0_i32_1064 : BitVec 32 := 0#32
  let v1096 : BitVec 1 := Scalar.cmpi .ne v1095 c0_i32_1064
  v1096

def k0_off183 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1201 : BitVec 32 := 0#32
  let c0_i32_1202 : BitVec 32 := 0#32
  ![v2.toNat, 0, 0]
def k0_cond152 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c23_i32_1065 : BitVec 32 := 23#32
  let v1097 : BitVec 1 := Scalar.cmpi .ne v2 c23_i32_1065
  let v1098 : BitVec 32 := Scalar.extui v1097
  let c0_i32_1068 : BitVec 32 := 0#32
  let v1099 : BitVec 1 := Scalar.cmpi .ne v1098 c0_i32_1068
  v1099

def k0_off184 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1201 : BitVec 32 := 0#32
  let c0_i32_1202 : BitVec 32 := 0#32
  ![v2.toNat, 0, 0]
def k0_cond153 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c24_i32_1069 : BitVec 32 := 24#32
  let v1100 : BitVec 1 := Scalar.cmpi .ne v2 c24_i32_1069
  let v1101 : BitVec 32 := Scalar.extui v1100
  let c0_i32_1072 : BitVec 32 := 0#32
  let v1102 : BitVec 1 := Scalar.cmpi .ne v1101 c0_i32_1072
  v1102

def k0_off185 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1201 : BitVec 32 := 0#32
  let c0_i32_1202 : BitVec 32 := 0#32
  ![v2.toNat, 0, 0]
def k0_cond154 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c25_i32_1073 : BitVec 32 := 25#32
  let v1103 : BitVec 1 := Scalar.cmpi .ne v2 c25_i32_1073
  let v1104 : BitVec 32 := Scalar.extui v1103
  let c0_i32_1076 : BitVec 32 := 0#32
  let v1105 : BitVec 1 := Scalar.cmpi .ne v1104 c0_i32_1076
  v1105

def k0_off186 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1201 : BitVec 32 := 0#32
  let c0_i32_1202 : BitVec 32 := 0#32
  ![v2.toNat, 0, 0]
def k0_cond155 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c26_i32_1077 : BitVec 32 := 26#32
  let v1106 : BitVec 1 := Scalar.cmpi .ne v2 c26_i32_1077
  let v1107 : BitVec 32 := Scalar.extui v1106
  let c0_i32_1080 : BitVec 32 := 0#32
  let v1108 : BitVec 1 := Scalar.cmpi .ne v1107 c0_i32_1080
  v1108

def k0_off187 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1201 : BitVec 32 := 0#32
  let c0_i32_1202 : BitVec 32 := 0#32
  ![v2.toNat, 0, 0]
def k0_cond156 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c27_i32_1081 : BitVec 32 := 27#32
  let v1109 : BitVec 1 := Scalar.cmpi .ne v2 c27_i32_1081
  let v1110 : BitVec 32 := Scalar.extui v1109
  let c0_i32_1084 : BitVec 32 := 0#32
  let v1111 : BitVec 1 := Scalar.cmpi .ne v1110 c0_i32_1084
  v1111

def k0_off188 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1201 : BitVec 32 := 0#32
  let c0_i32_1202 : BitVec 32 := 0#32
  ![v2.toNat, 0, 0]
def k0_cond157 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c28_i32_1085 : BitVec 32 := 28#32
  let v1112 : BitVec 1 := Scalar.cmpi .ne v2 c28_i32_1085
  let v1113 : BitVec 32 := Scalar.extui v1112
  let c0_i32_1088 : BitVec 32 := 0#32
  let v1114 : BitVec 1 := Scalar.cmpi .ne v1113 c0_i32_1088
  v1114

def k0_off189 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1201 : BitVec 32 := 0#32
  let c0_i32_1202 : BitVec 32 := 0#32
  ![v2.toNat, 0, 0]
def k0_cond158 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c29_i32_1089 : BitVec 32 := 29#32
  let v1115 : BitVec 1 := Scalar.cmpi .ne v2 c29_i32_1089
  let v1116 : BitVec 32 := Scalar.extui v1115
  let c0_i32_1092 : BitVec 32 := 0#32
  let v1117 : BitVec 1 := Scalar.cmpi .ne v1116 c0_i32_1092
  v1117

def k0_off190 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1201 : BitVec 32 := 0#32
  let c0_i32_1202 : BitVec 32 := 0#32
  ![v2.toNat, 0, 0]
def k0_cond159 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c30_i32_1093 : BitVec 32 := 30#32
  let v1118 : BitVec 1 := Scalar.cmpi .ne v2 c30_i32_1093
  let v1119 : BitVec 32 := Scalar.extui v1118
  let c0_i32_1096 : BitVec 32 := 0#32
  let v1120 : BitVec 1 := Scalar.cmpi .ne v1119 c0_i32_1096
  v1120

def k0_off191 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1201 : BitVec 32 := 0#32
  let c0_i32_1202 : BitVec 32 := 0#32
  ![v2.toNat, 0, 0]
def k0_cond160 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32_1097 : BitVec 32 := 31#32
  let v1121 : BitVec 1 := Scalar.cmpi .ne v2 c31_i32_1097
  let v1122 : BitVec 32 := Scalar.extui v1121
  let c0_i32_1100 : BitVec 32 := 0#32
  let v1123 : BitVec 1 := Scalar.cmpi .ne v1122 c0_i32_1100
  v1123

def k0_off192 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1201 : BitVec 32 := 0#32
  let c0_i32_1202 : BitVec 32 := 0#32
  ![v2.toNat, 0, 0]
def k0_cond161 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1101 : BitVec 32 := 0#32
  let v1124 : BitVec 1 := Scalar.cmpi .ne v2 c0_i32_1101
  let v1125 : BitVec 32 := Scalar.extui v1124
  let c0_i32_1103 : BitVec 32 := 0#32
  let v1126 : BitVec 1 := Scalar.cmpi .ne v1125 c0_i32_1103
  v1126

def k0_off193 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1199 : BitVec 32 := 0#32
  let c0_i32_1200 : BitVec 32 := 0#32
  ![v2.toNat, 0, 0]
def k0_cond162 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_1104 : BitVec 32 := 1#32
  let v1127 : BitVec 1 := Scalar.cmpi .ne v2 c1_i32_1104
  let v1128 : BitVec 32 := Scalar.extui v1127
  let c0_i32_1106 : BitVec 32 := 0#32
  let v1129 : BitVec 1 := Scalar.cmpi .ne v1128 c0_i32_1106
  v1129

def k0_off194 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1199 : BitVec 32 := 0#32
  let c0_i32_1200 : BitVec 32 := 0#32
  ![v2.toNat, 0, 0]
def k0_cond163 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32_1107 : BitVec 32 := 2#32
  let v1130 : BitVec 1 := Scalar.cmpi .ne v2 c2_i32_1107
  let v1131 : BitVec 32 := Scalar.extui v1130
  let c0_i32_1109 : BitVec 32 := 0#32
  let v1132 : BitVec 1 := Scalar.cmpi .ne v1131 c0_i32_1109
  v1132

def k0_off195 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1199 : BitVec 32 := 0#32
  let c0_i32_1200 : BitVec 32 := 0#32
  ![v2.toNat, 0, 0]
def k0_cond164 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32_1110 : BitVec 32 := 3#32
  let v1133 : BitVec 1 := Scalar.cmpi .ne v2 c3_i32_1110
  let v1134 : BitVec 32 := Scalar.extui v1133
  let c0_i32_1112 : BitVec 32 := 0#32
  let v1135 : BitVec 1 := Scalar.cmpi .ne v1134 c0_i32_1112
  v1135

def k0_off196 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1199 : BitVec 32 := 0#32
  let c0_i32_1200 : BitVec 32 := 0#32
  ![v2.toNat, 0, 0]
def k0_cond165 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32_1113 : BitVec 32 := 4#32
  let v1136 : BitVec 1 := Scalar.cmpi .ne v2 c4_i32_1113
  let v1137 : BitVec 32 := Scalar.extui v1136
  let c0_i32_1115 : BitVec 32 := 0#32
  let v1138 : BitVec 1 := Scalar.cmpi .ne v1137 c0_i32_1115
  v1138

def k0_off197 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1199 : BitVec 32 := 0#32
  let c0_i32_1200 : BitVec 32 := 0#32
  ![v2.toNat, 0, 0]
def k0_cond166 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c5_i32_1116 : BitVec 32 := 5#32
  let v1139 : BitVec 1 := Scalar.cmpi .ne v2 c5_i32_1116
  let v1140 : BitVec 32 := Scalar.extui v1139
  let c0_i32_1118 : BitVec 32 := 0#32
  let v1141 : BitVec 1 := Scalar.cmpi .ne v1140 c0_i32_1118
  v1141

def k0_off198 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1199 : BitVec 32 := 0#32
  let c0_i32_1200 : BitVec 32 := 0#32
  ![v2.toNat, 0, 0]
def k0_cond167 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c6_i32_1119 : BitVec 32 := 6#32
  let v1142 : BitVec 1 := Scalar.cmpi .ne v2 c6_i32_1119
  let v1143 : BitVec 32 := Scalar.extui v1142
  let c0_i32_1121 : BitVec 32 := 0#32
  let v1144 : BitVec 1 := Scalar.cmpi .ne v1143 c0_i32_1121
  v1144

def k0_off199 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1199 : BitVec 32 := 0#32
  let c0_i32_1200 : BitVec 32 := 0#32
  ![v2.toNat, 0, 0]
def k0_cond168 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c7_i32_1122 : BitVec 32 := 7#32
  let v1145 : BitVec 1 := Scalar.cmpi .ne v2 c7_i32_1122
  let v1146 : BitVec 32 := Scalar.extui v1145
  let c0_i32_1124 : BitVec 32 := 0#32
  let v1147 : BitVec 1 := Scalar.cmpi .ne v1146 c0_i32_1124
  v1147

def k0_off200 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1199 : BitVec 32 := 0#32
  let c0_i32_1200 : BitVec 32 := 0#32
  ![v2.toNat, 0, 0]
def k0_cond169 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_1125 : BitVec 32 := 8#32
  let v1148 : BitVec 1 := Scalar.cmpi .ne v2 c8_i32_1125
  let v1149 : BitVec 32 := Scalar.extui v1148
  let c0_i32_1127 : BitVec 32 := 0#32
  let v1150 : BitVec 1 := Scalar.cmpi .ne v1149 c0_i32_1127
  v1150

def k0_off201 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1199 : BitVec 32 := 0#32
  let c0_i32_1200 : BitVec 32 := 0#32
  ![v2.toNat, 0, 0]
def k0_cond170 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c9_i32_1128 : BitVec 32 := 9#32
  let v1151 : BitVec 1 := Scalar.cmpi .ne v2 c9_i32_1128
  let v1152 : BitVec 32 := Scalar.extui v1151
  let c0_i32_1130 : BitVec 32 := 0#32
  let v1153 : BitVec 1 := Scalar.cmpi .ne v1152 c0_i32_1130
  v1153

def k0_off202 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1199 : BitVec 32 := 0#32
  let c0_i32_1200 : BitVec 32 := 0#32
  ![v2.toNat, 0, 0]
def k0_cond171 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c10_i32_1131 : BitVec 32 := 10#32
  let v1154 : BitVec 1 := Scalar.cmpi .ne v2 c10_i32_1131
  let v1155 : BitVec 32 := Scalar.extui v1154
  let c0_i32_1133 : BitVec 32 := 0#32
  let v1156 : BitVec 1 := Scalar.cmpi .ne v1155 c0_i32_1133
  v1156

def k0_off203 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1199 : BitVec 32 := 0#32
  let c0_i32_1200 : BitVec 32 := 0#32
  ![v2.toNat, 0, 0]
def k0_cond172 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c11_i32_1134 : BitVec 32 := 11#32
  let v1157 : BitVec 1 := Scalar.cmpi .ne v2 c11_i32_1134
  let v1158 : BitVec 32 := Scalar.extui v1157
  let c0_i32_1136 : BitVec 32 := 0#32
  let v1159 : BitVec 1 := Scalar.cmpi .ne v1158 c0_i32_1136
  v1159

def k0_off204 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1199 : BitVec 32 := 0#32
  let c0_i32_1200 : BitVec 32 := 0#32
  ![v2.toNat, 0, 0]
def k0_cond173 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c12_i32_1137 : BitVec 32 := 12#32
  let v1160 : BitVec 1 := Scalar.cmpi .ne v2 c12_i32_1137
  let v1161 : BitVec 32 := Scalar.extui v1160
  let c0_i32_1139 : BitVec 32 := 0#32
  let v1162 : BitVec 1 := Scalar.cmpi .ne v1161 c0_i32_1139
  v1162

def k0_off205 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1199 : BitVec 32 := 0#32
  let c0_i32_1200 : BitVec 32 := 0#32
  ![v2.toNat, 0, 0]
def k0_cond174 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c13_i32_1140 : BitVec 32 := 13#32
  let v1163 : BitVec 1 := Scalar.cmpi .ne v2 c13_i32_1140
  let v1164 : BitVec 32 := Scalar.extui v1163
  let c0_i32_1142 : BitVec 32 := 0#32
  let v1165 : BitVec 1 := Scalar.cmpi .ne v1164 c0_i32_1142
  v1165

def k0_off206 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1199 : BitVec 32 := 0#32
  let c0_i32_1200 : BitVec 32 := 0#32
  ![v2.toNat, 0, 0]
def k0_cond175 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c14_i32_1143 : BitVec 32 := 14#32
  let v1166 : BitVec 1 := Scalar.cmpi .ne v2 c14_i32_1143
  let v1167 : BitVec 32 := Scalar.extui v1166
  let c0_i32_1145 : BitVec 32 := 0#32
  let v1168 : BitVec 1 := Scalar.cmpi .ne v1167 c0_i32_1145
  v1168

def k0_off207 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1199 : BitVec 32 := 0#32
  let c0_i32_1200 : BitVec 32 := 0#32
  ![v2.toNat, 0, 0]
def k0_cond176 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c15_i32_1146 : BitVec 32 := 15#32
  let v1169 : BitVec 1 := Scalar.cmpi .ne v2 c15_i32_1146
  let v1170 : BitVec 32 := Scalar.extui v1169
  let c0_i32_1148 : BitVec 32 := 0#32
  let v1171 : BitVec 1 := Scalar.cmpi .ne v1170 c0_i32_1148
  v1171

def k0_off208 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1199 : BitVec 32 := 0#32
  let c0_i32_1200 : BitVec 32 := 0#32
  ![v2.toNat, 0, 0]
def k0_cond177 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32_1149 : BitVec 32 := 16#32
  let v1172 : BitVec 1 := Scalar.cmpi .ne v2 c16_i32_1149
  let v1173 : BitVec 32 := Scalar.extui v1172
  let c0_i32_1151 : BitVec 32 := 0#32
  let v1174 : BitVec 1 := Scalar.cmpi .ne v1173 c0_i32_1151
  v1174

def k0_off209 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1199 : BitVec 32 := 0#32
  let c0_i32_1200 : BitVec 32 := 0#32
  ![v2.toNat, 0, 0]
def k0_cond178 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c17_i32_1152 : BitVec 32 := 17#32
  let v1175 : BitVec 1 := Scalar.cmpi .ne v2 c17_i32_1152
  let v1176 : BitVec 32 := Scalar.extui v1175
  let c0_i32_1154 : BitVec 32 := 0#32
  let v1177 : BitVec 1 := Scalar.cmpi .ne v1176 c0_i32_1154
  v1177

def k0_off210 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1199 : BitVec 32 := 0#32
  let c0_i32_1200 : BitVec 32 := 0#32
  ![v2.toNat, 0, 0]
def k0_cond179 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c18_i32_1155 : BitVec 32 := 18#32
  let v1178 : BitVec 1 := Scalar.cmpi .ne v2 c18_i32_1155
  let v1179 : BitVec 32 := Scalar.extui v1178
  let c0_i32_1157 : BitVec 32 := 0#32
  let v1180 : BitVec 1 := Scalar.cmpi .ne v1179 c0_i32_1157
  v1180

def k0_off211 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1199 : BitVec 32 := 0#32
  let c0_i32_1200 : BitVec 32 := 0#32
  ![v2.toNat, 0, 0]
def k0_cond180 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c19_i32_1158 : BitVec 32 := 19#32
  let v1181 : BitVec 1 := Scalar.cmpi .ne v2 c19_i32_1158
  let v1182 : BitVec 32 := Scalar.extui v1181
  let c0_i32_1160 : BitVec 32 := 0#32
  let v1183 : BitVec 1 := Scalar.cmpi .ne v1182 c0_i32_1160
  v1183

def k0_off212 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1199 : BitVec 32 := 0#32
  let c0_i32_1200 : BitVec 32 := 0#32
  ![v2.toNat, 0, 0]
def k0_cond181 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c20_i32_1161 : BitVec 32 := 20#32
  let v1184 : BitVec 1 := Scalar.cmpi .ne v2 c20_i32_1161
  let v1185 : BitVec 32 := Scalar.extui v1184
  let c0_i32_1163 : BitVec 32 := 0#32
  let v1186 : BitVec 1 := Scalar.cmpi .ne v1185 c0_i32_1163
  v1186

def k0_off213 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1199 : BitVec 32 := 0#32
  let c0_i32_1200 : BitVec 32 := 0#32
  ![v2.toNat, 0, 0]
def k0_cond182 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c21_i32_1164 : BitVec 32 := 21#32
  let v1187 : BitVec 1 := Scalar.cmpi .ne v2 c21_i32_1164
  let v1188 : BitVec 32 := Scalar.extui v1187
  let c0_i32_1166 : BitVec 32 := 0#32
  let v1189 : BitVec 1 := Scalar.cmpi .ne v1188 c0_i32_1166
  v1189

def k0_off214 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1199 : BitVec 32 := 0#32
  let c0_i32_1200 : BitVec 32 := 0#32
  ![v2.toNat, 0, 0]
def k0_cond183 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c22_i32_1167 : BitVec 32 := 22#32
  let v1190 : BitVec 1 := Scalar.cmpi .ne v2 c22_i32_1167
  let v1191 : BitVec 32 := Scalar.extui v1190
  let c0_i32_1169 : BitVec 32 := 0#32
  let v1192 : BitVec 1 := Scalar.cmpi .ne v1191 c0_i32_1169
  v1192

def k0_off215 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1199 : BitVec 32 := 0#32
  let c0_i32_1200 : BitVec 32 := 0#32
  ![v2.toNat, 0, 0]
def k0_cond184 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c23_i32_1170 : BitVec 32 := 23#32
  let v1193 : BitVec 1 := Scalar.cmpi .ne v2 c23_i32_1170
  let v1194 : BitVec 32 := Scalar.extui v1193
  let c0_i32_1172 : BitVec 32 := 0#32
  let v1195 : BitVec 1 := Scalar.cmpi .ne v1194 c0_i32_1172
  v1195

def k0_off216 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1199 : BitVec 32 := 0#32
  let c0_i32_1200 : BitVec 32 := 0#32
  ![v2.toNat, 0, 0]
def k0_cond185 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c24_i32_1173 : BitVec 32 := 24#32
  let v1196 : BitVec 1 := Scalar.cmpi .ne v2 c24_i32_1173
  let v1197 : BitVec 32 := Scalar.extui v1196
  let c0_i32_1175 : BitVec 32 := 0#32
  let v1198 : BitVec 1 := Scalar.cmpi .ne v1197 c0_i32_1175
  v1198

def k0_off217 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1199 : BitVec 32 := 0#32
  let c0_i32_1200 : BitVec 32 := 0#32
  ![v2.toNat, 0, 0]
def k0_cond186 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c25_i32_1176 : BitVec 32 := 25#32
  let v1199 : BitVec 1 := Scalar.cmpi .ne v2 c25_i32_1176
  let v1200 : BitVec 32 := Scalar.extui v1199
  let c0_i32_1178 : BitVec 32 := 0#32
  let v1201 : BitVec 1 := Scalar.cmpi .ne v1200 c0_i32_1178
  v1201

def k0_off218 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1199 : BitVec 32 := 0#32
  let c0_i32_1200 : BitVec 32 := 0#32
  ![v2.toNat, 0, 0]
def k0_cond187 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c26_i32_1179 : BitVec 32 := 26#32
  let v1202 : BitVec 1 := Scalar.cmpi .ne v2 c26_i32_1179
  let v1203 : BitVec 32 := Scalar.extui v1202
  let c0_i32_1181 : BitVec 32 := 0#32
  let v1204 : BitVec 1 := Scalar.cmpi .ne v1203 c0_i32_1181
  v1204

def k0_off219 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1199 : BitVec 32 := 0#32
  let c0_i32_1200 : BitVec 32 := 0#32
  ![v2.toNat, 0, 0]
def k0_cond188 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c27_i32_1182 : BitVec 32 := 27#32
  let v1205 : BitVec 1 := Scalar.cmpi .ne v2 c27_i32_1182
  let v1206 : BitVec 32 := Scalar.extui v1205
  let c0_i32_1184 : BitVec 32 := 0#32
  let v1207 : BitVec 1 := Scalar.cmpi .ne v1206 c0_i32_1184
  v1207

def k0_off220 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1199 : BitVec 32 := 0#32
  let c0_i32_1200 : BitVec 32 := 0#32
  ![v2.toNat, 0, 0]
def k0_cond189 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c28_i32_1185 : BitVec 32 := 28#32
  let v1208 : BitVec 1 := Scalar.cmpi .ne v2 c28_i32_1185
  let v1209 : BitVec 32 := Scalar.extui v1208
  let c0_i32_1187 : BitVec 32 := 0#32
  let v1210 : BitVec 1 := Scalar.cmpi .ne v1209 c0_i32_1187
  v1210

def k0_off221 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1199 : BitVec 32 := 0#32
  let c0_i32_1200 : BitVec 32 := 0#32
  ![v2.toNat, 0, 0]
def k0_cond190 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c29_i32_1188 : BitVec 32 := 29#32
  let v1211 : BitVec 1 := Scalar.cmpi .ne v2 c29_i32_1188
  let v1212 : BitVec 32 := Scalar.extui v1211
  let c0_i32_1190 : BitVec 32 := 0#32
  let v1213 : BitVec 1 := Scalar.cmpi .ne v1212 c0_i32_1190
  v1213

def k0_off222 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1199 : BitVec 32 := 0#32
  let c0_i32_1200 : BitVec 32 := 0#32
  ![v2.toNat, 0, 0]
def k0_cond191 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c30_i32_1191 : BitVec 32 := 30#32
  let v1214 : BitVec 1 := Scalar.cmpi .ne v2 c30_i32_1191
  let v1215 : BitVec 32 := Scalar.extui v1214
  let c0_i32_1193 : BitVec 32 := 0#32
  let v1216 : BitVec 1 := Scalar.cmpi .ne v1215 c0_i32_1193
  v1216

def k0_off223 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1199 : BitVec 32 := 0#32
  let c0_i32_1200 : BitVec 32 := 0#32
  ![v2.toNat, 0, 0]
def k0_cond192 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32_1194 : BitVec 32 := 31#32
  let v1217 : BitVec 1 := Scalar.cmpi .ne v2 c31_i32_1194
  let v1218 : BitVec 32 := Scalar.extui v1217
  let c0_i32_1196 : BitVec 32 := 0#32
  let v1219 : BitVec 1 := Scalar.cmpi .ne v1218 c0_i32_1196
  v1219

def k0_off224 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1199 : BitVec 32 := 0#32
  let c0_i32_1200 : BitVec 32 := 0#32
  ![v2.toNat, 0, 0]
abbrev stage0_0 : Fin 1 → Memref sig .tc .vmem S128x4096 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S4096x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S4096x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== ReferenceIdeal.lean ====
abbrev S4096x4096 : Shape := ⟨2, ![4096, 4096]⟩
abbrev S4096x2048 : Shape := ⟨2, ![4096, 2048]⟩
abbrev S_ : Shape := ⟨0, ![]⟩

abbrev nBuf : Space → Nat
  | .hbm => 24
  | .vmem => 0
  | .smem => 0
  | _ => 0

abbrev bufTy : (tb : Table) → Fin (tcTables nBuf tb) → BufTy
  | .hbm, ⟨0, _⟩ => ⟨S4096x4096, .f32⟩
  | .hbm, ⟨1, _⟩ => ⟨S4096x2048, .f32⟩
  | .hbm, ⟨2, _⟩ => ⟨S4096x2048, .f32⟩
  | .hbm, ⟨3, _⟩ => ⟨S_, .f32⟩
  | .hbm, ⟨4, _⟩ => ⟨S4096x2048, .f32⟩
  | .hbm, ⟨5, _⟩ => ⟨S4096x2048, .f32⟩
  | .hbm, ⟨6, _⟩ => ⟨S4096x2048, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S4096x2048, .f32⟩
  | .hbm, ⟨12, _⟩ => ⟨S4096x2048, .f32⟩
  | .hbm, ⟨13, _⟩ => ⟨S4096x2048, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S4096x2048, .f32⟩
  | .hbm, ⟨18, _⟩ => ⟨S4096x2048, .f32⟩
  | .hbm, ⟨19, _⟩ => ⟨S_, .f32⟩
  | .hbm, ⟨20, _⟩ => ⟨S4096x2048, .f32⟩
  | .hbm, ⟨21, _⟩ => ⟨S4096x2048, .f32⟩
  | .hbm, ⟨22, _⟩ => ⟨S4096x2048, .f32⟩
  | .hbm, ⟨23, _⟩ => ⟨S4096x2048, .f32⟩
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_cst_2 : Ref sig .tc := ⟨.hbm, 14, rfl⟩
abbrev main_cst_3 : Ref sig .tc := ⟨.hbm, 15, rfl⟩
abbrev main_call1_v0 : Ref sig .tc := ⟨.hbm, 16, rfl⟩
abbrev main_call1_v1 : Ref sig .tc := ⟨.hbm, 17, rfl⟩
abbrev main_call1_v2 : Ref sig .tc := ⟨.hbm, 18, rfl⟩
abbrev main_call1_v3 : Ref sig .tc := ⟨.hbm, 19, rfl⟩
abbrev main_call1_v4 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩

abbrev nD : Nat := 1
abbrev τ : Topo := Topo.v7x

variable {F : FTy → Type} [FloatOps F]
-- ==== Proof.KICommon.lean ====
/-
What the devices of the quantised matrix product say to each other.

Every device `c` computes 32 chunks `chunk c p`, the 128 by 64 block of its product that device `p` gathers, and its
greatest entry `M c`. Chunk `p` travels from slot `p` of `c`'s send buffer into slot `c` of device `p`'s receive
buffer; the maximum travels from `c`'s maximum buffer into slot `c` of device `p`'s table of maxima.

The cells of device `c`:
* the barrier: each other device `p` signals it once, handing over slot `c` of both of its receive buffers;
* data send `p`: back comes slot `p` of `c`'s send buffer;
* data receive `s`: slot `s` of `c`'s receive buffer, holding chunk `c` of device `s`;
* maximum send `p`: back comes a share of `c`'s maximum buffer;
* maximum receive `s`: slot `s` of `c`'s table of maxima, holding `M s`.
A cell whose index is `c` itself is never used.
-/
module

public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.Ring
public import Idealize.ShloMosaic.Lib.Transfers
public import Idealize.ShloMosaic.Lib.ValueIdxCore
public import Idealize.ShloMosaic.Lib.Tactic

@[expose] public section

set_option maxRecDepth 16384

noncomputable section

namespace Cert.KI

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx (ix2 ix3)

variable {F : FTy → Type} [FloatOps F]

abbrev UB : Type := URounds (GSem nD τ sig) (Dev nD)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

/-! ## Buffers and their slots -/

abbrev xM : Memref sig .tc .vmem S128x4096 .f32 := Memref.whole cc0_stg0_0
abbrev wM : Memref sig .tc .vmem S4096x2048 .f32 := Memref.whole cc0_stg1_0
abbrev oM : Memref sig .tc .vmem S4096x64 .f32 := Memref.whole cc0_stg2_0
abbrev sM : Memref sig .tc .vmem S32x128x64 .f32 := Memref.whole cc0_scratch0
abbrev rM : Memref sig .tc .vmem S32x128x64 .f32 := Memref.whole cc0_scratch1
abbrev mM : Memref sig .tc .vmem S8x128 .f32 := Memref.whole cc0_scratch2
abbrev aM : Memref sig .tc .vmem S32x8x128 .f32 := Memref.whole cc0_scratch3

/-- Slot `p` lies inside a chunk buffer. -/
theorem cInb (p : Fin 32) : ∀ a, (![p.val, 0, 0] : Fin 3 → ℕ) a + S1x128x64.size a ≤ S32x128x64.size a := by
  revert p; decide
/-- Slot `p` lies inside the table of maxima. -/
theorem mInb (p : Fin 32) : ∀ a, (![p.val, 0, 0] : Fin 3 → ℕ) a + S1x8x128.size a ≤ S32x8x128.size a := by
  revert p; decide
/-- Index `p` lies inside a semaphore array. -/
theorem dInb (p : Fin 32) : ∀ a, (![p.val] : Fin 1 → ℕ) a + S1.size a ≤ S32.size a := by
  revert p; decide

abbrev cRect (p : Fin 32) : Rect S32x128x64 := Rect.unit (s := S32x128x64) ![p.val, 0, 0] S1x128x64.size (cInb p)
abbrev mRect (p : Fin 32) : Rect S32x8x128 := Rect.unit (s := S32x8x128) ![p.val, 0, 0] S1x8x128.size (mInb p)

abbrev sSlot (p : Fin 32) : Memref sig .tc .vmem S128x64 .f32 :=
  (sM.slice (cRect p) (fun _ => rfl)).squeeze S128x64 squeezes_S1x128x64_S128x64
abbrev rSlot (p : Fin 32) : Memref sig .tc .vmem S128x64 .f32 :=
  (rM.slice (cRect p) (fun _ => rfl)).squeeze S128x64 squeezes_S1x128x64_S128x64
abbrev aSlot (p : Fin 32) : Memref sig .tc .vmem S8x128 .f32 :=
  (aM.slice (mRect p) (fun _ => rfl)).squeeze S8x128 squeezes_S1x8x128_S8x128

/-! ## Cells -/

abbrev barS : Sem sig := (SemArray.scalar (sig.barrier 0 rfl) : Sems sig S_).sem

theorem dsem_lt (k : Fin 4) (p : Fin 32) : 3 + 32 * k.val + p.val < 131 := by omega
/-- The four arrays of transfer semaphores: 0 data send, 1 data receive, 2 maximum send, 3 maximum receive. -/
def dsem (k : Fin 4) (p : Fin 32) : DmaSem sig := (⟨3 + 32 * k.val + p.val, dsem_lt k p⟩ : Fin 131)

abbrev barCell (c : Dev nD) : GSem nD τ sig := ((c : Thread nD τ), .reg barS)
abbrev dcell (k : Fin 4) (c : Dev nD) (p : Fin 32) : GSem nD τ sig := ((c : Thread nD τ), .dma (dsem k p))

/-- The array and the index of a transfer semaphore; nothing for the three that stage the windows. -/
def ix (q : DmaSem sig) : Option (Fin 4 × Fin 32) :=
  if h : 3 ≤ q.val ∧ q.val < 131 then some (⟨(q.val - 3) / 32, by omega⟩, ⟨(q.val - 3) % 32, by omega⟩) else none

theorem ix_dsem (k : Fin 4) (p : Fin 32) : ix (dsem k p) = some (k, p) := by
  unfold ix dsem
  rw [dif_pos (by dsimp only; omega)]
  refine congrArg some (Prod.ext (Fin.ext ?_) (Fin.ext ?_)) <;> dsimp only <;> omega

theorem dsem_inj {k k' : Fin 4} {p p' : Fin 32} (h : dsem k p = dsem k' p') : k = k' ∧ p = p' := by
  have := (ix_dsem k p).symm.trans ((congrArg ix h).trans (ix_dsem k' p'))
  simpa using this

/-- The semaphore that the program picks out of an array is the one named. -/
theorem sem_eq0 (p : Fin 32) : ((cc0_scratch4.slice (Rect.unit (s := S32) ![p.val] S1.size (dInb p))).squeeze S_ squeezes_S1_S_).sem = dsem 0 p := by
  revert p; decide +kernel
theorem sem_eq1 (p : Fin 32) : ((cc0_scratch5.slice (Rect.unit (s := S32) ![p.val] S1.size (dInb p))).squeeze S_ squeezes_S1_S_).sem = dsem 1 p := by
  revert p; decide +kernel
theorem sem_eq2 (p : Fin 32) : ((cc0_scratch6.slice (Rect.unit (s := S32) ![p.val] S1.size (dInb p))).squeeze S_ squeezes_S1_S_).sem = dsem 2 p := by
  revert p; decide +kernel
theorem sem_eq3 (p : Fin 32) : ((cc0_scratch7.slice (Rect.unit (s := S32) ![p.val] S1.size (dInb p))).squeeze S_ squeezes_S1_S_).sem = dsem 3 p := by
  revert p; decide +kernel

abbrev ND : ℕ := (rSlot 0).view.dmaCredit
abbrev NA : ℕ := (aSlot 0).view.dmaCredit
theorem ND_pos : 0 < ND := View.dmaCredit_pos _ (by decide)
theorem NA_pos : 0 < NA := View.dmaCredit_pos _ (by decide)

/-! ## Contents -/

section Contents
variable (P : Dev nD → Fin 8 → FVec F S128x256 .f32) (M : Dev nD → F .f32)

/-- Entry `(i, j)` of the chunk of device `c`'s product that device `p` gathers. -/
def chunk (c : Dev nD) (p : Fin 32) (i : Fin 128) (j : Fin 64) : F .f32 :=
  P c ⟨p.val / 4, by omega⟩ (ix2 i (⟨64 * (p.val % 4) + j.val, by omega⟩ : Fin 256))

/-- The send buffer of device `c`, filled: slot `p` its chunk for `p`. -/
def sendBuf (c : Dev nD) : (cc0_scratch0 : Ref sig .tc).ty.Contents (Elt F) :=
  fun i : S32x128x64.Idx => chunk P c (i 0) (i 1) (i 2)
/-- The receive buffer of device `c`, filled: slot `s` what device `s` has for `c`. -/
def recvBuf (c : Dev nD) : (cc0_scratch1 : Ref sig .tc).ty.Contents (Elt F) :=
  fun i : S32x128x64.Idx => chunk P (i 0) c (i 1) (i 2)
/-- The maximum buffer of device `c`: its maximum everywhere. -/
def maxBuf (c : Dev nD) : (cc0_scratch2 : Ref sig .tc).ty.Contents (Elt F) := fun _ => M c
/-- The table of maxima on device `c`, filled: slot `s` the maximum of device `s`, its own slot zero. -/
def maxTab (c : Dev nD) : (cc0_scratch3 : Ref sig .tc).ty.Contents (Elt F) :=
  fun i : S32x8x128.Idx => if (i 0).val = c.val then Scalar.ofBits .f32 0x00000000#32 else M (i 0)

end Contents

/-! ## What is held of a buffer -/

/-- Slot `p` of the send buffer on device `c`, at `f`. -/
def sPts (c : Dev nD) (p : Fin 32) (f : Buf (Elt F) ((sM : Memref sig .tc .vmem S32x128x64 .f32).view.loc (c : Thread nD τ))) : sProp 𝕄 :=
  (sSlot p).view.loc (c : Thread nD τ) ↦[(sSlot p).view.set]{fullShare} f
/-- Slot `p` of the receive buffer on device `c`, at `f`. -/
def rPts (c : Dev nD) (p : Fin 32) (f : Buf (Elt F) ((rM : Memref sig .tc .vmem S32x128x64 .f32).view.loc (c : Thread nD τ))) : sProp 𝕄 :=
  (rSlot p).view.loc (c : Thread nD τ) ↦[(rSlot p).view.set]{fullShare} f
/-- Slot `p` of the table of maxima on device `c`, at `f`. -/
def aPts (c : Dev nD) (p : Fin 32) (f : Buf (Elt F) ((aM : Memref sig .tc .vmem S32x8x128 .f32).view.loc (c : Thread nD τ))) : sProp 𝕄 :=
  (aSlot p).view.loc (c : Thread nD τ) ↦[(aSlot p).view.set]{fullShare} f
/-- A share of the maximum buffer on device `c`, at `f`. -/
def mPts (c : Dev nD) (q : PosShare TreeShare) (f : Buf (Elt F) ((mM : Memref sig .tc .vmem S8x128 .f32).view.loc (c : Thread nD τ))) : sProp 𝕄 :=
  (mM : Memref sig .tc .vmem S8x128 .f32).view.loc (c : Thread nD τ) ↦[(mM : Memref sig .tc .vmem S8x128 .f32).view.set]{q} f

/-- The share of the maximum buffer lent to the transfer to device `p`. -/
abbrev mShare (p : Fin 32) : PosShare TreeShare := Transfers.shareTok fullShare 32 p

omit [FloatOps F] in
instance sPts_storable (c : Dev nD) (p) (f) : BI.Storable (upEmb : UEmb _ 𝕄) (sPts (F := F) c p f) := by unfold sPts; infer_instance
omit [FloatOps F] in
instance rPts_storable (c : Dev nD) (p) (f) : BI.Storable (upEmb : UEmb _ 𝕄) (rPts (F := F) c p f) := by unfold rPts; infer_instance
omit [FloatOps F] in
instance aPts_storable (c : Dev nD) (p) (f) : BI.Storable (upEmb : UEmb _ 𝕄) (aPts (F := F) c p f) := by unfold aPts; infer_instance
omit [FloatOps F] in
instance mPts_storable (c : Dev nD) (q) (f) : BI.Storable (upEmb : UEmb _ 𝕄) (mPts (F := F) c q f) := by unfold mPts; infer_instance

/-! ## The schedule -/

section Sched
variable (P : Dev nD → Fin 8 → FVec F S128x256 .f32) (M : Dev nD → F .f32)

/-- What device `p`'s signal hands device `c`: slot `c` of `p`'s receive buffer and of its table of maxima. -/
def barPay (c p : Dev nD) : sProp 𝕄 := iprop((∃ f, rPts p c f) ∗ (∃ f, aPts p c f))

/-- What a landing on transfer cell `(k, p)` of device `c` hands over. -/
def pay (k : Fin 4) (c : Dev nD) (p : Fin 32) : sProp 𝕄 :=
  match k with
  | 0 => sPts c p (sendBuf P c)
  | 1 => rPts c p (recvBuf P c)
  | 2 => mPts c (mShare p) (maxBuf M c)
  | 3 => aPts c p (maxTab M c)

/-- The credit of one transfer on an array of cells. -/
def credit (k : Fin 4) : ℕ := if k.val < 2 then ND else NA

theorem credit_pos (k : Fin 4) : 0 < credit k := by
  unfold credit; split
  · exact ND_pos
  · exact NA_pos

def dutiesOf (c : Dev nD) : SemLoc sig → Finset (Dev nD)
  | .reg s => if s = barS then Finset.univ.erase c else ∅
  | .dma q => match ix q with
    | some (_, p) => if p = c then ∅ else {p}
    | none => ∅

def amountOf' : SemLoc sig → ℕ
  | .reg _ => 1
  | .dma q => match ix q with
    | some (k, _) => credit k
    | none => 1

def payOf (c d : Dev nD) : SemLoc sig → sProp 𝕄
  | .reg _ => barPay c d
  | .dma q => match ix q with
    | some (k, p) => pay P M k c p
    | none => iprop(emp)

theorem amountOf'_pos (s : SemLoc sig) : 0 < amountOf' s := by
  cases s with
  | reg s => exact Nat.one_pos
  | dma q =>
    show 0 < (match ix q with | some (k, _) => credit k | none => 1)
    rcases ix q with _ | ⟨k, p⟩
    · exact Nat.one_pos
    · exact credit_pos k

/-- One round: a barrier cell has one unit from every other device, a transfer cell of another index one landing. -/
def rd : Rounds.Schedule (GSem nD τ sig) (Dev nD) 𝕄 where
  duties g r := if r = 0 ∧ g.1.2 = .tc then dutiesOf g.1.1 g.2 else ∅
  unitless _ := False
  amount g _ _ := amountOf' g.2
  payload g _ d := payOf P M g.1.1 d g.2
  amount_pos g _ _ _ := amountOf'_pos g.2

instance pay_storable (k : Fin 4) (c : Dev nD) (p : Fin 32) : BI.Storable (upEmb : UEmb _ 𝕄) (pay P M k c p) := by
  fin_cases k <;> (unfold pay; infer_instance)

instance rd_storable (g : GSem nD τ sig) (r : ℕ) (d : Dev nD) : BI.Storable (upEmb : UEmb _ 𝕄) ((rd P M).payload g r d) := by
  show BI.Storable upEmb (payOf P M g.1.1 d g.2)
  unfold payOf barPay
  (repeat' split) <;> infer_instance

variable (c p : Dev nD) (k : Fin 4)

theorem duties_bar : (rd P M).duties (barCell c) 0 = Finset.univ.erase c := by
  dsimp only [rd]; rw [if_pos ⟨rfl, rfl⟩]; unfold dutiesOf; exact if_pos rfl
theorem duties_dma (h : p ≠ c) : (rd P M).duties (dcell k c p) 0 = {p} := by
  dsimp only [rd]; rw [if_pos ⟨rfl, rfl⟩]; unfold dutiesOf; dsimp only; rw [ix_dsem]; exact if_neg h
theorem duties_self : (rd P M).duties (dcell k c c) 0 = ∅ := by
  dsimp only [rd]; rw [if_pos ⟨rfl, rfl⟩]; unfold dutiesOf; dsimp only; rw [ix_dsem]; exact if_pos rfl
theorem duties_later (g : GSem nD τ sig) : ∀ r, 1 ≤ r → (rd P M).duties g r = ∅ :=
  fun r hr => by dsimp only [rd]; rw [if_neg fun h => by omega]
theorem duties_self_all : ∀ r, 0 ≤ r → (rd P M).duties (dcell k c c) r = ∅ := fun r _ => by
  rcases Nat.eq_zero_or_pos r with rfl | h
  · exact duties_self P M c k
  · exact duties_later P M _ r h

theorem amount_bar (d : Dev nD) : (rd P M).amount (barCell c) 0 d = 1 := rfl
theorem amount_dma (d : Dev nD) : (rd P M).amount (dcell k c p) 0 d = credit k := by
  dsimp only [rd]; unfold amountOf'; dsimp only; rw [ix_dsem]
theorem expect_bar : (rd P M).expect (barCell c) 0 = 31 := by
  unfold Schedule.expect Schedule.amountOf
  rw [duties_bar, Finset.sum_congr rfl fun d _ => amount_bar P M c d, Finset.sum_const, Finset.card_erase_of_mem (Finset.mem_univ _),
    Finset.card_univ, Fintype.card_fin, smul_eq_mul]
  rfl
theorem expect_dma (h : p ≠ c) : (rd P M).expect (dcell k c p) 0 = credit k := by
  unfold Schedule.expect Schedule.amountOf; rw [duties_dma P M c p k h, Finset.sum_singleton, amount_dma]

theorem payload_bar (d : Dev nD) : (rd P M).payload (barCell c) 0 d = barPay c d := rfl
theorem payload_dma (d : Dev nD) : (rd P M).payload (dcell k c p) 0 d = pay P M k c p := by
  dsimp only [rd]; unfold payOf; dsimp only; rw [ix_dsem]
theorem rest_bar : bigSep ((rd P M).duties (barCell c) 0 \ ∅) (fun d => (rd P M).payload (barCell c) 0 d)
    = bigSep (Finset.univ.erase c) (fun d => barPay (F := F) c d) := by
  rw [Finset.sdiff_empty, duties_bar]; rfl
theorem rest_dma (h : p ≠ c) : bigSep ((rd P M).duties (dcell k c p) 0 \ ∅) (fun d => (rd P M).payload (dcell k c p) 0 d) = pay P M k c p := by
  rw [Finset.sdiff_empty, duties_dma P M c p k h, bigSep_singleton, payload_dma]

end Sched

/-! ## Levels, and what a device owes -/

def L (g : GSem nD τ sig) : Finset Unit := if g.1.2 = .tc then {()} else ∅
/-- Barriers at 1, receives at 2, everything else at 0. -/
def lv (g : GSem nD τ sig) (_ : Unit) : ℕ := match g.2 with
  | .reg _ => 1
  | .dma q => match ix q with
    | some (k, _) => if k.val % 2 = 1 then 2 else 0
    | none => 0

theorem L_of_ne (g : GSem nD τ sig) (h : g.1.2 ≠ .tc) : L g = ∅ := if_neg h
theorem L_tc (c : Dev nD) (sm : SemLoc sig) : L ((c : Thread nD τ), sm) = {()} := if_pos rfl
theorem lv_bar (c : Dev nD) : lv (barCell c) () = 1 := rfl
theorem lv_dma (k : Fin 4) (c : Dev nD) (p : Fin 32) : lv (dcell k c p) () = if k.val % 2 = 1 then 2 else 0 := by
  unfold lv; dsimp only; rw [ix_dsem]

/-- How many signals device `c` makes up to and including the one to `q`. -/
def dist (c q : Dev nD) : ℕ := (q.val + 32 - c.val) % 32

/-- The devices not yet signalled after `n` signals of device `c`. -/
def later (c : Dev nD) (n : ℕ) : Finset (Dev nD) := Finset.univ.filter fun q => n < dist c q
/-- The other devices from `n` on. -/
def upto (c : Dev nD) (n : ℕ) : Finset (Dev nD) := Finset.univ.filter fun q => n ≤ q.val ∧ q ≠ c

/-- What device `c` still owes in signals, in chunks, in maxima. -/
def OB (c : Dev nD) (n : ℕ) : CellTallies nD τ sig Unit := ∑ q ∈ later c n, tallyAt (barCell q) () 1
def OD (c : Dev nD) (n : ℕ) : CellTallies nD τ sig Unit := ∑ q ∈ upto c n, tallyAt (dcell 1 q c) () ND
def OA (c : Dev nD) (n : ℕ) : CellTallies nD τ sig Unit := ∑ q ∈ upto c n, tallyAt (dcell 3 q c) () NA

theorem later_zero (c : Dev nD) : later c 0 = Finset.univ.erase c := by
  unfold later dist; revert c; decide +kernel
theorem later_31 (c : Dev nD) : later c 31 = ∅ := by
  unfold later dist; ext q; simp; omega
/-- The next device signalled is `n + 1` places on. -/
theorem later_succ (c q : Dev nD) (n : ℕ) (h : dist c q = n + 1) : later c n = insert q (later c (n + 1)) ∧ q ∉ later c (n + 1) := by
  unfold later
  constructor
  · ext x
    simp only [Finset.mem_filter, Finset.mem_univ, true_and, Finset.mem_insert]
    constructor
    · intro hx
      by_cases he : dist c x = n + 1
      · left
        unfold dist at h he
        have := x.isLt; have := q.isLt; have := c.isLt
        simp only [nD] at *
        exact Fin.ext (by omega)
      · right; omega
    · rintro (rfl | hx) <;> omega
  · simp only [Finset.mem_filter, Finset.mem_univ, true_and]; omega
theorem upto_zero (c : Dev nD) : upto c 0 = Finset.univ.erase c := by
  unfold upto; ext q; simp
theorem upto_32 (c : Dev nD) : upto c 32 = ∅ := by
  unfold upto; ext q; have := q.isLt; simp only [nD] at *; simp
theorem upto_self (c : Dev nD) : upto c c.val = upto c (c.val + 1) := by
  unfold upto; ext q
  simp only [Finset.mem_filter, Finset.mem_univ, true_and]
  constructor
  · rintro ⟨h, hne⟩; exact ⟨by have : q.val ≠ c.val := fun e => hne (Fin.ext e); omega, hne⟩
  · rintro ⟨h, hne⟩; exact ⟨by omega, hne⟩
theorem upto_succ (c q : Dev nD) (h : q ≠ c) : upto c q.val = insert q (upto c (q.val + 1)) ∧ q ∉ upto c (q.val + 1) := by
  unfold upto
  constructor
  · ext x
    simp only [Finset.mem_filter, Finset.mem_univ, true_and, Finset.mem_insert]
    constructor
    · rintro ⟨h1, h2⟩
      by_cases he : x = q
      · exact .inl he
      · exact .inr ⟨by have : x.val ≠ q.val := fun e => he (Fin.ext e); omega, h2⟩
    · rintro (rfl | ⟨h1, h2⟩)
      · exact ⟨le_rfl, h⟩
      · exact ⟨by omega, h2⟩
  · simp only [Finset.mem_filter, Finset.mem_univ, true_and]; omega

end Cert.KI
-- ==== Proof.KISlots.lean ====
/-
The 32 slots of a chunk buffer and of the table of maxima: which elements a slot holds, that the slots make up the
buffer, and what a slot holds after a store into it or a landing on it.
-/
module

public import proofs.«01_k».proof.Proof.KICommon
public import Idealize.ShloMosaic.Lib.ValueLayout

@[expose] public section

set_option maxRecDepth 16384

noncomputable section

namespace Cert.KI

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx

variable {F : FTy → Type} [FloatOps F]

local notation "𝕄" => MT nD τ sig Unit (Elt F) ℕ UU ℕ

/-! ## A slot of a stack of 32 matrices -/

section Stack
variable {A B : ℕ}

/-- A slot's elements are those with the slot's number in front. -/
theorem mem_slot (p : Fin 32) (inb) (i : (⟨3, ![32, A, B]⟩ : Shape).Idx) :
    i ∈ (Rect.unit (s := ⟨3, ![32, A, B]⟩) ![p.val, 0, 0] ![1, A, B] inb).set ↔ (i 0).val = p.val := by
  rw [Rect.mem_set_unit]
  constructor
  · intro h; have := h 0; simp at this; omega
  · intro h a
    fin_cases a
    · simp; omega
    · simp; exact (i 1).isLt
    · simp; exact (i 2).isLt

/-- Where entry `(0, a, b)` of a slot lies in the stack. -/
theorem emb_slot (p : Fin 32) (inb) (y : (⟨3, ![1, A, B]⟩ : Shape).Idx) :
    (Rect.unit (s := ⟨3, ![32, A, B]⟩) ![p.val, 0, 0] ![1, A, B] inb).emb y = ix3 p (y 1) (y 2) := by
  funext a; apply Fin.ext
  rw [Rect.emb_apply]; show (![p.val, 0, 0] : Fin 3 → ℕ) a + 1 * (y a).val = _; rw [Nat.one_mul]
  have h0 : (y 0).val = 0 := by have := (y 0).isLt; simp at this; omega
  fin_cases a
  · show p.val + (y 0).val = p.val; omega
  · exact Nat.zero_add _
  · exact Nat.zero_add _

/-- An element of slot `p` is the place of its last two coordinates. -/
theorem eq_emb_slot (p : Fin 32) (inb) (i : (⟨3, ![32, A, B]⟩ : Shape).Idx) (h : (i 0).val = p.val) :
    (Rect.unit (s := ⟨3, ![32, A, B]⟩) ![p.val, 0, 0] ![1, A, B] inb).emb (ix3 (⟨0, Nat.one_pos⟩ : Fin 1) (i 1) (i 2)) = i := by
  rw [emb_slot]
  conv_rhs => rw [eq_ix3 i]
  exact congrArg (fun q => ix3 q (i 1) (i 2)) (Fin.ext h.symm)

end Stack

/-! ## The sets -/

theorem sSlot_set (p : Fin 32) : (sSlot p).view.set = (cRect p).set :=
  (View.set_reshape (v := (View.whole cc0_scratch0).slice (cRect p)) _).trans (View.set_slice_whole _ _)
theorem rSlot_set (p : Fin 32) : (rSlot p).view.set = (cRect p).set :=
  (View.set_reshape (v := (View.whole cc0_scratch1).slice (cRect p)) _).trans (View.set_slice_whole _ _)
theorem aSlot_set (p : Fin 32) : (aSlot p).view.set = (mRect p).set :=
  (View.set_reshape (v := (View.whole cc0_scratch3).slice (mRect p)) _).trans (View.set_slice_whole _ _)

theorem mem_cRect (p : Fin 32) (i : S32x128x64.Idx) : i ∈ (cRect p).set ↔ (i 0).val = p.val := mem_slot p _ i
theorem mem_mRect (p : Fin 32) (i : S32x8x128.Idx) : i ∈ (mRect p).set ↔ (i 0).val = p.val := mem_slot p _ i

/-- The elements of slot `p` of a chunk buffer. -/
def cSet (p : Fin 32) : Finset S32x128x64.Idx := (cRect p).set
theorem cSet_disj (p q : Fin 32) (h : p ≠ q) : Disjoint (cSet p) (cSet q) :=
  Finset.disjoint_left.mpr fun i hp hq => h (Fin.ext (((mem_cRect p i).mp hp).symm.trans ((mem_cRect q i).mp hq)))
/-- The elements of slot `p` of the table of maxima. -/
def mSet (p : Fin 32) : Finset S32x8x128.Idx := (mRect p).set
theorem mSet_disj (p q : Fin 32) (h : p ≠ q) : Disjoint (mSet p) (mSet q) :=
  Finset.disjoint_left.mpr fun i hp hq => h (Fin.ext (((mem_mRect p i).mp hp).symm.trans ((mem_mRect q i).mp hq)))
theorem cSet_cover : Finset.univ.biUnion cSet = Finset.univ := by
  ext i; simp only [Finset.mem_biUnion, Finset.mem_univ, true_and, iff_true]
  exact ⟨i 0, (mem_cRect _ i).mpr rfl⟩
theorem mSet_cover : Finset.univ.biUnion mSet = Finset.univ := by
  ext i; simp only [Finset.mem_biUnion, Finset.mem_univ, true_and, iff_true]
  exact ⟨i 0, (mem_mRect _ i).mpr rfl⟩

/-! ## A buffer is its slots -/

section Whole
variable (c : Dev nD)

/-- The whole send buffer, receive buffer, table of maxima, maximum buffer on device `c`. -/
def sAll (f : Buf (Elt F) ((sM : Memref sig .tc .vmem S32x128x64 .f32).view.loc (c : Thread nD τ))) : sProp 𝕄 :=
  ((c : Thread nD τ).loc cc0_scratch0) ↦{fullShare} f
def rAll (f : Buf (Elt F) ((rM : Memref sig .tc .vmem S32x128x64 .f32).view.loc (c : Thread nD τ))) : sProp 𝕄 :=
  ((c : Thread nD τ).loc cc0_scratch1) ↦{fullShare} f
def aAll (f : Buf (Elt F) ((aM : Memref sig .tc .vmem S32x8x128 .f32).view.loc (c : Thread nD τ))) : sProp 𝕄 :=
  ((c : Thread nD τ).loc cc0_scratch3) ↦{fullShare} f
def mAll (f : Buf (Elt F) ((mM : Memref sig .tc .vmem S8x128 .f32).view.loc (c : Thread nD τ))) : sProp 𝕄 :=
  ((c : Thread nD τ).loc cc0_scratch2) ↦{fullShare} f

omit [FloatOps F] in
theorem sAll_eq (f) : sAll (F := F) c f = bigSep Finset.univ fun p => sPts c p f := by
  refine (Ring.pointsTo_blocks (ℓ := (c : Thread nD τ).loc cc0_scratch0) (q := fullShare) cSet cSet_disj cSet_cover f).trans
    (bigSep_congr fun p _ => ?_)
  unfold sPts; rw [sSlot_set]; rfl
omit [FloatOps F] in
theorem rAll_eq (f) : rAll (F := F) c f = bigSep Finset.univ fun p => rPts c p f := by
  refine (Ring.pointsTo_blocks (ℓ := (c : Thread nD τ).loc cc0_scratch1) (q := fullShare) cSet cSet_disj cSet_cover f).trans
    (bigSep_congr fun p _ => ?_)
  unfold rPts; rw [rSlot_set]; rfl
omit [FloatOps F] in
theorem aAll_eq (f) : aAll (F := F) c f = bigSep Finset.univ fun p => aPts c p f := by
  refine (Ring.pointsTo_blocks (ℓ := (c : Thread nD τ).loc cc0_scratch3) (q := fullShare) mSet mSet_disj mSet_cover f).trans
    (bigSep_congr fun p _ => ?_)
  unfold aPts; rw [aSlot_set]; rfl
omit [FloatOps F] in
/-- The maximum buffer is the shares lent to the 32 transfers and what remains of it. -/
theorem mAll_split (f) : mAll (F := F) c f ⊢ iprop(mPts c (Transfers.shareDrop fullShare 32) f ∗ bigSep Finset.univ fun p => mPts c (mShare p) f) := by
  unfold mAll mPts
  simp only [Memref.view_whole, View.set_whole]
  exact Transfers.pointsTo_toks_split fullShare 32
omit [FloatOps F] in
theorem mAll_join (f) : iprop(mPts c (Transfers.shareDrop fullShare 32) f ∗ bigSep Finset.univ fun p => mPts c (mShare p) f) ⊢ mAll (F := F) c f := by
  unfold mAll mPts
  simp only [Memref.view_whole, View.set_whole]
  exact Transfers.pointsTo_toks_join fullShare 32

omit [FloatOps F] in
theorem sPts_congr {p : Fin 32} {f g} (h : ∀ i : S32x128x64.Idx, (i 0).val = p.val → f i = g i) : sPts (F := F) c p f = sPts c p g := by
  unfold sPts; rw [sSlot_set]; exact pointsTo_congr fun i hi => h i ((mem_cRect p i).mp hi)
omit [FloatOps F] in
theorem rPts_congr {p : Fin 32} {f g} (h : ∀ i : S32x128x64.Idx, (i 0).val = p.val → f i = g i) : rPts (F := F) c p f = rPts c p g := by
  unfold rPts; rw [rSlot_set]; exact pointsTo_congr fun i hi => h i ((mem_cRect p i).mp hi)
omit [FloatOps F] in
theorem aPts_congr {p : Fin 32} {f g} (h : ∀ i : S32x8x128.Idx, (i 0).val = p.val → f i = g i) : aPts (F := F) c p f = aPts c p g := by
  unfold aPts; rw [aSlot_set]; exact pointsTo_congr fun i hi => h i ((mem_mRect p i).mp hi)

end Whole

/-! ## Contents after a store or a landing -/

omit [FloatOps F] in
/-- A store of a slot of the send buffer, read inside the slot. -/
theorem write_s (p : Fin 32) (f : (cc0_scratch0 : Ref sig .tc).ty.Contents (Elt F)) (v : S1x128x64.Idx → Elt F .f32) (i : S32x128x64.Idx)
    (h : (i 0).val = p.val) :
    ((sM : Memref sig .tc .vmem S32x128x64 .f32).access (cRect p) : View sig .tc _ _ _).write (Elt F) f v Finset.univ i
      = v (ix3 (⟨0, Nat.one_pos⟩ : Fin 1) (i 1) (i 2)) := by
  conv_lhs => rw [← eq_emb_slot p (cInb p) i h]
  exact View.write_emb_of_mem (v := (sM : Memref sig .tc .vmem S32x128x64 .f32).access (cRect p)) f v (Finset.mem_univ _)
omit [FloatOps F] in
theorem write_r (p : Fin 32) (f : (cc0_scratch1 : Ref sig .tc).ty.Contents (Elt F)) (v : S1x128x64.Idx → Elt F .f32) (i : S32x128x64.Idx)
    (h : (i 0).val = p.val) :
    ((rM : Memref sig .tc .vmem S32x128x64 .f32).access (cRect p) : View sig .tc _ _ _).write (Elt F) f v Finset.univ i
      = v (ix3 (⟨0, Nat.one_pos⟩ : Fin 1) (i 1) (i 2)) := by
  conv_lhs => rw [← eq_emb_slot p (cInb p) i h]
  exact View.write_emb_of_mem (v := (rM : Memref sig .tc .vmem S32x128x64 .f32).access (cRect p)) f v (Finset.mem_univ _)

omit [FloatOps F] in
/-- Slot `p` of the send buffer, read as a matrix. -/
theorem read_s (p : Fin 32) (f : (cc0_scratch0 : Ref sig .tc).ty.Contents (Elt F)) (i : Fin 128) (j : Fin 64) :
    (sSlot p).view.read (Elt F) f (ix2 i j) = f (ix3 p i j) := by
  have h : (sSlot p).view.emb (ix2 i j) = ix3 p i j := by
    show (cRect p).emb (Shape.reshapeEquiv squeezes_S1x128x64_S128x64.numel_eq (ix2 i j)) = _
    rw [reshapeEquiv_ix2_1ab]; exact emb_slot p (cInb p) _
  rw [View.read_apply, h]; rfl

omit [FloatOps F] in
/-- A landing on slot `p` of the receive buffer, read inside the slot. -/
theorem land_r (p : Fin 32) (f : (cc0_scratch1 : Ref sig .tc).ty.Contents (Elt F)) (v : S128x64.Idx → Elt F .f32) (i : S32x128x64.Idx)
    (h : (i 0).val = p.val) : (rSlot p).view.write (Elt F) f v Finset.univ i = v (ix2 (i 1) (i 2)) := by
  have he : (rSlot p).view.emb (ix2 (i 1) (i 2)) = i := by
    show (cRect p).emb (Shape.reshapeEquiv squeezes_S1x128x64_S128x64.numel_eq (ix2 (i 1) (i 2))) = _
    exact (congrArg (cRect p).emb (reshapeEquiv_ix2_1ab _ _ _)).trans (eq_emb_slot p (cInb p) i h)
  conv_lhs => rw [← he]
  exact View.write_emb_of_mem (v := (rSlot p).view) f v (Finset.mem_univ _)
omit [FloatOps F] in
theorem land_a (p : Fin 32) (f : (cc0_scratch3 : Ref sig .tc).ty.Contents (Elt F)) (v : S8x128.Idx → Elt F .f32) (i : S32x8x128.Idx)
    (h : (i 0).val = p.val) : (aSlot p).view.write (Elt F) f v Finset.univ i = v (ix2 (i 1) (i 2)) := by
  have he : (aSlot p).view.emb (ix2 (i 1) (i 2)) = i := by
    show (mRect p).emb (Shape.reshapeEquiv squeezes_S1x8x128_S8x128.numel_eq (ix2 (i 1) (i 2))) = _
    exact (congrArg (mRect p).emb (reshapeEquiv_ix2_1ab _ _ _)).trans (eq_emb_slot p (mInb p) i h)
  conv_lhs => rw [← he]
  exact View.write_emb_of_mem (v := (aSlot p).view) f v (Finset.mem_univ _)

end Cert.KI
-- ==== Proof.KISteps.lean ====
/-
One step of the program at a time: what a device holds before and after a signal, the barrier wait, a store of a chunk,
a transfer of a chunk, a transfer of the maximum, a wait for a landing. Each step is stated over the program that follows
it, with whatever else the device holds beside.
-/
module

public import proofs.«01_k».proof.Proof.KISlots

@[expose] public section

set_option maxRecDepth 16384

noncomputable section

namespace Cert.KI

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx (ix2 ix3)

variable {F : FTy → Type} [FloatOps F]

local notation "𝕄" => MT nD τ sig Unit (Elt F) ℕ UU ℕ

abbrev 𝒱₀ : Variants := Variants.none

/-- A program of device `c` runs to `Q`. -/
abbrev WP (c : Dev nD) {α : Type} (p : Prog (TpuEff nD τ sig (Elt F) Λ₀ .tc) α) (Q : α → sProp 𝕄) : sProp 𝕄 :=
  wp frame (wpE (defs₀ (F := F)) 𝒱₀ (c : Thread nD τ) none) Set.univ p Q

/-- From `S`, device `c` running `p` reaches `Q`. -/
@[irreducible] def Runs {α : Type} (S : sProp (MT nD τ sig Unit (Elt F) ℕ UU ℕ)) (c : Dev nD) (p : Prog (TpuEff nD τ sig (Elt F) Λ₀ .tc) α)
    (Q : α → sProp (MT nD τ sig Unit (Elt F) ℕ UU ℕ)) : Prop := S ⊢ WP c p Q

theorem bigSep_split {I : Type} [Fintype I] [DecidableEq I] (p : I) (Φ : I → sProp 𝕄) :
    bigSep Finset.univ Φ = iprop(Φ p ∗ bigSep (Finset.univ.erase p) Φ) := bigSep_univ_split p

/-- Replace one member of a family held. -/
theorem bigSep_update {I : Type} [Fintype I] [DecidableEq I] {Φ Ψ : I → sProp 𝕄} (p : I) (h : ∀ q, q ≠ p → Φ q = Ψ q) :
    bigSep Finset.univ Φ ⊢ iprop(Φ p ∗ (Ψ p -∗ bigSep Finset.univ Ψ)) := by
  rw [bigSep_split p, bigSep_split p Ψ, bigSep_congr fun q hq => h q (Finset.ne_of_mem_erase hq)]
  iintro ⟨H1, H2⟩
  isplitl [H1]; · iexact H1
  iintro H3
  isplitl [H3] <;> iassumption

/-! ## What every device knows -/

/-- The cells: the barrier and the four arrays, on each device. -/
def cellAt : Dev nD × Option (Fin 4 × Fin 32) → GSem nD τ sig
  | (c, none) => barCell c
  | (c, some (k, p)) => dcell k c p

section Steps
variable (P : Dev nD → Fin 8 → FVec F S128x256 .f32) (M : Dev nD → F .f32)
variable (K : Dev nD × Option (Fin 4 × Fin 32) → ℕ)

/-- Every cell follows the schedule and is at round 0; the levels. -/
def recs : sProp 𝕄 :=
  iprop((bigSep Finset.univ fun x => iprop(cellInv ER (rd P M) (K x) (cellAt x) ∗ reached ER (cellAt x) 0)) ∗ levAts L lv)

instance recs_persistent : BI.Persistent (recs P M K) := by unfold recs; infer_instance

theorem recs_cell (x : Dev nD × Option (Fin 4 × Fin 32)) :
    recs P M K ⊢ iprop(cellInv ER (rd P M) (K x) (cellAt x) ∗ reached ER (cellAt x) 0) := by
  unfold recs
  iintro ⟨H, -⟩
  iapply (show bigSep Finset.univ (fun x => iprop(cellInv ER (rd P M) (K x) (cellAt x) ∗ reached ER (cellAt x) 0))
    ⊢ iprop(cellInv ER (rd P M) (K x) (cellAt x) ∗ reached ER (cellAt x) 0) from bigSep_elim (Finset.mem_univ x))
  iexact H
theorem recs_lev : recs P M K ⊢ (levAts L lv : sProp 𝕄) := by unfold recs; iintro ⟨-, H⟩; iexact H

/-! ## Signals -/

variable (c : Dev nD)

/-- Of peer `q` after `n` signals: if not yet signalled, the right to signal it and the slots to hand it; and the own slots. -/
def slotA (n : ℕ) (q : Dev nD) : sProp 𝕄 :=
  if q = c then iprop((∃ f, rPts c c f) ∗ aPts c c (maxTab M c))
  else if n < dist c q then iprop(dutyTok ER (barCell q) 0 c ∗ (∃ f, rPts c q f) ∗ ∃ f, aPts c q f) else iprop(emp)

/-- Device `c` after `n` signals. -/
def A (n : ℕ) : sProp 𝕄 :=
  iprop((∃ W, owes (c : Thread nD τ) (OB c n + (OD c 0 + OA c 0)) W) ∗ bigSep Finset.univ (slotA M c n))

variable {c}
variable {R : sProp (MT nD τ sig Unit (Elt F) ℕ UU ℕ)} {α : Type} {Q : α → sProp (MT nD τ sig Unit (Elt F) ℕ UU ℕ)}

theorem step_signal (n : ℕ) {q : Dev nD} {s : Sem sig} {amt : ℤ} (hs : s = barS) (ha : amt = (1 : ℕ)) (hq : dist c q = n + 1)
    {k : PUnit → Prog (TpuEff nD τ sig (Elt F) Λ₀ .tc) α}
    (h : Runs iprop(recs P M K ∗ A M c (n + 1) ∗ R) c (k ⟨⟩) Q) :
    Runs iprop(recs P M K ∗ A M c n ∗ R) c (.op (.semSignal (q, .tc) s amt) k) Q := by
  unfold Runs at h ⊢
  subst hs ha
  have hqc : q ≠ c := by rintro rfl; unfold dist at hq; have := q.isLt; simp only [nD] at *; omega
  unfold A
  iintro ⟨#Hr, ⟨⟨%W, HO⟩, HB⟩, HR⟩
  ihave Hq := (recs_cell P M K (q, none)) $$ Hr
  icases Hq with ⟨Hinv, Hre⟩
  ihave HB := (bigSep_update (Ψ := slotA M c (n + 1)) q (fun x hx => by
    unfold slotA
    by_cases hxc : x = c
    · rw [if_pos hxc, if_pos hxc]
    · rw [if_neg hxc, if_neg hxc]
      have : dist c x ≠ n + 1 := fun he => hx (by
        unfold dist at he hq; have := x.isLt; have := q.isLt; have := c.isLt; simp only [nD] at *; exact Fin.ext (by omega))
      by_cases hn : n < dist c x
      · rw [if_pos hn, if_pos (by omega)]
      · rw [if_neg hn, if_neg (by omega)])) $$ HB
  icases HB with ⟨Hs, HB⟩
  ihave Hs := (Entails.of_eq (show slotA M c n q = iprop(dutyTok ER (barCell q) 0 c ∗ (∃ f, rPts c q f) ∗ ∃ f, aPts c q f) by
    unfold slotA; rw [if_neg hqc, if_pos (by omega)])) $$ Hs
  icases Hs with ⟨Ht, Hp⟩
  iapply (Rounds.wp_signal 𝒱₀ ER (rd P M) (c : Thread nD τ) none (dst := (q : Thread nD τ)) (κ := K (q, none))
      (d := c) (by rw [duties_bar]; exact Finset.mem_erase.mpr ⟨hqc.symm, Finset.mem_univ _⟩) (amount_bar P M q c) ()
      (O₀ := OB c n + (OD c 0 + OA c 0)) (OB c (n + 1) + (OD c 0 + OA c 0))
      (by unfold OB; rw [(later_succ c q n hq).1, Finset.sum_insert (later_succ c q n hq).2, add_assoc, add_comm])) $$ [HO Ht Hp Hinv Hre]
  · isplitl [Hinv]; · iexact Hinv
    isplitl [HO]; · iexact HO
    isplitl [Ht]; · iexact Ht
    isplitl [Hp]; · rw [payload_bar]; unfold barPay; iexact Hp
    iexact Hre
  iintro HO
  iapply h
  isplitr; · iexact Hr
  isplitr [HR]
  · unfold A
    isplitl [HO]; · iexists W; iexact HO
    iapply HB
    unfold slotA; rw [if_neg hqc, if_neg (by omega)]; iempintro
  · iexact HR

/-! ## The barrier wait -/

theorem OD_pos {c : Dev nD} {n : ℕ} {g : GSem nD τ sig} {u : Unit} (h : 0 < OD c n g u) : ∃ q, g = dcell 1 q c := by
  unfold OD at h
  by_contra hn
  rw [Finset.sum_apply, Finsupp.finset_sum_apply] at h
  refine absurd h (Nat.not_lt.mpr (le_of_eq (Finset.sum_eq_zero fun q _ => ?_)))
  rw [tallyAt_apply, if_neg fun h' => hn ⟨q, h'.1⟩]
theorem OA_pos {c : Dev nD} {n : ℕ} {g : GSem nD τ sig} {u : Unit} (h : 0 < OA c n g u) : ∃ q, g = dcell 3 q c := by
  unfold OA at h
  by_contra hn
  rw [Finset.sum_apply, Finsupp.finset_sum_apply] at h
  refine absurd h (Nat.not_lt.mpr (le_of_eq (Finset.sum_eq_zero fun q _ => ?_)))
  rw [tallyAt_apply, if_neg fun h' => hn ⟨q, h'.1⟩]
theorem OB_pos {c : Dev nD} {n : ℕ} {g : GSem nD τ sig} {u : Unit} (h : 0 < OB c n g u) : ∃ q, g = barCell q := by
  unfold OB at h
  by_contra hn
  rw [Finset.sum_apply, Finsupp.finset_sum_apply] at h
  refine absurd h (Nat.not_lt.mpr (le_of_eq (Finset.sum_eq_zero fun q _ => ?_)))
  rw [tallyAt_apply, if_neg fun h' => hn ⟨q, h'.1⟩]

/-- Whatever a device owes in chunks and maxima lies above its barrier cell. -/
theorem mayWait_bar (c : Dev nD) (n m : ℕ) : (levAts L lv : sProp 𝕄) ⊢ MayWait (c : Thread nD τ) (.reg barS) () (OD c n + OA c m) := by
  have hp : ∀ (g : GSem nD τ sig) (u : Unit), 0 < (OD c n + OA c m) g u → ∃ k q, k.val % 2 = 1 ∧ g = dcell k q c := fun g u h => by
    rw [Pi.add_apply, Finsupp.add_apply] at h
    rcases Nat.eq_zero_or_pos (OD c n g u) with h0 | h0
    · obtain ⟨q, hq⟩ := OA_pos (c := c) (n := m) (g := g) (u := u) (by omega); exact ⟨3, q, rfl, hq⟩
    · obtain ⟨q, hq⟩ := OD_pos h0; exact ⟨1, q, rfl, hq⟩
  refine MayOwe.of_cut (L := L) (lev := lv) 1 (fun p hp => by rw [Finset.mem_singleton.mp hp, L_tc]; exact Finset.mem_singleton_self _)
    (fun g u hg => ?_) (fun p hp => by rw [Finset.mem_singleton.mp hp]; exact le_of_eq (lv_bar c)) (fun g u hg => ?_)
  · obtain ⟨k, q, hk, rfl⟩ := hp g u hg; rw [L_tc]; exact Finset.mem_singleton_self _
  · obtain ⟨k, q, hk, rfl⟩ := hp g u hg; rw [lv_dma, if_pos hk]; decide

theorem slotA_self (n : ℕ) : slotA M c n c = iprop((∃ f, rPts c c f) ∗ aPts c c (maxTab M c)) := by
  unfold slotA; exact if_pos rfl

variable (c) in
/-- Device `c` with the barrier behind it: the other devices' slots, and its own. -/
def B : sProp 𝕄 :=
  iprop((∃ W, owes (c : Thread nD τ) (OD c 0 + OA c 0) W) ∗ ((∃ f, rPts c c f) ∗ aPts c c (maxTab M c))
    ∗ bigSep (Finset.univ.erase c) fun q => iprop((∃ f, rPts q c f) ∗ ∃ f, aPts q c f))

theorem step_barrier {s : Sem sig} {amt : ℤ} (hs : s = barS) (ha : amt = (31 : ℕ))
    {k : PUnit → Prog (TpuEff nD τ sig (Elt F) Λ₀ .tc) α}
    (h : Runs iprop(recs P M K ∗ B M c ∗ atPos ER (barCell c) 1 ∅ 0 ∗ R) c (k ⟨⟩) Q) :
    Runs iprop(recs P M K ∗ A M c 31 ∗ (cred (tallyAt (barCell c) () 31) ∗ atPos ER (barCell c) 0 ∅ 0) ∗ R) c (.op (.semWait s amt) k) Q := by
  unfold Runs at h ⊢
  subst hs ha
  unfold A
  iintro ⟨#Hr, ⟨⟨%W, HO⟩, HB⟩, ⟨Hc, Hat⟩, HR⟩
  ihave Hq := (recs_cell P M K (c, none)) $$ Hr
  icases Hq with ⟨Hinv, -⟩
  ihave #Hlev := (recs_lev P M K) $$ Hr
  rw [show OB c 31 + (OD c 0 + OA c 0) = OD c 0 + OA c 0 by unfold OB; rw [later_31, Finset.sum_empty, zero_add]]
  iapply (Rounds.wp_wait_rest_token 𝒱₀ ER (rd P M) (c : Thread nD τ) none (κ := K (c, none))
      (wpE_semWait_eq 𝒱₀ (c : Thread nD τ) none Set.univ) (Set.mem_univ _) () (O := OD c 0 + OA c 0) (W := W) (R := 0) (m := 0) (T := ∅)
      (by rw [expect_bar])) $$ [Hc HO Hat Hinv]
  · isplitl [Hinv]; · iexact Hinv
    isplitl [Hc]; · iexact Hc
    isplitl [HO]; · iexact HO
    isplitr; · iapply (mayWait_bar c 0 0); iexact Hlev
    iexact Hat
  iintro ⟨HO, Hat, -, Hpay⟩
  ihave Hp := (Entails.of_eq (rest_bar P M c)) $$ Hpay
  iapply h
  isplitr; · iexact Hr
  isplitr [HR Hat]
  · unfold B barPay
    isplitl [HO]; · iexists _; iexact HO
    isplitl [HB]
    · ihave HB := (Entails.of_eq (bigSep_split c (slotA M c 31))) $$ HB
      icases HB with ⟨HB, -⟩
      ihave HB := (Entails.of_eq (slotA_self M 31)) $$ HB
      iexact HB
    · iexact Hp
  isplitl [Hat]; · iexact Hat
  iexact HR

/-! ## Chunks -/

variable (c) in
/-- Of chunk `q` after `a` chunks stored, `b` sent and `d` own ones stored: its slot of the send buffer, or the credit of its transfer;
    if not yet sent, the right to send it and the slot it goes to; if the own one, the slot of the receive buffer. -/
def slotD (a b d : ℕ) (q : Dev nD) : sProp 𝕄 :=
  iprop((if q ≠ c ∧ q.val < b then cred (tallyAt (dcell 0 c q) () ND) else if q.val < a then sPts c q (sendBuf P c) else iprop(∃ f, sPts c q f))
    ∗ (if q = c then (if q.val < d then rPts c c (recvBuf P c) else iprop(∃ f, rPts c c f))
        else if q.val < b then iprop(emp) else iprop(dutyTok ER (dcell 0 c q) 0 q ∗ dutyTok ER (dcell 1 q c) 0 c ∗ ∃ f, rPts q c f)))

variable (c) in
/-- Device `c` with `a` chunks stored, `b` sent and `d` own ones stored. -/
def D (a b d : ℕ) : sProp 𝕄 :=
  iprop((∃ W, owes (c : Thread nD τ) (OD c b + OA c 0) W) ∗ bigSep Finset.univ (slotD P c a b d))

/-- A load of slot `n` of the send buffer before it is stored. -/
theorem step_load_s (n : ℕ) (hn : n < 32) {inb : ∀ a, (![n, 0, 0] : Fin 3 → ℕ) a + S1x128x64.size a ≤ S32x128x64.size a} {hl}
    {k : (S1x128x64.Idx → Elt F .f32) → Prog (TpuEff nD τ sig (Elt F) Λ₀ .tc) α}
    (h : ∀ v, Runs iprop(recs P M K ∗ D P c n n n ∗ R) c (k v) Q) :
    Runs iprop(recs P M K ∗ D P c n n n ∗ R) c (.op (.load sM (Rect.unit (s := S32x128x64) ![n, 0, 0] S1x128x64.size inb).toLoadRect hl) k) Q := by
  unfold Runs at h ⊢
  unfold D
  iintro ⟨#Hr, ⟨⟨%W, HO⟩, HB⟩, HR⟩
  ihave HB := (bigSep_update (Ψ := slotD P c n n n) (⟨n, hn⟩ : Fin 32) (fun x hx => rfl)) $$ HB
  icases HB with ⟨Hs, HB⟩
  ihave Hs := (Entails.of_eq (show slotD P c n n n (⟨n, hn⟩ : Fin 32) = iprop((∃ f, sPts c (⟨n, hn⟩ : Fin 32) f) ∗ _) by
    unfold slotD; rw [if_neg (fun h => Nat.lt_irrefl _ h.2), if_neg (Nat.lt_irrefl _)])) $$ Hs
  icases Hs with ⟨⟨%f, Hs⟩, Hx⟩
  unfold sPts
  iapply (wp_load_rect 𝒱₀ (c : Thread nD τ) none Set.univ (m := sM) (r := Rect.unit (s := S32x128x64) ![n, 0, 0] S1x128x64.size inb)
    (S := (sSlot ⟨n, hn⟩).view.set) (q := fullShare) (f := f) (by rw [sSlot_set]; exact subset_of_eq (View.set_slice_whole _ _))) $$ [Hs]
  · iexact Hs
  iintro Hs
  iapply (h _)
  isplitr; · iexact Hr
  isplitr [HR]
  · unfold D
    isplitl [HO]; · iexists W; iexact HO
    iapply HB
    iapply (Entails.of_eq (show iprop((∃ f, sPts c (⟨n, hn⟩ : Fin 32) f) ∗ _) = slotD P c n n n (⟨n, hn⟩ : Fin 32) by
      unfold slotD; rw [if_neg (fun h => Nat.lt_irrefl _ h.2), if_neg (Nat.lt_irrefl _)]))
    isplitl [Hs]; · iexists f; unfold sPts; iexact Hs
    iexact Hx
  · iexact HR

theorem lt_succ_ne {x : Dev nD} {n : ℕ} {hn : n < 32} (h : x ≠ (⟨n, hn⟩ : Fin 32)) : x.val < n + 1 ↔ x.val < n := by
  have : x.val ≠ n := fun e => h (Fin.ext e); omega

/-- A store of chunk `n` into its slot of the send buffer. -/
theorem step_store_s (n : ℕ) (hn : n < 32) {inb : ∀ a, (![n, 0, 0] : Fin 3 → ℕ) a + S1x128x64.size a ≤ S32x128x64.size a} {hx hm}
    {v : S1x128x64.Idx → Elt F .f32} (hv : ∀ i j, v (ix3 (⟨0, Nat.one_pos⟩ : Fin 1) i j) = chunk P c ⟨n, hn⟩ i j)
    {k : PUnit → Prog (TpuEff nD τ sig (Elt F) Λ₀ .tc) α}
    (h : Runs iprop(recs P M K ∗ D P c (n + 1) n n ∗ R) c (k ⟨⟩) Q) :
    Runs iprop(recs P M K ∗ D P c n n n ∗ R) c (.op (.store sM (Rect.unit (s := S32x128x64) ![n, 0, 0] S1x128x64.size inb) v Finset.univ hx hm) k) Q := by
  unfold Runs at h ⊢
  unfold D
  iintro ⟨#Hr, ⟨⟨%W, HO⟩, HB⟩, HR⟩
  ihave HB := (bigSep_update (Ψ := slotD P c (n + 1) n n) (⟨n, hn⟩ : Fin 32) (fun x hx => by
    unfold slotD; simp only [lt_succ_ne hx])) $$ HB
  icases HB with ⟨Hs, HB⟩
  ihave Hs := (Entails.of_eq (show slotD P c n n n (⟨n, hn⟩ : Fin 32) = iprop((∃ f, sPts c (⟨n, hn⟩ : Fin 32) f) ∗ _) by
    unfold slotD; rw [if_neg (fun h => Nat.lt_irrefl _ h.2), if_neg (Nat.lt_irrefl _)])) $$ Hs
  icases Hs with ⟨⟨%f, Hs⟩, Hx⟩
  unfold sPts
  iapply (wp_store 𝒱₀ (c : Thread nD τ) none Set.univ (m := sM) (r := Rect.unit (s := S32x128x64) ![n, 0, 0] S1x128x64.size inb)
    (S := (sSlot ⟨n, hn⟩).view.set) (f := f) (by rw [sSlot_set]; exact subset_of_eq (View.set_slice_whole _ _))) $$ [Hs]
  · iexact Hs
  iintro Hs
  iapply h
  isplitr; · iexact Hr
  isplitr [HR]
  · unfold D
    isplitl [HO]; · iexists W; iexact HO
    iapply HB
    iapply (Entails.of_eq (show iprop(sPts c (⟨n, hn⟩ : Fin 32) (sendBuf P c) ∗ _) = slotD P c (n + 1) n n (⟨n, hn⟩ : Fin 32) by
      unfold slotD; rw [if_neg (fun h => Nat.lt_irrefl _ h.2), if_pos (Nat.lt_succ_self _)]))
    isplitl [Hs]
    · iapply (Entails.of_eq (sPts_congr c (p := ⟨n, hn⟩) (f := _) (g := sendBuf P c) fun i hi => by
        refine (write_s ⟨n, hn⟩ f v i hi).trans ((hv _ _).trans ?_)
        unfold sendBuf
        exact congrArg (fun q => chunk P c q (i 1) (i 2)) (Fin.ext hi.symm)))
      unfold sPts; iexact Hs
    · iexact Hx
  · iexact HR

theorem credit_data (k : Fin 4) (h : k.val < 2) : credit k = ND := if_pos h
theorem credit_max (k : Fin 4) (h : ¬ k.val < 2) : credit k = NA := if_neg h

/-- Slot `p` of device `c`'s send buffer landed on slot `c` of device `p`'s receive buffer is the chunk sent. -/
theorem send_lands (c p : Dev nD) (f) :
    ((rSlot c).view.loc (p : Thread nD τ) ↦[(rSlot c).view.set]{fullShare} ((rSlot c).view.write (Elt F) f ((sSlot p).view.read (Elt F) (sendBuf P c)) Finset.univ) : sProp 𝕄)
      ⊢ rPts p c (recvBuf P p) := by
  refine Entails.of_eq (rPts_congr p (p := c) fun i hi => ?_)
  refine (land_r c f _ i hi).trans ((read_s p _ _ _).trans ?_)
  exact congrArg (fun q => chunk P q p (i 1) (i 2)) (Fin.ext hi.symm)

theorem credit_r (p : Fin 32) : (rSlot p).view.dmaCredit = ND := rfl

/-- The rule for the transfer of chunk `p` from device `c`. -/
theorem wp_send_chunk (c p : Dev nD) (hpc : p ≠ c) {hsc : (rSlot c : Memref sig (Dev.tc p : Thread nD τ).2.kind .vmem S128x64 .f32).view.ref.isScScratch = false}
    {hsrc : (sSlot p).view.WordExact} {hdst : (rSlot c).view.WordExact}
    {hsem : DmaTarget.Typed .vmem (.dma (dsem 1 c)) (.remote (Dev.tc p : Thread nD τ) (rSlot c : Memref sig (Dev.tc p : Thread nD τ).2.kind .vmem S128x64 .f32) (.dma (dsem 0 p)) hsc)}
    {k : PUnit → Prog (TpuEff nD τ sig (Elt F) Λ₀ .tc) α} (f) (W : Waits sig Unit) (O O' : CellTallies nD τ sig Unit) (hO : O = O' + tallyAt (dcell 1 p c) () ND) :
    iprop(cellInv ER (rd P M) (K (c, some (0, p))) (dcell 0 c p) ∗ cellInv ER (rd P M) (K (p, some (1, c))) (dcell 1 p c)
        ∗ sPts c p (sendBuf P c) ∗ rPts p c f ∗ owes (c : Thread nD τ) O W
        ∗ dutyTok ER (dcell 0 c p) 0 p ∗ reached ER (dcell 0 c p) 0 ∗ dutyTok ER (dcell 1 p c) 0 c ∗ reached ER (dcell 1 p c) 0)
      ⊢ iprop(((cred (tallyAt (dcell 0 c p) () ND) ∗ owes (c : Thread nD τ) O' W) -∗ WP c (k ⟨⟩) Q)
          -∗ WP c (.op (.enqueueDma (sSlot p) (.remote (Dev.tc p : Thread nD τ) (rSlot c) (.dma (dsem 0 p)) hsc) (.dma (dsem 1 c)) hsrc hdst hsem) k) Q) := by
  have e1 := duties_dma P M c p 0 hpc
  have e2 := duties_dma P M p c 1 hpc.symm
  have a1 := (amount_dma P M c p 0 p).trans (credit_data 0 (by decide))
  have a2 := (amount_dma P M p c 1 c).trans (credit_data 1 (by decide))
  have p1 : (rd P M).payload (dcell 0 c p) 0 p = sPts c p (sendBuf P c) := (payload_dma P M c p 0 p).trans (by unfold pay; rfl)
  have p2 : (rd P M).payload (dcell 1 p c) 0 c = rPts p c (recvBuf P p) := (payload_dma P M p c 1 c).trans (by unfold pay; rfl)
  have hN : (rSlot c).view.amount (.dma (dsem 1 c) : SemLoc sig) = ND := credit_r c
  exact Rounds.wp_send_pointsTo 𝒱₀ ER (rd P M) (c : Thread nD τ) none (κ₁ := K (c, some (0, p))) (κ₂ := K (p, some (1, c)))
    (r₁ := 0) (r₂ := 0) (d₁ := p) (d₂ := c) (c' := (Dev.tc p : Thread nD τ)) (src := sSlot p) (dst := (rSlot c : Memref sig (Dev.tc p : Thread nD τ).2.kind .vmem S128x64 .f32)) (hsc := hsc) (sS := .dma (dsem 0 p)) (sem := .dma (dsem 1 c)) (fd := f) (q := fullShare) (fs := sendBuf P c)
    (by rw [e1]; exact Finset.mem_singleton_self _) (by rw [e2]; exact Finset.mem_singleton_self _)
    () () ND hN a1 a2 O' hO (W := W)
    (by rw [p1]; exact Entails.refl _) (by rw [p2]; exact send_lands P c p f)

/-- The transfer of chunk `p` to device `p`. -/
theorem step_send (n : ℕ) (hn : n < 32) (hnc : c.val ≠ n) {sS sR : DmaSem sig} (hS : sS = dsem 0 ⟨n, hn⟩) (hR : sR = dsem 1 c) {q : Dev nD}
    (hq : q = (⟨n, hn⟩ : Fin 32)) {src dst : Memref sig .tc .vmem S128x64 .f32} (h1 : src = sSlot ⟨n, hn⟩) (h2 : dst = rSlot c)
    {hsc hsrc hdst hsem} {k : PUnit → Prog (TpuEff nD τ sig (Elt F) Λ₀ .tc) α}
    (h : Runs iprop(recs P M K ∗ D P c (n + 1) (n + 1) n ∗ R) c (k ⟨⟩) Q) :
    Runs iprop(recs P M K ∗ D P c (n + 1) n n ∗ R) c (.op (.enqueueDma src (.remote (q : Thread nD τ) dst (.dma sS) hsc) (.dma sR) hsrc hdst hsem) k) Q := by
  unfold Runs at h ⊢
  subst hS hR hq h1 h2
  have hqc : (⟨n, hn⟩ : Dev nD) ≠ c := fun e => hnc (congrArg Fin.val e).symm
  have hu := upto_succ c ⟨n, hn⟩ hqc
  unfold D
  iintro ⟨#Hr, ⟨⟨%W, HO⟩, HB⟩, HR⟩
  ihave Hq := (recs_cell P M K (c, some (0, ⟨n, hn⟩))) $$ Hr
  icases Hq with ⟨Hi1, Hr1⟩
  ihave Hq := (recs_cell P M K (⟨n, hn⟩, some (1, c))) $$ Hr
  icases Hq with ⟨Hi2, Hr2⟩
  ihave HB := (bigSep_update (Ψ := slotD P c (n + 1) (n + 1) n) (⟨n, hn⟩ : Fin 32) (fun x hx => by
    unfold slotD; simp only [lt_succ_ne hx])) $$ HB
  icases HB with ⟨Hs, HB⟩
  ihave Hs := (Entails.of_eq (show slotD P c (n + 1) n n (⟨n, hn⟩ : Fin 32) = iprop(sPts c (⟨n, hn⟩ : Fin 32) (sendBuf P c)
      ∗ dutyTok ER (dcell 0 c ⟨n, hn⟩) 0 ⟨n, hn⟩ ∗ dutyTok ER (dcell 1 ⟨n, hn⟩ c) 0 c ∗ ∃ f, rPts ⟨n, hn⟩ c f) by
    unfold slotD; rw [if_neg (fun h => Nat.lt_irrefl _ h.2), if_pos (Nat.lt_succ_self _), if_neg hqc, if_neg (Nat.lt_irrefl _)])) $$ Hs
  icases Hs with ⟨Hs, Ht1, Ht2, %f, Hd⟩
  iapply (wp_send_chunk P M K c ⟨n, hn⟩ hqc f W (OD c n + OA c 0) (OD c (n + 1) + OA c 0)
    (by unfold OD; rw [hu.1, Finset.sum_insert hu.2, add_assoc, add_comm])) $$ [HO Hs Hd Ht1 Ht2 Hi1 Hi2 Hr1 Hr2]
  · isplitl [Hi1]; · iexact Hi1
    isplitl [Hi2]; · iexact Hi2
    isplitl [Hs]; · iexact Hs
    isplitl [Hd]; · iexact Hd
    isplitl [HO]; · iexact HO
    isplitl [Ht1]; · iexact Ht1
    isplitl [Hr1]; · iexact Hr1
    isplitl [Ht2]; · iexact Ht2
    iexact Hr2
  iintro ⟨Hc, HO⟩
  iapply h
  isplitr; · iexact Hr
  isplitr [HR]
  · unfold D
    isplitl [HO]; · iexists W; iexact HO
    iapply HB
    unfold slotD; rw [if_pos ⟨hqc, Nat.lt_succ_self _⟩, if_neg hqc, if_pos (Nat.lt_succ_self _)]
    isplitl [Hc]; · iexact Hc
    iempintro
  · iexact HR

/-! ## Conditionals on the device's place -/

/-- The word of a device's place on its axis. -/
def myW (c : Dev nD) : BitVec 32 := Scalar.remsi (Scalar.divsi (Dev.word c) 1#32) 32#32

theorem cond_ne : ∀ (n : Fin 32) (c : Dev nD),
    Scalar.cmpi .ne (Scalar.extui (Scalar.cmpi .ne (myW c) (BitVec.ofNat 32 n.val)) : BitVec 32) 0#32 = 1#1 ↔ c.val ≠ n.val := by decide +kernel
theorem cond_eq : ∀ (n : Fin 32) (c : Dev nD),
    Scalar.cmpi .ne (Scalar.extui (Scalar.cmpi .eq (myW c) (BitVec.ofNat 32 n.val)) : BitVec 32) 0#32 = 1#1 ↔ c.val = n.val := by decide +kernel

/-- An operation followed by a program. -/
theorem of_op {β : Type} {e : TpuEff nD τ sig (Elt F) Λ₀ .tc β} {k : β → Prog (TpuEff nD τ sig (Elt F) Λ₀ .tc) α} {S : sProp (MT nD τ sig Unit (Elt F) ℕ UU ℕ)}
    (h : Runs S c (.op e k) Q) : Runs S c (Prog.lift e >>= k) Q := by
  unfold Runs at h ⊢; exact h

theorem of_op_wand {β : Type} {e : TpuEff nD τ sig (Elt F) Λ₀ .tc β} {k : β → Prog (TpuEff nD τ sig (Elt F) Λ₀ .tc) α} :
    WP c (.op e k) Q ⊢ WP c (Prog.lift e >>= k) Q := by
  show WP c (.op e k) Q ⊢ WP c (.op e k) Q
  iintro H; iexact H
theorem of_signal {d : Dev nD} {s : Sem sig} {w : BitVec 32} {k : PUnit → Prog (TpuEff nD τ sig (Elt F) Λ₀ .tc) α} {S : sProp (MT nD τ sig Unit (Elt F) ℕ UU ℕ)}
    (h : Runs S c (.op (.semSignal (d, .tc) s w.toInt) k) Q) : Runs S c (semSignalWord d s w >>= k) Q := by
  unfold Runs at h ⊢; exact h

theorem of_wait {s : Sem sig} {w : BitVec 32} {k : PUnit → Prog (TpuEff nD τ sig (Elt F) Λ₀ .tc) α} {S : sProp (MT nD τ sig Unit (Elt F) ℕ UU ℕ)}
    (h : Runs S c (.op (.semWait s w.toInt) k) Q) : Runs S c (semWaitWord s w >>= k) Q := by
  unfold Runs at h ⊢; exact h

theorem of_pure {a : α} {S : sProp (MT nD τ sig Unit (Elt F) ℕ UU ℕ)} (h : S ⊢ Q a) : Runs S c (pure a) Q := by
  unfold Runs
  show S ⊢ wp _ _ _ (.ret a) _
  rw [wp_ret]; iintro H; imodintro; iapply h; iexact H

/-- A branch taken or not, what follows proved once. -/
theorem step_dite {cond : BitVec 1} {i : Decidable (cond = 1#1)} {S : sProp (MT nD τ sig Unit (Elt F) ℕ UU ℕ)}
    {T : cond = 1#1 → Prog (TpuEff nD τ sig (Elt F) Λ₀ .tc) α} {J : ¬ cond = 1#1 → Prog (TpuEff nD τ sig (Elt F) Λ₀ .tc) α}
    (ht : ∀ h, Runs S c (T h) Q) (hj : ∀ h, Runs S c (J h) Q) : Runs S c (dite (cond = 1#1) T J) Q := by
  by_cases h : cond = 1#1
  · rw [dif_pos h]; exact ht h
  · rw [dif_neg h]; exact hj h

theorem slot_off_r {off : Fin 3 → ℕ} {p : Fin 32} (h : off = ![p.val, 0, 0]) (i : ∀ a, off a + S1x128x64.size a ≤ S32x128x64.size a) :
    ((rM : Memref sig .tc .vmem S32x128x64 .f32).slice (Rect.unit (s := S32x128x64) off S1x128x64.size i) (fun _ => rfl)).squeeze S128x64 squeezes_S1x128x64_S128x64 = rSlot p := by
  subst h; rfl
theorem slot_off_a {off : Fin 3 → ℕ} {p : Fin 32} (h : off = ![p.val, 0, 0]) (i : ∀ a, off a + S1x8x128.size a ≤ S32x8x128.size a) :
    ((aM : Memref sig .tc .vmem S32x8x128 .f32).slice (Rect.unit (s := S32x8x128) off S1x8x128.size i) (fun _ => rfl)).squeeze S8x128 squeezes_S1x8x128_S8x128 = aSlot p := by
  subst h; rfl
theorem sem_off1 {off : Fin 1 → ℕ} {p : Fin 32} (h : off = ![p.val]) (i : ∀ a, off a + S1.size a ≤ S32.size a) :
    ((cc0_scratch5.slice (Rect.unit (s := S32) off S1.size i)).squeeze S_ squeezes_S1_S_).sem = dsem 1 p := by
  subst h; exact sem_eq1 p
theorem sem_off3 {off : Fin 1 → ℕ} {p : Fin 32} (h : off = ![p.val]) (i : ∀ a, off a + S1.size a ≤ S32.size a) :
    ((cc0_scratch7.slice (Rect.unit (s := S32) off S1.size i)).squeeze S_ squeezes_S1_S_).sem = dsem 3 p := by
  subst h; exact sem_eq3 p

/-- On the device that keeps chunk `n`, sending it is nothing to do. -/
theorem D_skip (a n d : ℕ) (hc : c.val = n) : D P c a n d = D P c a (n + 1) d := by
  subst hc
  have e : slotD P c a c.val d = slotD P c a (c.val + 1) d := by
    funext q
    unfold slotD
    by_cases hq : q = c
    · subst hq; simp
    · have hv : q.val ≠ c.val := fun e => hq (Fin.ext e)
      simp only [show (q.val < c.val) = (q.val < c.val + 1) from propext (by omega)]
  unfold D OD
  rw [e, upto_self]

/-- The conditional transfer of chunk `n`. -/
theorem step_sendC (n : ℕ) (hn : n < 32) {cond : BitVec 1} {i : Decidable (cond = 1#1)} (hc : cond = 1#1 ↔ c.val ≠ n)
    {o1 : Fin 1 → ℕ} {o2 : Fin 3 → ℕ} (ho1 : o1 = ![c.val]) (ho2 : o2 = ![c.val, 0, 0])
    {i1 : ∀ a, (![n, 0, 0] : Fin 3 → ℕ) a + S1x128x64.size a ≤ S32x128x64.size a} {i2 : ∀ a, (![n] : Fin 1 → ℕ) a + S1.size a ≤ S32.size a}
    {i3 : cond = 1#1 → ∀ a, o1 a + S1.size a ≤ S32.size a} {i4 : cond = 1#1 → ∀ a, o2 a + S1x128x64.size a ≤ S32x128x64.size a}
    {dn : ℕ} {q : cond = 1#1 → dn < nD} (hq : dn = n) {hsc : ∀ hh : cond = 1#1, _} {hsrc : ∀ hh : cond = 1#1, _} {hdst : ∀ hh : cond = 1#1, _}
    {hsem : ∀ hh : cond = 1#1, _}
    {J : Prog (TpuEff nD τ sig (Elt F) Λ₀ .tc) α} {k : cond = 1#1 → PUnit → Prog (TpuEff nD τ sig (Elt F) Λ₀ .tc) α} (hk : ∀ hh, k hh ⟨⟩ = J)
    (h : Runs iprop(recs P M K ∗ D P c (n + 1) (n + 1) n ∗ R) c J Q) :
    Runs iprop(recs P M K ∗ D P c (n + 1) n n ∗ R) c (dite (cond = 1#1) (fun hh => Prog.lift (.enqueueDma
          ((sM.slice (Rect.unit (s := S32x128x64) ![n, 0, 0] S1x128x64.size i1) (fun _ => rfl)).squeeze S128x64 squeezes_S1x128x64_S128x64)
          (.remote (Dev.tc (⟨dn, q hh⟩ : Dev nD))
            ((rM.slice (Rect.unit (s := S32x128x64) o2 S1x128x64.size (i4 hh)) (fun _ => rfl)).squeeze S128x64 squeezes_S1x128x64_S128x64)
            (.dma ((cc0_scratch4.slice (Rect.unit (s := S32) ![n] S1.size i2)).squeeze S_ squeezes_S1_S_).sem) (hsc hh))
          (.dma ((cc0_scratch5.slice (Rect.unit (s := S32) o1 S1.size (i3 hh))).squeeze S_ squeezes_S1_S_).sem) (hsrc hh) (hdst hh) (hsem hh)) >>= k hh)
        (fun _ => J)) Q := by
  subst hq
  refine step_dite (fun hh => ?_) fun hh => ?_
  · exact of_op (step_send P M K dn hn (hc.mp hh) (sem_eq0 ⟨dn, hn⟩) (sem_off1 ho1 _) rfl rfl (slot_off_r ho2 _) (by rw [hk]; exact h))
  · rw [D_skip P (dn + 1) dn dn (by by_contra hx; exact hh (hc.mpr hx))]; exact h

/-- The conditional store of the own chunk. -/
theorem step_own (n : ℕ) (hn : n < 32) {cond : BitVec 1} {i : Decidable (cond = 1#1)} (hc : cond = 1#1 ↔ c.val = n)
    {o : Fin 3 → ℕ} (ho : o = ![c.val, 0, 0]) {i1 : cond = 1#1 → ∀ a, o a + S1x128x64.size a ≤ S32x128x64.size a}
    {hl : ∀ hh : cond = 1#1, _} {hx : ∀ hh : cond = 1#1, _} {hm : ∀ hh : cond = 1#1, _}
    {v : S1x128x64.Idx → Elt F .f32} (hv : ∀ i j, v (ix3 (⟨0, Nat.one_pos⟩ : Fin 1) i j) = chunk P c ⟨n, hn⟩ i j)
    {J : Prog (TpuEff nD τ sig (Elt F) Λ₀ .tc) α} {k : cond = 1#1 → PUnit → Prog (TpuEff nD τ sig (Elt F) Λ₀ .tc) α} (hk : ∀ hh, k hh ⟨⟩ = J)
    (h : Runs iprop(recs P M K ∗ D P c (n + 1) (n + 1) (n + 1) ∗ R) c J Q) :
    Runs iprop(recs P M K ∗ D P c (n + 1) (n + 1) n ∗ R) c (dite (cond = 1#1) (fun hh => Prog.lift (.load rM (Rect.unit (s := S32x128x64) o S1x128x64.size (i1 hh)).toLoadRect (hl hh)) >>=
          fun _ => Prog.lift (.store rM (Rect.unit (s := S32x128x64) o S1x128x64.size (i1 hh)) v Finset.univ (hx hh) (hm hh)) >>= k hh)
        (fun _ => J)) Q := by
  subst ho
  refine step_dite (fun hh => ?_) fun hh => ?_
  · have hcn := hc.mp hh
    subst hcn
    unfold Runs at h ⊢
    unfold D
    iintro ⟨#Hr, ⟨⟨%W, HO⟩, HB⟩, HR⟩
    ihave HB := (bigSep_update (Ψ := slotD P c (c.val + 1) (c.val + 1) (c.val + 1)) c (fun x hx => by
      unfold slotD; rw [if_neg hx, if_neg hx])) $$ HB
    icases HB with ⟨Hs, HB⟩
    ihave Hs := (Entails.of_eq (show slotD P c (c.val + 1) (c.val + 1) c.val c = iprop(sPts c c (sendBuf P c) ∗ ∃ f, rPts c c f) by
      unfold slotD; rw [if_neg (fun h => h.1 rfl), if_pos (Nat.lt_succ_self _), if_pos rfl, if_neg (Nat.lt_irrefl _)])) $$ Hs
    icases Hs with ⟨Hx, %f, Hs⟩
    unfold rPts
    iapply (of_op_wand (c := c) (Q := Q))
    iapply (wp_load_rect 𝒱₀ (c : Thread nD τ) none Set.univ (m := rM) (r := cRect c)
      (S := (rSlot c).view.set) (q := fullShare) (f := f) (by rw [rSlot_set]; exact subset_of_eq (View.set_slice_whole _ _))) $$ [Hs]
    · iexact Hs
    iintro Hs
    iapply (of_op_wand (c := c) (Q := Q))
    iapply (wp_store 𝒱₀ (c : Thread nD τ) none Set.univ (m := rM) (r := cRect c)
      (S := (rSlot c).view.set) (f := f) (by rw [rSlot_set]; exact subset_of_eq (View.set_slice_whole _ _))) $$ [Hs]
    · iexact Hs
    iintro Hs
    rw [hk]
    iapply h
    isplitr; · iexact Hr
    isplitr [HR]
    · unfold D
      isplitl [HO]; · iexists W; iexact HO
      iapply HB
      iapply (Entails.of_eq (show iprop(sPts c c (sendBuf P c) ∗ rPts c c (recvBuf P c)) = slotD P c (c.val + 1) (c.val + 1) (c.val + 1) c by
        unfold slotD; rw [if_neg (fun h => h.1 rfl), if_pos (Nat.lt_succ_self _), if_pos rfl, if_pos (Nat.lt_succ_self _)]))
      isplitl [Hx]; · iexact Hx
      iapply (Entails.of_eq (rPts_congr c (p := c) (f := _) (g := recvBuf P c) fun i hi => by
          refine (write_r c f v i hi).trans ((hv _ _).trans ?_)
          unfold recvBuf
          exact congrArg (fun q => chunk P q c (i 1) (i 2)) (Fin.ext hi.symm)))
      unfold rPts; iexact Hs
    · iexact HR
  · have hcn : c.val ≠ n := fun e => hh (hc.mpr e)
    have e : slotD P c (n + 1) (n + 1) n = slotD P c (n + 1) (n + 1) (n + 1) := by
      funext q
      unfold slotD
      by_cases hq : q = c
      · subst hq
        simp only [show (q.val < n) = (q.val < n + 1) from propext (by omega)]
      · rw [if_neg hq, if_neg hq]
    have e' : D P c (n + 1) (n + 1) n = D P c (n + 1) (n + 1) (n + 1) := by unfold D; rw [e]
    rw [e']; exact h

end Steps

end Cert.KI
-- ==== Proof.KIWaits.lean ====
/-
The steps after the chunks: the transfers of the maximum, and the waits for what lands and for what was sent.
-/
module

public import proofs.«01_k».proof.Proof.KISteps

@[expose] public section

set_option maxRecDepth 16384

noncomputable section

namespace Cert.KI

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx (ix2 ix3)

variable {F : FTy → Type} [FloatOps F]

local notation "𝕄" => MT nD τ sig Unit (Elt F) ℕ UU ℕ

/-! ## Programs in sequence -/

section Chain
variable {c : Dev nD} {α : Type} {S S' : sProp (MT nD τ sig Unit (Elt F) ℕ UU ℕ)} {Q : α → sProp (MT nD τ sig Unit (Elt F) ℕ UU ℕ)}

/-- What is held may be rearranged before a program runs. -/
theorem Runs.pre {p : Prog (TpuEff nD τ sig (Elt F) Λ₀ .tc) α} (h : S ⊢ S') (hr : Runs S' c p Q) : Runs S c p Q := by
  unfold Runs at hr ⊢; exact h.trans hr
theorem Runs.out {p : Prog (TpuEff nD τ sig (Elt F) Λ₀ .tc) α} (hr : Runs S c p Q) : S ⊢ WP c p Q := by
  unfold Runs at hr; exact hr
/-- A program that goes on as another. -/
theorem of_bind {β : Type} {p : Prog (TpuEff nD τ sig (Elt F) Λ₀ .tc) β} {k : β → Prog (TpuEff nD τ sig (Elt F) Λ₀ .tc) α}
    (h : Runs S c p (fun a => WP c (k a) Q)) : Runs S c (p >>= k) Q := by
  unfold Runs at h ⊢; unfold WP; rw [wp_bind]; exact h
theorem of_deviceId {k : Dev nD → Prog (TpuEff nD τ sig (Elt F) Λ₀ .tc) α} (h : Runs S c (k c) Q) : Runs S c (Prog.lift .deviceId >>= k) Q := by
  unfold Runs at h ⊢
  show S ⊢ wp _ _ _ (.op .deviceId k) Q
  rw [wp_deviceId]; exact h
end Chain

section Steps
variable (P : Dev nD → Fin 8 → FVec F S128x256 .f32) (M : Dev nD → F .f32)
variable (K : Dev nD × Option (Fin 4 × Fin 32) → ℕ)
variable (c : Dev nD)

/-! ## Maxima -/

/-- Of the maximum for peer `q` after `b` transfers: the credit of the transfer, or the share to send, the right to send it and the slot
    it goes to; of the own one, the share. -/
def slotC (b : ℕ) (q : Dev nD) : sProp 𝕄 :=
  if q = c then mPts c (mShare q) (maxBuf M c)
  else if q.val < b then cred (tallyAt (dcell 2 c q) () NA)
  else iprop(mPts c (mShare q) (maxBuf M c) ∗ dutyTok ER (dcell 2 c q) 0 q ∗ dutyTok ER (dcell 3 q c) 0 c ∗ ∃ f, aPts q c f)

/-- Device `c` with `b` maxima sent. -/
def C (b : ℕ) : sProp 𝕄 := iprop((∃ W, owes (c : Thread nD τ) (OD c 32 + OA c b) W) ∗ bigSep Finset.univ (slotC M c b))

/-- Device `c`'s maximum buffer landed on slot `c` of device `p`'s table. -/
theorem max_lands (c p : Dev nD) (hpc : p ≠ c) (f) :
    ((aSlot c).view.loc (p : Thread nD τ) ↦[(aSlot c).view.set]{fullShare} ((aSlot c).view.write (Elt F) f
      ((mM : Memref sig .tc .vmem S8x128 .f32).view.read (Elt F) (maxBuf M c)) Finset.univ) : sProp 𝕄)
      ⊢ aPts p c (maxTab M p) := by
  refine Entails.of_eq (aPts_congr p (p := c) fun i hi => ?_)
  refine (land_a c f _ i hi).trans ?_
  unfold maxTab
  rw [if_neg (fun h => hpc (Fin.ext (h.symm.trans hi)))]
  exact congrArg M (Fin.ext hi.symm)

variable {c}
variable {R : sProp (MT nD τ sig Unit (Elt F) ℕ UU ℕ)} {α : Type} {Q : α → sProp (MT nD τ sig Unit (Elt F) ℕ UU ℕ)}

theorem credit_a (p : Fin 32) : (aSlot p).view.dmaCredit = NA := rfl

theorem credit_s (p : Fin 32) : (sSlot p).view.dmaCredit = ND := rfl
theorem credit_m : (mM : Memref sig .tc .vmem S8x128 .f32).view.dmaCredit = NA := rfl

/-- The rule for the transfer of the maximum from device `c` to device `p`. -/
theorem wp_send_max (c p : Dev nD) (hpc : p ≠ c) {hsc : (aSlot c : Memref sig (Dev.tc p : Thread nD τ).2.kind .vmem S8x128 .f32).view.ref.isScScratch = false}
    {hsrc : (mM : Memref sig .tc .vmem S8x128 .f32).view.WordExact} {hdst : (aSlot c).view.WordExact}
    {hsem : DmaTarget.Typed .vmem (.dma (dsem 3 c)) (.remote (Dev.tc p : Thread nD τ) (aSlot c : Memref sig (Dev.tc p : Thread nD τ).2.kind .vmem S8x128 .f32) (.dma (dsem 2 p)) hsc)}
    {k : PUnit → Prog (TpuEff nD τ sig (Elt F) Λ₀ .tc) α} (f) (W : Waits sig Unit) (O O' : CellTallies nD τ sig Unit) (hO : O = O' + tallyAt (dcell 3 p c) () NA) :
    iprop(cellInv ER (rd P M) (K (c, some (2, p))) (dcell 2 c p) ∗ cellInv ER (rd P M) (K (p, some (3, c))) (dcell 3 p c)
        ∗ mPts c (mShare p) (maxBuf M c) ∗ aPts p c f ∗ owes (c : Thread nD τ) O W
        ∗ dutyTok ER (dcell 2 c p) 0 p ∗ reached ER (dcell 2 c p) 0 ∗ dutyTok ER (dcell 3 p c) 0 c ∗ reached ER (dcell 3 p c) 0)
      ⊢ iprop(((cred (tallyAt (dcell 2 c p) () NA) ∗ owes (c : Thread nD τ) O' W) -∗ WP c (k ⟨⟩) Q)
          -∗ WP c (.op (.enqueueDma mM (.remote (Dev.tc p : Thread nD τ) (aSlot c) (.dma (dsem 2 p)) hsc) (.dma (dsem 3 c)) hsrc hdst hsem) k) Q) := by
  have e1 := duties_dma P M c p 2 hpc
  have e2 := duties_dma P M p c 3 hpc.symm
  have a1 := (amount_dma P M c p 2 p).trans (credit_max 2 (by decide))
  have a2 := (amount_dma P M p c 3 c).trans (credit_max 3 (by decide))
  have p1 : (rd P M).payload (dcell 2 c p) 0 p = mPts c (mShare p) (maxBuf M c) := (payload_dma P M c p 2 p).trans (by unfold pay; rfl)
  have p2 : (rd P M).payload (dcell 3 p c) 0 c = aPts p c (maxTab M p) := (payload_dma P M p c 3 c).trans (by unfold pay; rfl)
  have hN : (aSlot c).view.amount (.dma (dsem 3 c) : SemLoc sig) = NA := credit_a c
  exact Rounds.wp_send_pointsTo 𝒱₀ ER (rd P M) (c : Thread nD τ) none (κ₁ := K (c, some (2, p))) (κ₂ := K (p, some (3, c)))
    (r₁ := 0) (r₂ := 0) (d₁ := p) (d₂ := c) (c' := (Dev.tc p : Thread nD τ)) (src := mM) (dst := (aSlot c : Memref sig (Dev.tc p : Thread nD τ).2.kind .vmem S8x128 .f32))
    (hsc := hsc) (sS := .dma (dsem 2 p)) (sem := .dma (dsem 3 c)) (fd := f) (q := mShare p) (fs := maxBuf M c)
    (by rw [e1]; exact Finset.mem_singleton_self _) (by rw [e2]; exact Finset.mem_singleton_self _)
    () () NA hN a1 a2 O' hO (W := W)
    (by rw [p1]; exact Entails.refl _) (by rw [p2]; exact max_lands M c p hpc f)

/-- The transfer of the maximum to device `n`. -/
theorem step_max (n : ℕ) (hn : n < 32) (hnc : c.val ≠ n) {sS sR : DmaSem sig} (hS : sS = dsem 2 ⟨n, hn⟩) (hR : sR = dsem 3 c) {q : Dev nD}
    (hq : q = (⟨n, hn⟩ : Fin 32)) {dst : Memref sig .tc .vmem S8x128 .f32} (h2 : dst = aSlot c)
    {hsc hsrc hdst hsem} {k : PUnit → Prog (TpuEff nD τ sig (Elt F) Λ₀ .tc) α}
    (h : Runs iprop(recs P M K ∗ C M c (n + 1) ∗ R) c (k ⟨⟩) Q) :
    Runs iprop(recs P M K ∗ C M c n ∗ R) c (.op (.enqueueDma mM (.remote (q : Thread nD τ) dst (.dma sS) hsc) (.dma sR) hsrc hdst hsem) k) Q := by
  unfold Runs at h ⊢
  subst hS hR hq h2
  have hqc : (⟨n, hn⟩ : Dev nD) ≠ c := fun e => hnc (congrArg Fin.val e).symm
  have hu := upto_succ c ⟨n, hn⟩ hqc
  unfold C
  iintro ⟨#Hr, ⟨⟨%W, HO⟩, HB⟩, HR⟩
  ihave Hq := (recs_cell P M K (c, some (2, ⟨n, hn⟩))) $$ Hr
  icases Hq with ⟨Hi1, Hr1⟩
  ihave Hq := (recs_cell P M K (⟨n, hn⟩, some (3, c))) $$ Hr
  icases Hq with ⟨Hi2, Hr2⟩
  ihave HB := (bigSep_update (Ψ := slotC M c (n + 1)) (⟨n, hn⟩ : Fin 32) (fun x hx => by
    unfold slotC; simp only [lt_succ_ne hx])) $$ HB
  icases HB with ⟨Hs, HB⟩
  ihave Hs := (Entails.of_eq (show slotC M c n (⟨n, hn⟩ : Fin 32) = iprop(mPts c (mShare ⟨n, hn⟩) (maxBuf M c)
      ∗ dutyTok ER (dcell 2 c ⟨n, hn⟩) 0 ⟨n, hn⟩ ∗ dutyTok ER (dcell 3 ⟨n, hn⟩ c) 0 c ∗ ∃ f, aPts ⟨n, hn⟩ c f) by
    unfold slotC; rw [if_neg hqc, if_neg (Nat.lt_irrefl _)])) $$ Hs
  icases Hs with ⟨Hs, Ht1, Ht2, %f, Hd⟩
  iapply (wp_send_max P M K c ⟨n, hn⟩ hqc f W (OD c 32 + OA c n) (OD c 32 + OA c (n + 1))
    (by unfold OA; rw [hu.1, Finset.sum_insert hu.2, add_assoc, add_comm (tallyAt _ _ _)])) $$ [HO Hs Hd Ht1 Ht2 Hi1 Hi2 Hr1 Hr2]
  · isplitl [Hi1]; · iexact Hi1
    isplitl [Hi2]; · iexact Hi2
    isplitl [Hs]; · iexact Hs
    isplitl [Hd]; · iexact Hd
    isplitl [HO]; · iexact HO
    isplitl [Ht1]; · iexact Ht1
    isplitl [Hr1]; · iexact Hr1
    isplitl [Ht2]; · iexact Ht2
    iexact Hr2
  iintro ⟨Hc, HO⟩
  iapply h
  isplitr; · iexact Hr
  isplitr [HR]
  · unfold C
    isplitl [HO]; · iexists W; iexact HO
    iapply HB
    unfold slotC; rw [if_neg hqc, if_pos (Nat.lt_succ_self _)]
    iexact Hc
  · iexact HR

/-- On the device itself there is nothing to send. -/
theorem C_skip (n : ℕ) (hc : c.val = n) : C M c n = C M c (n + 1) := by
  subst hc
  have e : slotC M c c.val = slotC M c (c.val + 1) := by
    funext q
    unfold slotC
    by_cases hq : q = c
    · subst hq; simp
    · have hv : q.val ≠ c.val := fun e => hq (Fin.ext e)
      simp only [show (q.val < c.val) = (q.val < c.val + 1) from propext (by omega)]
  unfold C OA
  rw [e, upto_self]

/-- The conditional transfer of the maximum to device `n`. -/
theorem step_maxC (n : ℕ) (hn : n < 32) {cond : BitVec 1} {i : Decidable (cond = 1#1)} (hc : cond = 1#1 ↔ c.val ≠ n)
    {o1 : Fin 1 → ℕ} {o2 : Fin 3 → ℕ} (ho1 : o1 = ![c.val]) (ho2 : o2 = ![c.val, 0, 0])
    {i2 : ∀ a, (![n] : Fin 1 → ℕ) a + S1.size a ≤ S32.size a}
    {i3 : cond = 1#1 → ∀ a, o1 a + S1.size a ≤ S32.size a} {i4 : cond = 1#1 → ∀ a, o2 a + S1x8x128.size a ≤ S32x8x128.size a}
    {dn : ℕ} {q : cond = 1#1 → dn < nD} (hq : dn = n) {hsc : ∀ hh : cond = 1#1, _} {hsrc : ∀ hh : cond = 1#1, _} {hdst : ∀ hh : cond = 1#1, _}
    {hsem : ∀ hh : cond = 1#1, _}
    {J : Prog (TpuEff nD τ sig (Elt F) Λ₀ .tc) α} {k : cond = 1#1 → PUnit → Prog (TpuEff nD τ sig (Elt F) Λ₀ .tc) α} (hk : ∀ hh, k hh ⟨⟩ = J)
    (h : Runs iprop(recs P M K ∗ C M c (n + 1) ∗ R) c J Q) :
    Runs iprop(recs P M K ∗ C M c n ∗ R) c (dite (cond = 1#1) (fun hh => Prog.lift (.enqueueDma mM
          (.remote (Dev.tc (⟨dn, q hh⟩ : Dev nD))
            ((aM.slice (Rect.unit (s := S32x8x128) o2 S1x8x128.size (i4 hh)) (fun _ => rfl)).squeeze S8x128 squeezes_S1x8x128_S8x128)
            (.dma ((cc0_scratch6.slice (Rect.unit (s := S32) ![n] S1.size i2)).squeeze S_ squeezes_S1_S_).sem) (hsc hh))
          (.dma ((cc0_scratch7.slice (Rect.unit (s := S32) o1 S1.size (i3 hh))).squeeze S_ squeezes_S1_S_).sem) (hsrc hh) (hdst hh) (hsem hh)) >>= k hh)
        (fun _ => J)) Q := by
  subst hq
  refine step_dite (fun hh => ?_) fun hh => ?_
  · exact of_op (step_max P M K dn hn (hc.mp hh) (sem_eq2 ⟨dn, hn⟩) (sem_off3 ho1 _) rfl (slot_off_a ho2 _) (by rw [hk]; exact h))
  · rw [C_skip M dn (by by_contra hx; exact hh (hc.mpr hx))]; exact h

/-! ## Waits -/

variable (c)

/-- Nothing is owed any more. -/
def E : sProp 𝕄 := iprop(∃ W, owes (c : Thread nD τ) 0 W)

/-- Of cell `q` of array `k` after `n` waits: waited for, what landed; not yet, the credit to come. The own cell is never used. -/
def slotW (k : Fin 4) (n : ℕ) (q : Dev nD) : sProp 𝕄 :=
  if q = c then iprop(atPos ER (dcell k c q) 0 ∅ 0 ∗ pay P M k c q)
  else if q.val < n then iprop(atPos ER (dcell k c q) 1 ∅ 0 ∗ pay P M k c q)
  else iprop(cred (tallyAt (dcell k c q) () (credit k)) ∗ atPos ER (dcell k c q) 0 ∅ 0)

/-- Array `k` after `n` waits. -/
def Wt (k : Fin 4) (n : ℕ) : sProp 𝕄 := bigSep Finset.univ (slotW P M c k n)

theorem Wt_skip (k : Fin 4) (n : ℕ) (hc : c.val = n) : Wt P M c k n = Wt P M c k (n + 1) := by
  subst hc
  unfold Wt
  refine bigSep_congr fun q _ => ?_
  unfold slotW
  by_cases hq : q = c
  · subst hq; simp
  · have hv : q.val ≠ c.val := fun e => hq (Fin.ext e)
    simp only [show (q.val < c.val) = (q.val < c.val + 1) from propext (by omega)]

variable {c}

/-- The wait on cell `n` of array `k`. -/
theorem step_wait (k : Fin 4) (n : ℕ) (hn : n < 32) (hnc : c.val ≠ n) {sem : DmaSem sig} (hs : sem = dsem k ⟨n, hn⟩)
    {sp sp' : CoreSpace} {s s' : Shape} {e e' : EltTy} {src : Memref sig .tc sp s e} {dst : Memref sig .tc sp' s' e'} {h1 h2} (hcr : dst.view.dmaCredit = credit k)
    {kk : PUnit → Prog (TpuEff nD τ sig (Elt F) Λ₀ .tc) α}
    (h : Runs iprop(recs P M K ∗ E c ∗ Wt P M c k (n + 1) ∗ R) c (kk ⟨⟩) Q) :
    Runs iprop(recs P M K ∗ E c ∗ Wt P M c k n ∗ R) c (.op (.waitDma2 sem src dst h1 h2) kk) Q := by
  unfold Runs at h ⊢
  subst hs
  have hqc : (⟨n, hn⟩ : Dev nD) ≠ c := fun e => hnc (congrArg Fin.val e).symm
  unfold E Wt
  iintro ⟨#Hr, ⟨%W, HO⟩, HB, HR⟩
  ihave Hq := (recs_cell P M K (c, some (k, ⟨n, hn⟩))) $$ Hr
  icases Hq with ⟨Hi, -⟩
  ihave HB := (bigSep_update (Ψ := slotW P M c k (n + 1)) (⟨n, hn⟩ : Fin 32) (fun x hx => by
    unfold slotW; simp only [lt_succ_ne hx])) $$ HB
  icases HB with ⟨Hs, HB⟩
  ihave Hs := (Entails.of_eq (show slotW P M c k n (⟨n, hn⟩ : Fin 32) = iprop(cred (tallyAt (dcell k c ⟨n, hn⟩) () (credit k)) ∗ atPos ER (dcell k c ⟨n, hn⟩) 0 ∅ 0) by
    unfold slotW; rw [if_neg hqc, if_neg (Nat.lt_irrefl _)])) $$ Hs
  icases Hs with ⟨Hc, Hat⟩
  rw [← hcr]
  iapply (Rounds.wp_wait_rest_token 𝒱₀ ER (rd P M) (c : Thread nD τ) none (κ := K (c, some (k, ⟨n, hn⟩)))
      (wpE_waitDma2_eq 𝒱₀ (c : Thread nD τ) none Set.univ) (Set.mem_univ _) () (O := 0) (W := W) (R := 0) (m := 0) (T := ∅)
      (by rw [Nat.zero_add, expect_dma P M c ⟨n, hn⟩ k hqc, hcr])) $$ [Hc HO Hat Hi]
  · isplitl [Hi]; · iexact Hi
    isplitl [Hc]; · iexact Hc
    isplitl [HO]; · iexact HO
    isplitr; · rw [MayWait_zero]; iempintro
    iexact Hat
  iintro ⟨HO, Hat, -, Hpay⟩
  ihave Hp := (Entails.of_eq (rest_dma P M c ⟨n, hn⟩ k hqc)) $$ Hpay
  iapply h
  isplitr; · iexact Hr
  isplitl [HO]; · unfold E; iexists _; iexact HO
  isplitr [HR]
  · unfold Wt
    iapply HB
    unfold slotW; rw [if_neg hqc, if_pos (Nat.lt_succ_self _)]
    isplitl [Hat]; · iexact Hat
    iexact Hp
  · iexact HR

/-- The conditional wait for what device `n` sends: its chunk and its maximum. -/
theorem step_recv (n : ℕ) (hn : n < 32) {cond : BitVec 1} {i : Decidable (cond = 1#1)} (hc : cond = 1#1 ↔ c.val ≠ n)
    {i1 i1' : ∀ a, (![n] : Fin 1 → ℕ) a + S1.size a ≤ S32.size a} {sp sp' : CoreSpace} {s s' : Shape} {e e' : EltTy}
    {src : cond = 1#1 → Memref sig .tc sp s e} {src' : cond = 1#1 → Memref sig .tc sp' s' e'}
    {i2 : ∀ a, (![n, 0, 0] : Fin 3 → ℕ) a + S1x128x64.size a ≤ S32x128x64.size a} {i3 : ∀ a, (![n, 0, 0] : Fin 3 → ℕ) a + S1x8x128.size a ≤ S32x8x128.size a}
    {h1 : ∀ hh : cond = 1#1, _} {h2 : ∀ hh : cond = 1#1, _} {h3 : ∀ hh : cond = 1#1, _} {h4 : ∀ hh : cond = 1#1, _}
    {J : Prog (TpuEff nD τ sig (Elt F) Λ₀ .tc) α} {k : cond = 1#1 → PUnit → Prog (TpuEff nD τ sig (Elt F) Λ₀ .tc) α} (hk : ∀ hh, k hh ⟨⟩ = J)
    (h : Runs iprop(recs P M K ∗ E c ∗ Wt P M c 1 (n + 1) ∗ Wt P M c 3 (n + 1) ∗ R) c J Q) :
    Runs iprop(recs P M K ∗ E c ∗ Wt P M c 1 n ∗ Wt P M c 3 n ∗ R) c (dite (cond = 1#1) (fun hh =>
        Prog.lift (.waitDma2 ((cc0_scratch5.slice (Rect.unit (s := S32) ![n] S1.size i1)).squeeze S_ squeezes_S1_S_).sem (src hh)
          ((rM.slice (Rect.unit (s := S32x128x64) ![n, 0, 0] S1x128x64.size i2) (fun _ => rfl)).squeeze S128x64 squeezes_S1x128x64_S128x64) (h1 hh) (h2 hh)) >>= fun _ =>
        Prog.lift (.waitDma2 ((cc0_scratch7.slice (Rect.unit (s := S32) ![n] S1.size i1')).squeeze S_ squeezes_S1_S_).sem (src' hh)
          ((aM.slice (Rect.unit (s := S32x8x128) ![n, 0, 0] S1x8x128.size i3) (fun _ => rfl)).squeeze S8x128 squeezes_S1x8x128_S8x128) (h3 hh) (h4 hh)) >>= k hh)
        (fun _ => J)) Q := by
  refine step_dite (fun hh => ?_) fun hh => ?_
  · have hnc := hc.mp hh
    refine of_op (step_wait P M K 1 n hn hnc (sem_eq1 ⟨n, hn⟩) (credit_r ⟨n, hn⟩) ?_)
    refine of_op (Runs.pre (S' := iprop(recs P M K ∗ E c ∗ Wt P M c 3 n ∗ (Wt P M c 1 (n + 1) ∗ R))) ?_
      (step_wait P M K 3 n hn hnc (sem_eq3 ⟨n, hn⟩) (credit_a ⟨n, hn⟩) (Runs.pre ?_ (by rw [hk]; exact h))))
    · iintro ⟨H1, H2, H3, H4, H5⟩
      isplitl [H1]; · iexact H1
      isplitl [H2]; · iexact H2
      isplitl [H4]; · iexact H4
      isplitl [H3]; · iexact H3
      iexact H5
    · iintro ⟨H1, H2, H3, H4, H5⟩
      isplitl [H1]; · iexact H1
      isplitl [H2]; · iexact H2
      isplitl [H4]; · iexact H4
      isplitl [H3]; · iexact H3
      iexact H5
  · have hcn : c.val = n := by by_contra hx; exact hh (hc.mpr hx)
    rw [Wt_skip P M c 1 n hcn, Wt_skip P M c 3 n hcn]; exact h

/-- The conditional wait for chunk `n` to have left. -/
theorem step_sent0 (n : ℕ) (hn : n < 32) {cond : BitVec 1} {i : Decidable (cond = 1#1)} (hc : cond = 1#1 ↔ c.val ≠ n)
    {i1 : ∀ a, (![n] : Fin 1 → ℕ) a + S1.size a ≤ S32.size a} {sp : CoreSpace} {s : Shape} {e : EltTy}
    {src : cond = 1#1 → Memref sig .tc sp s e}
    {i2 : ∀ a, (![n, 0, 0] : Fin 3 → ℕ) a + S1x128x64.size a ≤ S32x128x64.size a}
    {h1 : ∀ hh : cond = 1#1, _} {h2 : ∀ hh : cond = 1#1, _}
    {J : Prog (TpuEff nD τ sig (Elt F) Λ₀ .tc) α} {k : cond = 1#1 → PUnit → Prog (TpuEff nD τ sig (Elt F) Λ₀ .tc) α} (hk : ∀ hh, k hh ⟨⟩ = J)
    (h : Runs iprop(recs P M K ∗ E c ∗ Wt P M c 0 (n + 1) ∗ R) c J Q) :
    Runs iprop(recs P M K ∗ E c ∗ Wt P M c 0 n ∗ R) c (dite (cond = 1#1) (fun hh =>
        Prog.lift (.waitDma2 ((cc0_scratch4.slice (Rect.unit (s := S32) ![n] S1.size i1)).squeeze S_ squeezes_S1_S_).sem (src hh)
          ((sM.slice (Rect.unit (s := S32x128x64) ![n, 0, 0] S1x128x64.size i2) (fun _ => rfl)).squeeze S128x64 squeezes_S1x128x64_S128x64) (h1 hh) (h2 hh)) >>= k hh)
        (fun _ => J)) Q := by
  refine step_dite (fun hh => ?_) fun hh => ?_
  · refine of_op (step_wait P M K 0 n hn (hc.mp hh) (sem_eq0 ⟨n, hn⟩) (credit_s ⟨n, hn⟩) ?_)
    rw [hk]; exact h
  · rw [Wt_skip P M c 0 n (by by_contra hx; exact hh (hc.mpr hx))]; exact h

/-- The conditional wait for the maximum to have left for device `n`. -/
theorem step_sent2 (n : ℕ) (hn : n < 32) {cond : BitVec 1} {i : Decidable (cond = 1#1)} (hc : cond = 1#1 ↔ c.val ≠ n)
    {i1 : ∀ a, (![n] : Fin 1 → ℕ) a + S1.size a ≤ S32.size a} {sp : CoreSpace} {s : Shape} {e : EltTy}
    {src : cond = 1#1 → Memref sig .tc sp s e}
    {h1 : ∀ hh : cond = 1#1, _} {h2 : ∀ hh : cond = 1#1, _}
    {J : Prog (TpuEff nD τ sig (Elt F) Λ₀ .tc) α} {k : cond = 1#1 → PUnit → Prog (TpuEff nD τ sig (Elt F) Λ₀ .tc) α} (hk : ∀ hh, k hh ⟨⟩ = J)
    (h : Runs iprop(recs P M K ∗ E c ∗ Wt P M c 2 (n + 1) ∗ R) c J Q) :
    Runs iprop(recs P M K ∗ E c ∗ Wt P M c 2 n ∗ R) c (dite (cond = 1#1) (fun hh =>
        Prog.lift (.waitDma2 ((cc0_scratch6.slice (Rect.unit (s := S32) ![n] S1.size i1)).squeeze S_ squeezes_S1_S_).sem (src hh)
          mM (h1 hh) (h2 hh)) >>= k hh)
        (fun _ => J)) Q := by
  refine step_dite (fun hh => ?_) fun hh => ?_
  · refine of_op (step_wait P M K 2 n hn (hc.mp hh) (sem_eq2 ⟨n, hn⟩) (credit_m) ?_)
    rw [hk]; exact h
  · rw [Wt_skip P M c 2 n (by by_contra hx; exact hh (hc.mpr hx))]; exact h

end Steps

end Cert.KI
-- ==== Proof.KIData.lean ====
/-
What a device computes: its products, their greatest entry, what it gathers quantised; and the loads and stores of whole
buffers.
-/
module

public import proofs.«01_k».proof.Proof.KIWaits
public import Idealize.ShloMosaic.Lib.ValueLayout

@[expose] public section

set_option maxRecDepth 16384

noncomputable section

namespace Cert.KI

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx (ix2 ix3)

variable {F : FTy → Type} [FloatOps F]

local notation "𝕄" => MT nD τ sig Unit (Elt F) ℕ UU ℕ

/-! ## What is stored of a chunk -/

theorem slices_of (p : Fin 32) {o : ℕ} (ho : o = 64 * (p.val % 4)) : S128x256.Slices ![0, o] S128x64 := by
  have hp : p.val % 4 < 4 := Nat.mod_lt _ (by decide)
  generalize p.val % 4 = j at ho hp
  subst ho
  interval_cases j
  · exact slices_S128x256_o0_0_S128x64
  · exact slices_S128x256_o0_64_S128x64
  · exact slices_S128x256_o0_128_S128x64
  · exact slices_S128x256_o0_192_S128x64

/-- Columns `o …` of a product, as a slot. -/
theorem pay_store {P : Dev nD → Fin 8 → FVec F S128x256 .f32} {c : Dev nD} (p : Fin 32) {o : ℕ} (ho : o = 64 * (p.val % 4)) {y : FVec F S128x256 .f32}
    (hy : y = P c ⟨p.val / 4, by omega⟩) (i : Fin 128) (j : Fin 64) :
    shapeCast S1x128x64 (extractStridedSlice S128x64 ![0, o] y (slices_of p ho)) shapeCasts_S128x64_S1x128x64 (ix3 (⟨0, Nat.one_pos⟩ : Fin 1) i j) = chunk P c p i j := by
  subst hy ho
  refine (ValueIdx.shapeCast_ab_1ab_apply _ _ _ i j).trans ?_
  exact ValueIdx.slice2_axis1_apply (64 * (p.val % 4)) _ _ i j ⟨64 * (p.val % 4) + j.val, by have := j.isLt; omega⟩ rfl

/-- The same stored through a second cast of the slot. -/
theorem pay_own {P : Dev nD → Fin 8 → FVec F S128x256 .f32} {c : Dev nD} (p : Fin 32) {o : ℕ} (ho : o = 64 * (p.val % 4)) {y : FVec F S128x256 .f32}
    (hy : y = P c ⟨p.val / 4, by omega⟩) (i : Fin 128) (j : Fin 64) :
    shapeCast S1x128x64 (shapeCast S1x128x64 (extractStridedSlice S128x64 ![0, o] y (slices_of p ho)) shapeCasts_S128x64_S1x128x64) shapeCasts_S1x128x64_S1x128x64 (ix3 (⟨0, Nat.one_pos⟩ : Fin 1) i j) = chunk P c p i j := by
  rw [shapeCast_self]
  exact pay_store p ho hy i j

/-! ## Values -/

section Values
variable (X : Dev nD → (cc0_stg0_0 : Ref sig .tc).ty.Contents (Elt F)) (W : Dev nD → (cc0_stg1_0 : Ref sig .tc).ty.Contents (Elt F))

/-- The 256 columns of group `g` of device `c`'s weights. -/
def wCols (c : Dev nD) (g : Fin 8) : Vec F S4096x256 .f32 :=
  fun i : S4096x256.Idx => W c (ix2 (i 0) (⟨256 * g.val + (i 1).val, by have := (i 1).isLt; simp at this; omega⟩ : Fin 2048))
/-- The product of device `c` on the columns of group `g`, negative entries made zero. -/
def prod (c : Dev nD) (g : Fin 8) : FVec F S128x256 .f32 := k0_pay17 (k0_pay2 (X c)) (wCols W c g)
/-- The greater of `m` and the greatest entry of `y`. -/
def up (m : F .f32) (y : FVec F S128x256 .f32) : F .f32 :=
  Scalar.maximumf m (extractAt ![0, 0, 0] (shapeCast S1x1x1 (multiReduction .maximumf [1, 2] S1 (shapeCast S1x128x256 y shapeCasts_S128x256_S1x128x256)
    0xFF800000#32 reduces_S1x128x256_S1 (.inl rfl) rfl) shapeCasts_S1_S1x1x1) inpos_S1x1x1_p0_0_0)
/-- The greatest entry of the groups up to `n`, zero at the least. -/
def maxTo (c : Dev nD) : ℕ → F .f32
  | 0 => up (Scalar.ofBits .f32 0x00000000#32) (prod X W c 0)
  | n + 1 => up (maxTo c n) (prod X W c ⟨(n + 1) % 8, Nat.mod_lt _ (by decide)⟩)
/-- The greatest entry of device `c`'s product, zero at the least. -/
def maxAll (c : Dev nD) : F .f32 := maxTo X W c 7
/-- The 64 columns from `64 j` on of a group. -/
def cut (y : FVec F S128x256 .f32) (j : Fin 4) : FVec F S128x64 .f32 :=
  extractStridedSlice S128x64 ![0, 64 * j.val] y (slices_of ⟨j.val, by omega⟩ (by rw [Nat.mod_eq_of_lt j.isLt]))
/-- What device `c` gathers, quantised. -/
def outOf (c : Dev nD) : (cc0_stg2_0 : Ref sig .tc).ty.Contents (Elt F) :=
  k0_pay117 (maxAll X W c) (maxTab (maxAll X W) c) (recvBuf (prod X W) c)
end Values

/-! ## Loads and stores of whole buffers -/

section Steps
variable (P : Dev nD → Fin 8 → FVec F S128x256 .f32) (M : Dev nD → F .f32)
variable (K : Dev nD × Option (Fin 4 × Fin 32) → ℕ)
variable {c : Dev nD}
variable {R S : sProp (MT nD τ sig Unit (Elt F) ℕ UU ℕ)} {α : Type} {Q : α → sProp (MT nD τ sig Unit (Elt F) ℕ UU ℕ)}

/-- A load that reads `v` off a buffer held whole. -/
theorem step_load_whole {s : Shape} (m : Memref sig .tc .vmem s .f32) {r : LoadRect s} {hl} (f : Buf (Elt F) (m.view.loc (c : Thread nD τ)))
    {v : r.shape.Idx → Elt F .f32} (hv : m.view.readAt (Elt F) r f = v)
    {k : (r.shape.Idx → Elt F .f32) → Prog (TpuEff nD τ sig (Elt F) Λ₀ .tc) α}
    (h : Runs iprop((m.view.loc (c : Thread nD τ) ↦{fullShare} f) ∗ R) c (k v) Q) :
    Runs iprop((m.view.loc (c : Thread nD τ) ↦{fullShare} f) ∗ R) c (.op (.load m r hl) k) Q := by
  unfold Runs at h ⊢
  subst hv
  iintro ⟨H, HR⟩
  iapply (wp_load 𝒱₀ (c : Thread nD τ) none Set.univ (m := m) (Finset.subset_univ _)) $$ H
  iintro H
  iapply h
  isplitl [H] <;> iassumption

/-- A store that leaves `v` in a buffer held whole. -/
theorem step_store_whole {s : Shape} (m : Memref sig .tc .vmem s .f32) {r : Rect s} {w : r.shape.Idx → Elt F .f32} {hx hm}
    (f v : Buf (Elt F) (m.view.loc (c : Thread nD τ))) (hv : (m.access r).write (Elt F) f w Finset.univ = v)
    {k : PUnit → Prog (TpuEff nD τ sig (Elt F) Λ₀ .tc) α}
    (h : Runs iprop((m.view.loc (c : Thread nD τ) ↦{fullShare} v) ∗ R) c (k ⟨⟩) Q) :
    Runs iprop((m.view.loc (c : Thread nD τ) ↦{fullShare} f) ∗ R) c (.op (.store m r w Finset.univ hx hm) k) Q := by
  unfold Runs at h ⊢
  subst hv
  iintro ⟨H, HR⟩
  iapply (wp_store 𝒱₀ (c : Thread nD τ) none Set.univ (m := m) (r := r) (Mk := Finset.univ) (Finset.subset_univ _)) $$ H
  iintro H
  iapply h
  isplitl [H] <;> iassumption

theorem zero2 : (![0, 0] : Fin 2 → ℕ) = fun _ => 0 := by decide
theorem zero3 : (![0, 0, 0] : Fin 3 → ℕ) = fun _ => 0 := by decide

variable (X : Dev nD → (cc0_stg0_0 : Ref sig .tc).ty.Contents (Elt F)) (W : Dev nD → (cc0_stg1_0 : Ref sig .tc).ty.Contents (Elt F))

variable (c) in
/-- The staged operands of device `c`. -/
def XW : sProp 𝕄 := iprop((((c : Thread nD τ).loc cc0_stg0_0) ↦{fullShare} X c) ∗ (((c : Thread nD τ).loc cc0_stg1_0) ↦{fullShare} W c))

theorem step_load_x {inb hl} {k : (S128x4096.Idx → Elt F .f32) → Prog (TpuEff nD τ sig (Elt F) Λ₀ .tc) α}
    (h : Runs iprop(recs P M K ∗ S ∗ XW c X W ∗ R) c (k (X c)) Q) :
    Runs iprop(recs P M K ∗ S ∗ XW c X W ∗ R) c (.op (.load xM (Rect.unit (s := S128x4096) ![0, 0] S128x4096.size inb).toLoadRect hl) k) Q := by
  refine Runs.pre (S' := iprop((((c : Thread nD τ).loc cc0_stg0_0) ↦{fullShare} X c) ∗ ((((c : Thread nD τ).loc cc0_stg1_0) ↦{fullShare} W c) ∗ recs P M K ∗ S ∗ R))) ?_
    (step_load_whole xM (X c) (Memref.readAt_unit_zero (Elt F) cc0_stg0_0 zero2 _ (X c)) (Runs.pre ?_ h))
  · unfold XW
    iintro ⟨H1, H2, ⟨H3, H4⟩, H5⟩
    isplitl [H3]; · iexact H3
    isplitl [H4]; · iexact H4
    isplitl [H1]; · iexact H1
    isplitl [H2]; · iexact H2
    iexact H5
  · unfold XW
    iintro ⟨H3, H4, H1, H2, H5⟩
    isplitl [H1]; · iexact H1
    isplitl [H2]; · iexact H2
    isplitr [H5]; · isplitl [H3] <;> iassumption
    iexact H5

theorem read_w (g : Fin 8) {inb : ∀ a, (![0, 256 * g.val] : Fin 2 → ℕ) a + S4096x256.size a ≤ S4096x2048.size a} :
    ((wM : Memref sig .tc .vmem S4096x2048 .f32).access (Rect.unit (s := S4096x2048) ![0, 256 * g.val] S4096x256.size inb)).read (Elt F) (W c) = wCols W c g := by
  funext i
  unfold wCols
  refine congrArg (W c) ?_
  funext a
  apply Fin.ext
  show (![0, 256 * g.val] : Fin 2 → ℕ) a + 1 * (i a).val = _
  fin_cases a
  · show 0 + 1 * (i 0).val = (i 0).val; omega
  · show 256 * g.val + 1 * (i 1).val = 256 * g.val + (i 1).val; omega

theorem step_load_w (g : Fin 8) {o : ℕ} (ho : o = 256 * g.val) {inb hl} {k : (S4096x256.Idx → Elt F .f32) → Prog (TpuEff nD τ sig (Elt F) Λ₀ .tc) α}
    (h : Runs iprop(recs P M K ∗ S ∗ XW c X W ∗ R) c (k (wCols W c g)) Q) :
    Runs iprop(recs P M K ∗ S ∗ XW c X W ∗ R) c (.op (.load wM (Rect.unit (s := S4096x2048) ![0, o] S4096x256.size inb).toLoadRect hl) k) Q := by
  subst ho
  unfold Runs XW at h ⊢
  iintro ⟨H1, H2, ⟨H3, H4⟩, H5⟩
  iapply (wp_load_rect 𝒱₀ (c : Thread nD τ) none Set.univ (m := wM) (r := Rect.unit (s := S4096x2048) ![0, 256 * g.val] S4096x256.size inb) (Finset.subset_univ _)) $$ H4
  iintro H4
  rw [read_w W g]
  iapply h
  isplitl [H1]; · iexact H1
  isplitl [H2]; · iexact H2
  isplitr [H5]; · isplitl [H3] <;> iassumption
  iexact H5

end Steps

end Cert.KI
-- ==== Proof.KIStates.lean ====
/-
Between the phases of the program: what a device holds from the barrier to the chunks, from the chunks to the maxima, from
the maxima to the waits, and at the end.
-/
module

public import proofs.«01_k».proof.Proof.KIData
public import Idealize.ShloMosaic.Lib.SparseCore.Stream

@[expose] public section

set_option maxRecDepth 16384

noncomputable section

namespace Cert.KI

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx (ix2 ix3)

variable {F : FTy → Type} [FloatOps F]

local notation "𝕄" => MT nD τ sig Unit (Elt F) ℕ UU ℕ

section States

/-- Member by member. -/
theorem fam_mono {I : Type} {s : Finset I} {Φ Ψ : I → sProp (MT nD τ sig Unit (Elt F) ℕ UU ℕ)} (h : ∀ i ∈ s, Φ i ⊢ Ψ i) : bigSep s Φ ⊢ bigSep s Ψ := bigSep_mono h
/-- Member by member, a persistent fact at hand. -/
theorem fam_pers {I : Type} [DecidableEq I] {s : Finset I} {R : sProp (MT nD τ sig Unit (Elt F) ℕ UU ℕ)} [BI.Persistent R] {Φ Ψ : I → sProp (MT nD τ sig Unit (Elt F) ℕ UU ℕ)}
    (h : ∀ i ∈ s, iprop(R ∗ Φ i) ⊢ Ψ i) : iprop(R ∗ bigSep s Φ) ⊢ bigSep s Ψ :=
  (sep_mono_left (BI.bigSep_of_persistent s R)).trans (by rw [← bigSep_sep']; exact fam_mono h)

variable (P : Dev nD → Fin 8 → FVec F S128x256 .f32) (M : Dev nD → F .f32)
variable (K : Dev nD × Option (Fin 4 × Fin 32) → ℕ)
variable (c : Dev nD)

/-! ## What a device starts with -/

/-- The right to signal every other device. -/
def tokB : sProp 𝕄 := bigSep Finset.univ fun q : Dev nD => if q = c then iprop(emp) else dutyTok ER (barCell q) 0 c
/-- The right to send a chunk to every other device. -/
def tokD : sProp 𝕄 := bigSep Finset.univ fun q : Dev nD => if q = c then iprop(emp) else iprop(dutyTok ER (dcell 0 c q) 0 q ∗ dutyTok ER (dcell 1 q c) 0 c)
/-- The right to send the maximum to every other device. -/
def tokC : sProp 𝕄 := bigSep Finset.univ fun q : Dev nD => if q = c then iprop(emp) else iprop(dutyTok ER (dcell 2 c q) 0 q ∗ dutyTok ER (dcell 3 q c) 0 c)
/-- The cells of array `k` not yet waited on. -/
def posAll (k : Fin 4) : sProp 𝕄 := bigSep Finset.univ fun q : Dev nD => atPos ER (dcell k c q) 0 ∅ 0
/-- The credits to come on array `k` from every other device. -/
def crdAll (k : Fin 4) : sProp 𝕄 := bigSep Finset.univ fun q : Dev nD => if q = c then iprop(emp) else cred (tallyAt (dcell k c q) () (credit k))
/-- The result's staging buffer on device `c`, at `f`. -/
def oAll (f : Buf (Elt F) ((c : Thread nD τ).loc cc0_stg2_0)) : sProp 𝕄 := ((c : Thread nD τ).loc cc0_stg2_0) ↦{fullShare} f

/-- What the transfers of the maxima and the waits use. -/
def Late : sProp 𝕄 := iprop(tokC c ∗ (∃ f, mAll c f) ∗ (∃ f, oAll c f) ∗ posAll c 0 ∗ posAll c 1 ∗ posAll c 2 ∗ posAll c 3 ∗ crdAll c 1 ∗ crdAll c 3)

/-- What the barrier wait and all after it use. -/
def Pre : sProp 𝕄 := iprop((cred (tallyAt (barCell c) () 31) ∗ atPos ER (barCell c) 0 ∅ 0) ∗ (∃ f, sAll c f) ∗ tokD c ∗ Late c)

/-- What the signals use besides the table of maxima. -/
def Start : sProp 𝕄 := iprop((∃ W, owes (c : Thread nD τ) (OB c 0 + (OD c 0 + OA c 0)) W) ∗ (∃ f, rAll c f) ∗ tokB c)

theorem sAll_any : iprop(∃ f, sAll (F := F) c f) ⊢ bigSep Finset.univ fun q => iprop(∃ f, sPts c q f) := by
  iintro ⟨%f, H⟩
  ihave H := (Entails.of_eq (sAll_eq c f)) $$ H
  iapply (show (bigSep Finset.univ fun q => sPts (F := F) c q f) ⊢ bigSep Finset.univ fun q => iprop(∃ f, sPts c q f) from
    fam_mono fun q _ => by iintro H; iexists f; iexact H)
  iexact H
theorem rAll_any : iprop(∃ f, rAll (F := F) c f) ⊢ bigSep Finset.univ fun q => iprop(∃ f, rPts c q f) := by
  iintro ⟨%f, H⟩
  ihave H := (Entails.of_eq (rAll_eq c f)) $$ H
  iapply (show (bigSep Finset.univ fun q => rPts (F := F) c q f) ⊢ bigSep Finset.univ fun q => iprop(∃ f, rPts c q f) from
    fam_mono fun q _ => by iintro H; iexists f; iexact H)
  iexact H

theorem dist_pos {q : Dev nD} (h : q ≠ c) : 0 < dist c q := by
  unfold dist
  have hv : q.val ≠ c.val := fun e => h (Fin.ext e)
  have := q.isLt; have := c.isLt; simp only [nD] at *; omega

/-- The table of maxima once zeroed. -/
def zeroTab : (cc0_scratch3 : Ref sig .tc).ty.Contents (Elt F) := fun _ => Scalar.ofBits .f32 0x00000000#32

/-- With the table zeroed, the signals can begin. -/
theorem start_A : iprop(Start c ∗ aAll c zeroTab) ⊢ A M c 0 := by
  unfold Start A
  iintro ⟨⟨HO, Hr, Ht⟩, Ha⟩
  isplitl [HO]; · iexact HO
  ihave Hr := (rAll_any c) $$ Hr
  ihave Ha := (Entails.of_eq (aAll_eq c zeroTab)) $$ Ha
  unfold tokB
  iapply (show iprop((bigSep Finset.univ fun q : Dev nD => if q = c then iprop(emp) else dutyTok ER (barCell q) 0 c)
      ∗ (bigSep Finset.univ fun q => iprop(∃ f, rPts (F := F) c q f)) ∗ bigSep Finset.univ fun q => aPts c q zeroTab) ⊢ bigSep Finset.univ (slotA M c 0) by
    rw [← bigSep_sep', ← bigSep_sep']
    refine fam_mono fun q _ => ?_
    unfold slotA
    by_cases hq : q = c
    · subst hq
      rw [if_pos rfl, if_pos rfl, aPts_congr q (f := zeroTab) (g := maxTab M q) (fun i hi => by unfold maxTab; rw [if_pos hi]; rfl)]
      iintro ⟨-, H⟩; iexact H
    · rw [if_neg hq, if_neg hq, if_pos (dist_pos c hq)]
      iintro ⟨H1, H2, H3⟩
      isplitl [H1]; · iexact H1
      isplitl [H2]; · iexact H2
      iexists zeroTab; iexact H3)
  isplitl [Ht]; · iexact Ht
  isplitl [Hr] <;> iassumption

/-! ## After the barrier -/

/-- Behind the barrier: what is kept while the chunks go out. -/
def Hold : sProp 𝕄 := iprop(atPos ER (barCell c) 1 ∅ 0 ∗ (aPts c c (maxTab M c) ∗ bigSep (Finset.univ.erase c) fun q => iprop(∃ f, aPts q c f)) ∗ Late c)

theorem barrier_D : iprop(B M c ∗ atPos ER (barCell c) 1 ∅ 0 ∗ (∃ f, sAll c f) ∗ tokD c ∗ Late c) ⊢ iprop(D P c 0 0 0 ∗ Hold M c) := by
  unfold B D Hold
  iintro ⟨⟨HO, ⟨Hr, Ha⟩, HB⟩, Hat, Hs, Ht, HL⟩
  ihave HB := (show (bigSep (Finset.univ.erase c) fun q : Dev nD => iprop((∃ f, rPts (F := F) q c f) ∗ ∃ f, aPts q c f))
    ⊢ iprop((bigSep (Finset.univ.erase c) fun q : Dev nD => iprop(∃ f, rPts (F := F) q c f)) ∗ bigSep (Finset.univ.erase c) fun q : Dev nD => iprop(∃ f, aPts q c f))
    from Entails.of_eq (bigSep_sep' _ _ _)) $$ HB
  icases HB with ⟨HBr, HBa⟩
  ihave Hs := (sAll_any c) $$ Hs
  isplitl [HO Hr HBr Hs Ht]
  · isplitl [HO]; · iexact HO
    unfold tokD
    iapply (show iprop((bigSep Finset.univ fun q : Dev nD => iprop(∃ f, rPts (F := F) q c f)) ∗ (bigSep Finset.univ fun q => iprop(∃ f, sPts (F := F) c q f))
        ∗ bigSep Finset.univ fun q : Dev nD => if q = c then iprop(emp) else iprop(dutyTok ER (dcell 0 c q) 0 q ∗ dutyTok ER (dcell 1 q c) 0 c))
        ⊢ bigSep Finset.univ (slotD P c 0 0 0) by
      rw [← bigSep_sep', ← bigSep_sep']
      refine fam_mono fun q _ => ?_
      unfold slotD
      rw [if_neg (fun h => Nat.not_lt_zero _ h.2 : ¬ (q ≠ c ∧ q.val < 0))]
      rw [if_neg (Nat.not_lt_zero q.val)]
      by_cases hq : q = c
      · subst hq
        rw [if_pos rfl, if_pos rfl, if_neg (Nat.not_lt_zero _)]
        iintro ⟨H1, H2, -⟩
        isplitl [H2] <;> iassumption
      · rw [if_neg hq, if_neg hq, if_neg (Nat.not_lt_zero _)]
        iintro ⟨H1, H2, H3, H4⟩
        isplitl [H2]; · iexact H2
        isplitl [H3]; · iexact H3
        isplitl [H4] <;> iassumption)
    isplitl [Hr HBr]
    · iapply (Entails.of_eq (bigSep_split c (fun q : Dev nD => iprop(∃ f, rPts (F := F) q c f))).symm)
      isplitl [Hr] <;> iassumption
    isplitl [Hs] <;> iassumption
  isplitl [Hat]; · iexact Hat
  isplitr [HL]
  · isplitl [Ha] <;> iassumption
  iexact HL

/-! ## After the chunks -/

/-- What is kept while the maxima go out. -/
def Hold2 : sProp 𝕄 :=
  iprop(bigSep Finset.univ (slotD P c 32 32 32) ∗ aPts c c (maxTab M c) ∗ mPts c (Transfers.shareDrop fullShare 32) (maxBuf M c) ∗ atPos ER (barCell c) 1 ∅ 0
    ∗ (∃ f, oAll c f) ∗ posAll c 0 ∗ posAll c 1 ∗ posAll c 2 ∗ posAll c 3 ∗ crdAll c 1 ∗ crdAll c 3)

/-- `Hold` without the maximum buffer. -/
def HoldM : sProp 𝕄 := iprop(atPos ER (barCell c) 1 ∅ 0 ∗ (aPts c c (maxTab M c) ∗ bigSep (Finset.univ.erase c) fun q => iprop(∃ f, aPts q c f))
  ∗ tokC c ∗ (∃ f, oAll c f) ∗ posAll c 0 ∗ posAll c 1 ∗ posAll c 2 ∗ posAll c 3 ∗ crdAll c 1 ∗ crdAll c 3)
theorem Hold_out : Hold M c ⊢ iprop((∃ f, mAll c f) ∗ HoldM M c) := by
  unfold Hold HoldM Late
  iintro ⟨H1, H2, H3, H4, H5⟩
  isplitl [H4]; · iexact H4
  isplitl [H1]; · iexact H1
  isplitl [H2]; · iexact H2
  isplitl [H3] <;> iassumption

theorem chunks_C : iprop(D P c 32 32 32 ∗ mAll c (maxBuf M c) ∗ HoldM M c) ⊢ iprop(C M c 0 ∗ Hold2 P M c) := by
  unfold D HoldM C Hold2
  iintro ⟨⟨HO, HD⟩, Hm, Hat, ⟨Ha, HBa⟩, Ht, HL⟩
  ihave Hm := (mAll_split c (maxBuf M c)) $$ Hm
  icases Hm with ⟨Hmd, Hm⟩
  isplitl [HO Hm Ht HBa]
  · isplitl [HO]; · iexact HO
    unfold tokC
    iapply (show iprop((bigSep Finset.univ fun q : Dev nD => if q = c then iprop(emp) else iprop(∃ f, aPts (F := F) q c f)) ∗ (bigSep Finset.univ fun q => mPts c (mShare q) (maxBuf M c))
        ∗ bigSep Finset.univ fun q : Dev nD => if q = c then iprop(emp) else iprop(dutyTok ER (dcell 2 c q) 0 q ∗ dutyTok ER (dcell 3 q c) 0 c))
        ⊢ bigSep Finset.univ (slotC M c 0) by
      rw [← bigSep_sep', ← bigSep_sep']
      refine fam_mono fun q _ => ?_
      unfold slotC
      by_cases hq : q = c
      · subst hq
        rw [if_pos rfl, if_pos rfl, if_pos rfl]
        iintro ⟨-, H2, -⟩
        iexact H2
      · rw [if_neg hq, if_neg hq, if_neg hq, if_neg (Nat.not_lt_zero _)]
        iintro ⟨H1, H2, H3, H4⟩
        isplitl [H2]; · iexact H2
        isplitl [H3]; · iexact H3
        isplitl [H4] <;> iassumption)
    isplitl [HBa]
    · iapply (Entails.of_eq (bigSep_split c (fun q : Dev nD => if q = c then iprop(emp) else iprop(∃ f, aPts (F := F) q c f))).symm)
      rw [if_pos rfl]
      isplitr; · iempintro
      iapply (Entails.of_eq (show (bigSep (Finset.univ.erase c) fun q : Dev nD => iprop(∃ f, aPts (F := F) q c f))
        = bigSep (Finset.univ.erase c) fun q : Dev nD => if q = c then iprop(emp) else iprop(∃ f, aPts (F := F) q c f) from
        bigSep_congr fun q hq => (if_neg (Finset.ne_of_mem_erase hq)).symm))
      iexact HBa
    isplitl [Hm] <;> iassumption
  isplitl [HD]; · iexact HD
  isplitl [Ha]; · iexact Ha
  isplitl [Hmd]; · iexact Hmd
  isplitl [Hat] <;> iassumption

/-! ## After the maxima -/

/-- What is kept during the waits for what lands. -/
def Hold3 : sProp 𝕄 :=
  iprop(Wt P M c 0 0 ∗ Wt P M c 2 0 ∗ mPts c (Transfers.shareDrop fullShare 32) (maxBuf M c) ∗ atPos ER (barCell c) 1 ∅ 0 ∗ (∃ f, oAll c f))

theorem maxima_W : iprop(C M c 32 ∗ Hold2 P M c) ⊢ iprop(E c ∗ Wt P M c 1 0 ∗ Wt P M c 3 0 ∗ Hold3 P M c) := by
  unfold C Hold2 E Hold3 Wt
  iintro ⟨⟨HO, HC⟩, HD, Ha, Hmd, Hat, Ho, H0, H1, H2, H3, Hc1, Hc3⟩
  isplitl [HO]
  · iapply (Entails.of_eq (show iprop(∃ W, owes (c : Thread nD τ) (OD c 32 + OA c 32) W) = (iprop(∃ W, owes (c : Thread nD τ) 0 W) : sProp 𝕄) by
      unfold OD OA; rw [upto_32, Finset.sum_empty, Finset.sum_empty, add_zero]))
    iexact HO
  unfold posAll crdAll
  ihave H01 := (show iprop(bigSep Finset.univ (slotD P c 32 32 32) ∗ (bigSep Finset.univ fun q : Dev nD => atPos ER (dcell 0 c q) 0 ∅ 0)
      ∗ (bigSep Finset.univ fun q : Dev nD => atPos ER (dcell 1 c q) 0 ∅ 0)
      ∗ bigSep Finset.univ fun q : Dev nD => if q = c then iprop(emp) else cred (tallyAt (dcell 1 c q) () (credit 1)))
      ⊢ iprop(bigSep Finset.univ (slotW P M c 0 0) ∗ bigSep Finset.univ (slotW P M c 1 0)) by
    rw [← bigSep_sep', ← bigSep_sep', ← bigSep_sep', ← bigSep_sep']
    refine fam_mono fun q _ => ?_
    have hq32 : q.val < 32 := q.isLt
    unfold slotD slotW
    by_cases hq : q = c
    · subst hq
      rw [if_neg (fun h => h.1 rfl), if_pos hq32, if_pos rfl, if_pos hq32, if_pos rfl, if_pos rfl, if_pos rfl]
      iintro ⟨⟨Hs, Hr⟩, Ha0, Ha1, -⟩
      isplitl [Hs Ha0]
      · isplitl [Ha0]; · iexact Ha0
        unfold pay; iexact Hs
      · isplitl [Ha1]; · iexact Ha1
        unfold pay; iexact Hr
    · rw [if_pos ⟨hq, hq32⟩, if_neg hq, if_pos hq32, if_neg hq, if_neg hq, if_neg (Nat.not_lt_zero _), if_neg hq, if_neg (Nat.not_lt_zero _)]
      iintro ⟨⟨Hs, -⟩, Ha0, Ha1, Hc⟩
      isplitl [Hs Ha0]
      · isplitl [Hs]; · iexact Hs
        iexact Ha0
      · isplitl [Hc]; · iexact Hc
        iexact Ha1) $$ [HD H0 H1 Hc1]
  · isplitl [HD]; · iexact HD
    isplitl [H0]; · iexact H0
    isplitl [H1] <;> iassumption
  icases H01 with ⟨HW0, HW1⟩
  isplitl [HW1]; · iexact HW1
  isplitl [Ha H3 Hc3]
  · iapply (show iprop((bigSep Finset.univ fun q : Dev nD => if q = c then aPts c c (maxTab M c) else iprop(emp)) ∗ (bigSep Finset.univ fun q : Dev nD => atPos ER (dcell 3 c q) 0 ∅ 0)
        ∗ bigSep Finset.univ fun q : Dev nD => if q = c then iprop(emp) else cred (tallyAt (dcell 3 c q) () (credit 3)))
        ⊢ bigSep Finset.univ (slotW P M c 3 0) by
      rw [← bigSep_sep', ← bigSep_sep']
      refine fam_mono fun q _ => ?_
      unfold slotW
      by_cases hq : q = c
      · subst hq
        rw [if_pos rfl, if_pos rfl, if_pos rfl]
        iintro ⟨Hs, Ha0, -⟩
        isplitl [Ha0]; · iexact Ha0
        unfold pay; iexact Hs
      · rw [if_neg hq, if_neg hq, if_neg hq, if_neg (Nat.not_lt_zero _)]
        iintro ⟨-, Ha0, Hc⟩
        isplitl [Hc] <;> iassumption)
    isplitl [Ha]
    · iapply (Entails.of_eq (bigSep_split c (fun q : Dev nD => if q = c then aPts c c (maxTab M c) else iprop(emp))).symm)
      rw [if_pos rfl]
      isplitl [Ha]; · iexact Ha
      iapply (Entails.of_eq (show (iprop(emp) : sProp 𝕄) = bigSep (Finset.univ.erase c) fun q : Dev nD => if q = c then aPts c c (maxTab M c) else iprop(emp) from
        (bigSep_emp_const _).symm.trans (bigSep_congr fun q hq => (if_neg (Finset.ne_of_mem_erase hq)).symm)))
      iempintro
    isplitl [H3] <;> iassumption
  isplitl [HW0]; · iexact HW0
  isplitl [HC H2]
  · iapply (show iprop(bigSep Finset.univ (slotC M c 32) ∗ (bigSep Finset.univ fun q : Dev nD => atPos ER (dcell 2 c q) 0 ∅ 0))
        ⊢ bigSep Finset.univ (slotW P M c 2 0) by
      rw [← bigSep_sep']
      refine fam_mono fun q _ => ?_
      have hq32 : q.val < 32 := q.isLt
      unfold slotC slotW
      by_cases hq : q = c
      · subst hq
        rw [if_pos rfl, if_pos rfl]
        iintro ⟨Hs, Ha0⟩
        isplitl [Ha0]; · iexact Ha0
        unfold pay; iexact Hs
      · rw [if_neg hq, if_pos hq32, if_neg hq, if_neg (Nat.not_lt_zero _)]
        iintro ⟨Hc, Ha0⟩
        isplitl [Hc]; · iexact Hc
        iexact Ha0)
    isplitl [HC] <;> iassumption
  isplitl [Hmd]; · iexact Hmd
  isplitl [Hat] <;> iassumption

/-! ## After the waits -/

/-- Array `k` waited through. -/
def atAll (k : Fin 4) : sProp 𝕄 := bigSep Finset.univ fun q : Dev nD => if q = c then atPos ER (dcell k c q) 0 ∅ 0 else atPos ER (dcell k c q) 1 ∅ 0

theorem Wt_done (k : Fin 4) : Wt P M c k 32 ⊢ iprop(atAll c k ∗ bigSep Finset.univ (pay P M k c)) := by
  unfold Wt atAll
  rw [← bigSep_sep']
  refine fam_mono fun q _ => ?_
  have hq32 : q.val < 32 := q.isLt
  unfold slotW
  by_cases hq : q = c
  · rw [if_pos hq, if_pos hq]
  · rw [if_neg hq, if_neg hq, if_pos hq32]

theorem Wt_done0 : Wt P M c 0 32 ⊢ iprop(atAll c 0 ∗ sAll c (sendBuf P c)) := by
  rw [sAll_eq]; exact Wt_done P M c 0
theorem Wt_done1 : Wt P M c 1 32 ⊢ iprop(atAll c 1 ∗ rAll c (recvBuf P c)) := by
  rw [rAll_eq]; exact Wt_done P M c 1
theorem Wt_done3 : Wt P M c 3 32 ⊢ iprop(atAll c 3 ∗ aAll c (maxTab M c)) := by
  rw [aAll_eq]; exact Wt_done P M c 3
theorem Wt_done2 : iprop(Wt P M c 2 32 ∗ mPts c (Transfers.shareDrop fullShare 32) (maxBuf M c)) ⊢ iprop(atAll c 2 ∗ mAll c (maxBuf M c)) := by
  iintro ⟨H, Hd⟩
  ihave H := (Wt_done P M c 2) $$ H
  icases H with ⟨H1, H2⟩
  isplitl [H1]; · iexact H1
  iapply (mAll_join c (maxBuf M c))
  isplitl [Hd]; · iexact Hd
  iexact H2

/-- What is kept during the waits for what was sent, `o` in the result's buffer. -/
def Hold4 (o : (cc0_stg2_0 : Ref sig .tc).ty.Contents (Elt F)) : sProp 𝕄 :=
  iprop(aAll c (maxTab M c) ∗ rAll c (recvBuf P c) ∗ atAll c 1 ∗ atAll c 3 ∗ mPts c (Transfers.shareDrop fullShare 32) (maxBuf M c) ∗ atPos ER (barCell c) 1 ∅ 0 ∗ oAll c o)

/-- The counters of array `k` of device `c`, at zero. -/
def zeros (k : Fin 4) : sProp 𝕄 := bigSep Finset.univ fun q : Dev nD => semVal (dcell k c q) 0

omit c in
/-- A cell with nothing left to come is closed at zero. -/
theorem close_cell (x : Dev nD × Option (Fin 4 × Fin 32)) (r : ℕ) (h : ∀ r', r ≤ r' → (rd P M).duties (cellAt x) r' = ∅) :
    iprop(recs P M K ∗ atPos ER (cellAt x) r ∅ 0) ⊢ (iprop(|={Set.univ}=> semVal (cellAt x) 0) : sProp 𝕄) := by
  refine (sep_mono_left (recs_cell P M K x)).trans ?_
  iintro ⟨⟨Hi, -⟩, H⟩
  iapply (Rounds.cell_close ER (rd P M) (Set.mem_univ (K x)) (fun h => h) h)
  isplitl [Hi] <;> iassumption

theorem close_k (k : Fin 4) : iprop(recs P M K ∗ atAll c k) ⊢ (iprop(|={Set.univ}=> zeros c k) : sProp 𝕄) := by
  unfold atAll zeros
  refine (fam_pers (Ψ := fun q : Dev nD => iprop(|={Set.univ}=> semVal (dcell k c q) 0)) fun q _ => ?_).trans (bigSep_fupd _ _)
  by_cases hq : q = c
  · subst hq
    rw [if_pos rfl]
    exact close_cell P M K (q, some (k, q)) 0 (duties_self_all P M q k)
  · rw [if_neg hq]
    exact close_cell P M K (c, some (k, q)) 1 (duties_later P M (dcell k c q))

theorem close_bar : iprop(recs P M K ∗ atPos ER (barCell c) 1 ∅ 0) ⊢ (iprop(|={Set.univ}=> semVal (barCell c) 0) : sProp 𝕄) :=
  close_cell P M K (c, none) 1 (duties_later P M (barCell c))

/-- What a device ends with: every buffer back and every counter at zero. -/
def Done (o : (cc0_stg2_0 : Ref sig .tc).ty.Contents (Elt F)) : sProp 𝕄 :=
  iprop(E c ∗ oAll c o ∗ (sAll c (sendBuf P c) ∗ rAll c (recvBuf P c) ∗ mAll c (maxBuf M c) ∗ aAll c (maxTab M c))
    ∗ semVal (barCell c) 0 ∗ zeros c 0 ∗ zeros c 1 ∗ zeros c 2 ∗ zeros c 3)

theorem finish (o) : iprop(recs P M K ∗ E c ∗ Wt P M c 0 32 ∗ Wt P M c 2 32 ∗ Hold4 P M c o) ⊢ (iprop(|={Set.univ}=> Done P M c o) : sProp 𝕄) := by
  unfold Hold4 Done
  iintro ⟨#Hr, HE, H0, H2, Ha, Hrr, H1, H3, Hmd, Hb, Ho⟩
  ihave H0 := (Wt_done0 P M c) $$ H0
  icases H0 with ⟨H0, Hs⟩
  ihave H2 := (Wt_done2 P M c) $$ [H2 Hmd]
  · isplitl [H2] <;> iassumption
  icases H2 with ⟨H2, Hm⟩
  imod (close_k P M K c 0) $$ [H0] with Z0
  · isplitr [H0]; · iexact Hr
    iexact H0
  imod (close_k P M K c 1) $$ [H1] with Z1
  · isplitr [H1]; · iexact Hr
    iexact H1
  imod (close_k P M K c 2) $$ [H2] with Z2
  · isplitr [H2]; · iexact Hr
    iexact H2
  imod (close_k P M K c 3) $$ [H3] with Z3
  · isplitr [H3]; · iexact Hr
    iexact H3
  imod (close_bar P M K c) $$ [Hb] with Zb
  · isplitr [Hb]; · iexact Hr
    iexact Hb
  imodintro
  isplitl [HE]; · iexact HE
  isplitl [Ho]; · iexact Ho
  isplitl [Hs Hrr Hm Ha]
  · isplitl [Hs]; · iexact Hs
    isplitl [Hrr]; · iexact Hrr
    isplitl [Hm] <;> iassumption
  isplitl [Zb]; · iexact Zb
  isplitl [Z0]; · iexact Z0
  isplitl [Z1]; · iexact Z1
  isplitl [Z2] <;> iassumption

end States

end Cert.KI
-- ==== Proof.KIBorders.lean ====
/-
The loads and stores between the phases: the table zeroed, the barrier, the maximum stored, the waits begun, the result
written.
-/
module

public import proofs.«01_k».proof.Proof.KIStates

@[expose] public section

set_option maxRecDepth 16384

noncomputable section

namespace Cert.KI

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx (ix2 ix3)

variable {F : FTy → Type} [FloatOps F]

local notation "𝕄" => MT nD τ sig Unit (Elt F) ℕ UU ℕ

section Borders
variable (K : Dev nD × Option (Fin 4 × Fin 32) → ℕ)
variable (X : Dev nD → (cc0_stg0_0 : Ref sig .tc).ty.Contents (Elt F)) (W : Dev nD → (cc0_stg1_0 : Ref sig .tc).ty.Contents (Elt F))
variable {c : Dev nD}
variable {R : sProp (MT nD τ sig Unit (Elt F) ℕ UU ℕ)} {α : Type} {Q : α → sProp (MT nD τ sig Unit (Elt F) ℕ UU ℕ)}

/-! ## The table of maxima zeroed -/

theorem step_load_zero (P : Dev nD → Fin 8 → FVec F S128x256 .f32) (M : Dev nD → F .f32) {inb hl} {k : (S32x8x128.Idx → Elt F .f32) → Prog (TpuEff nD τ sig (Elt F) Λ₀ .tc) α}
    (h : ∀ v, Runs iprop(recs P M K ∗ (Start c ∗ ∃ f, aAll c f) ∗ R) c (k v) Q) :
    Runs iprop(recs P M K ∗ (Start c ∗ ∃ f, aAll c f) ∗ R) c (.op (.load aM (Rect.unit (s := S32x8x128) ![0, 0, 0] S32x8x128.size inb).toLoadRect hl) k) Q := by
  unfold Runs
  iintro ⟨H1, ⟨H2, ⟨%f, H3⟩⟩, H4⟩
  iapply (step_load_whole (c := c) (R := iprop(recs P M K ∗ Start c ∗ R)) aM f (Memref.readAt_unit_zero (Elt F) cc0_scratch3 zero3 _ f) (Runs.pre (by
    iintro ⟨H3, H1, H2, H4⟩
    isplitl [H1]; · iexact H1
    isplitr [H4]
    · isplitl [H2]; · iexact H2
      iexists f
      iapply (Entails.of_eq (show _ = aAll c f by unfold aAll; rfl))
      iexact H3
    iexact H4) (h f))).out
  isplitl [H3]
  · iapply (Entails.of_eq (show aAll c f = _ by unfold aAll; rfl))
    iexact H3
  isplitl [H1]; · iexact H1
  isplitl [H2] <;> iassumption

theorem step_store_zero (P : Dev nD → Fin 8 → FVec F S128x256 .f32) (M : Dev nD → F .f32) {inb hx hm} {k : PUnit → Prog (TpuEff nD τ sig (Elt F) Λ₀ .tc) α}
    (h : Runs iprop(recs P M K ∗ A M c 0 ∗ R) c (k ⟨⟩) Q) :
    Runs iprop(recs P M K ∗ (Start c ∗ ∃ f, aAll c f) ∗ R) c (.op (.store aM (Rect.unit (s := S32x8x128) ![0, 0, 0] S32x8x128.size inb) (k0_pay1 (F := F)) Finset.univ hx hm) k) Q := by
  unfold Runs
  iintro ⟨H1, ⟨H2, ⟨%f, H3⟩⟩, H4⟩
  iapply (step_store_whole (c := c) (R := iprop(recs P M K ∗ Start c ∗ R)) aM f zeroTab (Memref.write_access_unit_zero_univ (Elt F) cc0_scratch3 zero3 _ f _) (Runs.pre (by
    iintro ⟨H3, H1, H2, H4⟩
    isplitl [H1]; · iexact H1
    isplitr [H4]
    · iapply (start_A M c)
      isplitl [H2]; · iexact H2
      iapply (Entails.of_eq (show _ = aAll c zeroTab by unfold aAll; rfl))
      iexact H3
    iexact H4) h)).out
  isplitl [H3]
  · iapply (Entails.of_eq (show aAll c f = _ by unfold aAll; rfl))
    iexact H3
  isplitl [H1]; · iexact H1
  isplitl [H2] <;> iassumption

/-! ## The barrier -/

theorem before_wait (P : Dev nD → Fin 8 → FVec F S128x256 .f32) (M : Dev nD → F .f32) :
    iprop(recs P M K ∗ A M c 31 ∗ XW c X W ∗ Pre c) ⊢ iprop(recs P M K ∗ A M c 31 ∗ (cred (tallyAt (barCell c) () 31) ∗ atPos ER (barCell c) 0 ∅ 0) ∗ (XW c X W ∗ (∃ f, sAll c f) ∗ tokD c ∗ Late c)) := by
  unfold Pre
  iintro ⟨H1, H2, H3, H4, H5⟩
  isplitl [H1]; · iexact H1
  isplitl [H2]; · iexact H2
  isplitl [H4]; · iexact H4
  isplitl [H3] <;> iassumption

theorem after_wait (P : Dev nD → Fin 8 → FVec F S128x256 .f32) (M : Dev nD → F .f32) :
    iprop(recs P M K ∗ B M c ∗ atPos ER (barCell c) 1 ∅ 0 ∗ (XW c X W ∗ (∃ f, sAll c f) ∗ tokD c ∗ Late c)) ⊢ iprop(recs P M K ∗ D P c 0 0 0 ∗ XW c X W ∗ Hold M c) := by
  iintro ⟨H1, H2, H3, H4, H5⟩
  isplitl [H1]; · iexact H1
  ihave H := (barrier_D P M c) $$ [H2 H3 H5]
  · isplitl [H2]; · iexact H2
    isplitl [H3] <;> iassumption
  icases H with ⟨H2, H3⟩
  isplitl [H2]; · iexact H2
  isplitl [H4] <;> iassumption

/-! ## The maximum stored -/

theorem step_load_m (P : Dev nD → Fin 8 → FVec F S128x256 .f32) (M : Dev nD → F .f32) {inb hl} {k : (S8x128.Idx → Elt F .f32) → Prog (TpuEff nD τ sig (Elt F) Λ₀ .tc) α}
    (h : ∀ v, Runs iprop(recs P M K ∗ D P c 32 32 32 ∗ XW c X W ∗ (∃ f, mAll c f) ∗ HoldM M c) c (k v) Q) :
    Runs iprop(recs P M K ∗ D P c 32 32 32 ∗ XW c X W ∗ Hold M c) c (.op (.load mM (Rect.unit (s := S8x128) ![0, 0] S8x128.size inb).toLoadRect hl) k) Q := by
  unfold Runs
  iintro ⟨H1, H2, H3, H4⟩
  ihave H4 := (Hold_out M c) $$ H4
  icases H4 with ⟨⟨%f, H4⟩, H5⟩
  iapply (step_load_whole (c := c) (R := iprop(recs P M K ∗ D P c 32 32 32 ∗ XW c X W ∗ HoldM M c)) mM f (Memref.readAt_unit_zero (Elt F) cc0_scratch2 zero2 _ f) (Runs.pre (by
    iintro ⟨H4, H1, H2, H3, H5⟩
    isplitl [H1]; · iexact H1
    isplitl [H2]; · iexact H2
    isplitl [H3]; · iexact H3
    isplitl [H4]
    · iexists f
      iapply (Entails.of_eq (show _ = mAll c f by unfold mAll; rfl))
      iexact H4
    iexact H5) (h f))).out
  isplitl [H4]
  · iapply (Entails.of_eq (show mAll c f = _ by unfold mAll; rfl))
    iexact H4
  isplitl [H1]; · iexact H1
  isplitl [H2]; · iexact H2
  isplitl [H3] <;> iassumption

theorem step_store_m (P : Dev nD → Fin 8 → FVec F S128x256 .f32) (M : Dev nD → F .f32) {inb hx hm} {v : S8x128.Idx → Elt F .f32} (hv : v = maxBuf M c) {k : PUnit → Prog (TpuEff nD τ sig (Elt F) Λ₀ .tc) α}
    (h : Runs iprop(recs P M K ∗ C M c 0 ∗ XW c X W ∗ Hold2 P M c) c (k ⟨⟩) Q) :
    Runs iprop(recs P M K ∗ D P c 32 32 32 ∗ XW c X W ∗ (∃ f, mAll c f) ∗ HoldM M c) c (.op (.store mM (Rect.unit (s := S8x128) ![0, 0] S8x128.size inb) v Finset.univ hx hm) k) Q := by
  subst hv
  unfold Runs
  iintro ⟨H1, H2, H3, ⟨%f, H4⟩, H5⟩
  iapply (step_store_whole (c := c) (R := iprop(recs P M K ∗ D P c 32 32 32 ∗ XW c X W ∗ HoldM M c)) mM f (maxBuf M c) (Memref.write_access_unit_zero_univ (Elt F) cc0_scratch2 zero2 _ f _) (Runs.pre (by
    iintro ⟨H4, H1, H2, H3, H5⟩
    ihave H := (chunks_C P M c) $$ [H2 H4 H5]
    · isplitl [H2]; · iexact H2
      isplitl [H4]
      · iapply (Entails.of_eq (show _ = mAll c (maxBuf M c) by unfold mAll; rfl))
        iexact H4
      iexact H5
    icases H with ⟨H2, H4⟩
    isplitl [H1]; · iexact H1
    isplitl [H2]; · iexact H2
    isplitl [H3] <;> iassumption) h)).out
  isplitl [H4]
  · iapply (Entails.of_eq (show mAll c f = _ by unfold mAll; rfl))
    iexact H4
  isplitl [H1]; · iexact H1
  isplitl [H2]; · iexact H2
  isplitl [H3] <;> iassumption

/-! ## The maxima sent, the waits begun -/

theorem before_recv (P : Dev nD → Fin 8 → FVec F S128x256 .f32) (M : Dev nD → F .f32) :
    iprop(recs P M K ∗ C M c 32 ∗ XW c X W ∗ Hold2 P M c) ⊢ iprop(recs P M K ∗ E c ∗ Wt P M c 1 0 ∗ Wt P M c 3 0 ∗ (XW c X W ∗ Hold3 P M c)) := by
  iintro ⟨H1, H2, H3, H4⟩
  isplitl [H1]; · iexact H1
  ihave H := (maxima_W P M c) $$ [H2 H4]
  · isplitl [H2] <;> iassumption
  icases H with ⟨H2, H4, H5, H6⟩
  isplitl [H2]; · iexact H2
  isplitl [H4]; · iexact H4
  isplitl [H5]; · iexact H5
  isplitl [H3] <;> iassumption

/-! ## Everything landed, the result written -/

/-- What is not touched by the loads and the store at the end. -/
def Aside (P : Dev nD → Fin 8 → FVec F S128x256 .f32) (M : Dev nD → F .f32) (c : Dev nD) : sProp 𝕄 :=
  iprop(recs P M K ∗ E c ∗ Wt P M c 0 0 ∗ (Wt P M c 2 0 ∗ XW c X W) ∗ (atAll c 1 ∗ atAll c 3 ∗ mPts c (Transfers.shareDrop fullShare 32) (maxBuf M c) ∗ atPos ER (barCell c) 1 ∅ 0))

theorem after_recv (P : Dev nD → Fin 8 → FVec F S128x256 .f32) (M : Dev nD → F .f32) :
    iprop(recs P M K ∗ E c ∗ Wt P M c 1 32 ∗ Wt P M c 3 32 ∗ (XW c X W ∗ Hold3 P M c)) ⊢ iprop(aAll c (maxTab M c) ∗ rAll c (recvBuf P c) ∗ (∃ f, oAll c f) ∗ Aside K X W P M c) := by
  unfold Hold3 Aside
  iintro ⟨H1, H2, H3, H4, H5, H6, H7, H8, H9, H10⟩
  ihave H3 := (Wt_done1 P M c) $$ H3
  icases H3 with ⟨H3, H3'⟩
  ihave H4 := (Wt_done3 P M c) $$ H4
  icases H4 with ⟨H4, H4'⟩
  isplitl [H4']; · iexact H4'
  isplitl [H3']; · iexact H3'
  isplitl [H10]; · iexact H10
  isplitl [H1]; · iexact H1
  isplitl [H2]; · iexact H2
  isplitl [H6]; · iexact H6
  isplitl [H7 H5]
  · isplitl [H7] <;> iassumption
  isplitl [H3]; · iexact H3
  isplitl [H4]; · iexact H4
  isplitl [H8] <;> iassumption

theorem before_sent (P : Dev nD → Fin 8 → FVec F S128x256 .f32) (M : Dev nD → F .f32) (o) :
    iprop(oAll c o ∗ aAll c (maxTab M c) ∗ rAll c (recvBuf P c) ∗ Aside K X W P M c) ⊢ iprop(recs P M K ∗ E c ∗ Wt P M c 0 0 ∗ (Wt P M c 2 0 ∗ XW c X W) ∗ Hold4 P M c o) := by
  unfold Hold4 Aside
  iintro ⟨Ho, Ha, Hr, H1, H2, H3, H4, H5, H6, H7, H8⟩
  isplitl [H1]; · iexact H1
  isplitl [H2]; · iexact H2
  isplitl [H3]; · iexact H3
  isplitl [H4]; · iexact H4
  isplitl [Ha]; · iexact Ha
  isplitl [Hr]; · iexact Hr
  isplitl [H5]; · iexact H5
  isplitl [H6]; · iexact H6
  isplitl [H7]; · iexact H7
  isplitl [H8] <;> iassumption

/-- The load of the table of maxima. -/
theorem step_load_tab (f) {inb hl} {k : (S32x8x128.Idx → Elt F .f32) → Prog (TpuEff nD τ sig (Elt F) Λ₀ .tc) α}
    (h : Runs iprop(aAll c f ∗ R) c (k f) Q) :
    Runs iprop(aAll c f ∗ R) c (.op (.load aM (Rect.unit (s := S32x8x128) ![0, 0, 0] S32x8x128.size inb).toLoadRect hl) k) Q := by
  have e : aAll c f = ((aM.view.loc (c : Thread nD τ)) ↦{fullShare} f : sProp 𝕄) := by unfold aAll; rfl
  rw [e] at h ⊢
  exact step_load_whole aM f (Memref.readAt_unit_zero (Elt F) cc0_scratch3 zero3 _ f) h

/-- The load of what was gathered. -/
theorem step_load_got (f) {S : sProp (MT nD τ sig Unit (Elt F) ℕ UU ℕ)} {inb hl} {k : (S32x128x64.Idx → Elt F .f32) → Prog (TpuEff nD τ sig (Elt F) Λ₀ .tc) α}
    (h : Runs iprop(S ∗ rAll c f ∗ R) c (k f) Q) :
    Runs iprop(S ∗ rAll c f ∗ R) c (.op (.load rM (Rect.unit (s := S32x128x64) ![0, 0, 0] S32x128x64.size inb).toLoadRect hl) k) Q := by
  have e : rAll c f = ((rM.view.loc (c : Thread nD τ)) ↦{fullShare} f : sProp 𝕄) := by unfold rAll; rfl
  rw [e] at h ⊢
  refine Runs.pre (sep_left_comm.1) (step_load_whole rM f (Memref.readAt_unit_zero (Elt F) cc0_scratch1 zero3 _ f) (Runs.pre sep_left_comm.1 h))

theorem step_load_out {S T : sProp (MT nD τ sig Unit (Elt F) ℕ UU ℕ)} {inb hl} {k : (S4096x64.Idx → Elt F .f32) → Prog (TpuEff nD τ sig (Elt F) Λ₀ .tc) α}
    (h : ∀ v, Runs iprop(S ∗ T ∗ (∃ f, oAll c f) ∗ R) c (k v) Q) :
    Runs iprop(S ∗ T ∗ (∃ f, oAll c f) ∗ R) c (.op (.load oM (Rect.unit (s := S4096x64) ![0, 0] S4096x64.size inb).toLoadRect hl) k) Q := by
  unfold Runs
  iintro ⟨H1, H2, ⟨%f, H3⟩, H4⟩
  iapply (step_load_whole (c := c) (R := iprop(S ∗ T ∗ R)) oM f (Memref.readAt_unit_zero (Elt F) cc0_stg2_0 zero2 _ f) (Runs.pre (by
    iintro ⟨H3, H1, H2, H4⟩
    isplitl [H1]; · iexact H1
    isplitl [H2]; · iexact H2
    isplitl [H3]
    · iexists f
      iapply (Entails.of_eq (show _ = oAll c f by unfold oAll; rfl))
      iexact H3
    iexact H4) (h f))).out
  isplitl [H3]
  · iapply (Entails.of_eq (show oAll c f = _ by unfold oAll; rfl))
    iexact H3
  isplitl [H1]; · iexact H1
  isplitl [H2] <;> iassumption

theorem step_store_out {S T : sProp (MT nD τ sig Unit (Elt F) ℕ UU ℕ)} {inb hx hm} {v : S4096x64.Idx → Elt F .f32} {k : PUnit → Prog (TpuEff nD τ sig (Elt F) Λ₀ .tc) α}
    (h : Runs iprop(oAll c v ∗ S ∗ T ∗ R) c (k ⟨⟩) Q) :
    Runs iprop(S ∗ T ∗ (∃ f, oAll c f) ∗ R) c (.op (.store oM (Rect.unit (s := S4096x64) ![0, 0] S4096x64.size inb) v Finset.univ hx hm) k) Q := by
  have e : oAll c v = ((oM.view.loc (c : Thread nD τ)) ↦{fullShare} v : sProp 𝕄) := by unfold oAll; rfl
  rw [e] at h
  unfold Runs
  iintro ⟨H1, H2, ⟨%f, H3⟩, H4⟩
  iapply (step_store_whole (c := c) (R := iprop(S ∗ T ∗ R)) oM f v (Memref.write_access_unit_zero_univ (Elt F) cc0_stg2_0 zero2 _ f _) h).out
  isplitl [H3]
  · iapply (Entails.of_eq (show oAll c f = _ by unfold oAll; rfl))
    iexact H3
  isplitl [H1]; · iexact H1
  isplitl [H2] <;> iassumption

theorem swap_sent (P : Dev nD → Fin 8 → FVec F S128x256 .f32) (M : Dev nD → F .f32) (n m : ℕ) (T : sProp (MT nD τ sig Unit (Elt F) ℕ UU ℕ)) :
    iprop(recs P M K ∗ E c ∗ Wt P M c 0 n ∗ (Wt P M c 2 m ∗ XW c X W) ∗ T) ⊢ iprop(recs P M K ∗ E c ∗ Wt P M c 2 m ∗ (Wt P M c 0 n ∗ XW c X W) ∗ T) := by
  iintro ⟨H1, H2, H3, ⟨H4, H5⟩, H6⟩
  isplitl [H1]; · iexact H1
  isplitl [H2]; · iexact H2
  isplitl [H4]; · iexact H4
  isplitl [H3 H5]
  · isplitl [H3] <;> iassumption
  iexact H6

end Borders

end Cert.KI
-- ==== Proof.KIParts.lean ====
/-
The parts of the program, in order.
-/
module

public import proofs.«01_k».proof.Proof.KIBorders

@[expose] public section

set_option maxRecDepth 16384

noncomputable section

namespace Cert.KI

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx (ix2 ix3)

variable {F : FTy → Type} [FloatOps F]

local notation "𝕄" => MT nD τ sig Unit (Elt F) ℕ UU ℕ

section Parts
variable (K : Dev nD × Option (Fin 4 × Fin 32) → ℕ)
variable (X : Dev nD → (cc0_stg0_0 : Ref sig .tc).ty.Contents (Elt F)) (W : Dev nD → (cc0_stg1_0 : Ref sig .tc).ty.Contents (Elt F))
variable {c : Dev nD} {α : Type} {Q : α → sProp (MT nD τ sig Unit (Elt F) ℕ UU ℕ)}
variable (h0 : (xM : Memref sig .tc .vmem S128x4096 .f32).IsWhole) (h1 : (wM : Memref sig .tc .vmem S4096x2048 .f32).IsWhole) (h2 : (oM : Memref sig .tc .vmem S4096x64 .f32).IsWhole)
  (h3 : (sM : Memref sig .tc .vmem S32x128x64 .f32).IsWhole) (h4 : (rM : Memref sig .tc .vmem S32x128x64 .f32).IsWhole) (h5 : (mM : Memref sig .tc .vmem S8x128 .f32).IsWhole)
  (h6 : (aM : Memref sig .tc .vmem S32x8x128 .f32).IsWhole)

/-- Part 1: the signals up to 1. -/
theorem part1 {k : _ → Prog (TpuEff nD τ sig (Elt F) Λ₀ .tc) α}
    (h : ∀ (t3 : BitVec 32) (t4 : BitVec 32), Runs iprop(recs (prod X W) (maxAll X W) K ∗ A (maxAll X W) c 1 ∗ XW c X W ∗ Pre c) c (k ⟨c, (myW c), (SemArray.scalar (sig.barrier 0 rfl)), t3, t4⟩) Q) :
    Runs iprop(recs (prod X W) (maxAll X W) K ∗ (Start c ∗ ∃ f, aAll c f) ∗ XW c X W ∗ Pre c) c (k0_part1 xM h0 wM h1 oM h2 sM h3 rM h4 mM h5 aM h6 cc0_scratch4 cc0_scratch5 cc0_scratch6 cc0_scratch7  >>= k) Q := by
  rw [k0_part1_eq_skeleton]
  refine of_bind ?_
  unfold k0_part1_skel
  extract_lets
  refine of_deviceId ?_
  refine of_op (step_load_zero K _ _ fun v => ?_)
  refine of_op (step_store_zero K _ _ ?_)
  refine of_signal (step_signal _ _ _ 0 rfl rfl (by clear h; revert c; decide +kernel) ?_)
  exact of_pure (h _ _).out

/-- Part 2: the signals up to 4. -/
theorem part2 (v31 : BitVec 32) (c1_i32_18 : BitVec 32) {k : _ → Prog (TpuEff nD τ sig (Elt F) Λ₀ .tc) α}
    (h : ∀ (t0 : BitVec 32) (t1 : BitVec 32), Runs iprop(recs (prod X W) (maxAll X W) K ∗ A (maxAll X W) c 4 ∗ XW c X W ∗ Pre c) c (k ⟨t0, t1⟩) Q) :
    Runs iprop(recs (prod X W) (maxAll X W) K ∗ A (maxAll X W) c 1 ∗ XW c X W ∗ Pre c) c (k0_part2 xM h0 wM h1 oM h2 sM h3 rM h4 mM h5 aM h6 cc0_scratch4 cc0_scratch5 cc0_scratch6 cc0_scratch7 c (myW c) (SemArray.scalar (sig.barrier 0 rfl)) v31 c1_i32_18 >>= k) Q := by
  rw [k0_part2_eq_skeleton]
  refine of_bind ?_
  unfold k0_part2_skel
  extract_lets
  refine of_signal (step_signal _ _ _ 1 rfl rfl (by clear h; revert c; decide +kernel) ?_)
  refine of_signal (step_signal _ _ _ 2 rfl rfl (by clear h; revert c; decide +kernel) ?_)
  refine of_signal (step_signal _ _ _ 3 rfl rfl (by clear h; revert c; decide +kernel) ?_)
  exact of_pure (h _ _).out

/-- Part 3: the signals up to 6. -/
theorem part3 (v62 : BitVec 32) (v63 : BitVec 32) {k : _ → Prog (TpuEff nD τ sig (Elt F) Λ₀ .tc) α}
    (h : ∀ (t0 : BitVec 32) (t1 : BitVec 32), Runs iprop(recs (prod X W) (maxAll X W) K ∗ A (maxAll X W) c 6 ∗ XW c X W ∗ Pre c) c (k ⟨t0, t1⟩) Q) :
    Runs iprop(recs (prod X W) (maxAll X W) K ∗ A (maxAll X W) c 4 ∗ XW c X W ∗ Pre c) c (k0_part3 xM h0 wM h1 oM h2 sM h3 rM h4 mM h5 aM h6 cc0_scratch4 cc0_scratch5 cc0_scratch6 cc0_scratch7 c (myW c) (SemArray.scalar (sig.barrier 0 rfl)) v62 v63 >>= k) Q := by
  rw [k0_part3_eq_skeleton]
  refine of_bind ?_
  unfold k0_part3_skel
  extract_lets
  refine of_signal (step_signal _ _ _ 4 rfl rfl (by clear h; revert c; decide +kernel) ?_)
  refine of_signal (step_signal _ _ _ 5 rfl rfl (by clear h; revert c; decide +kernel) ?_)
  exact of_pure (h _ _).out

/-- Part 4: the signals up to 9. -/
theorem part4 (v96 : BitVec 32) (c1_i32_63 : BitVec 32) {k : _ → Prog (TpuEff nD τ sig (Elt F) Λ₀ .tc) α}
    (h : ∀ (t0 : BitVec 32) (t1 : BitVec 32), Runs iprop(recs (prod X W) (maxAll X W) K ∗ A (maxAll X W) c 9 ∗ XW c X W ∗ Pre c) c (k ⟨t0, t1⟩) Q) :
    Runs iprop(recs (prod X W) (maxAll X W) K ∗ A (maxAll X W) c 6 ∗ XW c X W ∗ Pre c) c (k0_part4 xM h0 wM h1 oM h2 sM h3 rM h4 mM h5 aM h6 cc0_scratch4 cc0_scratch5 cc0_scratch6 cc0_scratch7 c (myW c) (SemArray.scalar (sig.barrier 0 rfl)) v96 c1_i32_63 >>= k) Q := by
  rw [k0_part4_eq_skeleton]
  refine of_bind ?_
  unfold k0_part4_skel
  extract_lets
  refine of_signal (step_signal _ _ _ 6 rfl rfl (by clear h; revert c; decide +kernel) ?_)
  refine of_signal (step_signal _ _ _ 7 rfl rfl (by clear h; revert c; decide +kernel) ?_)
  refine of_signal (step_signal _ _ _ 8 rfl rfl (by clear h; revert c; decide +kernel) ?_)
  exact of_pure (h _ _).out

/-- Part 5: the signals up to 11. -/
theorem part5 (v127 : BitVec 32) (v128 : BitVec 32) {k : _ → Prog (TpuEff nD τ sig (Elt F) Λ₀ .tc) α}
    (h : ∀ (t0 : BitVec 32) (t1 : BitVec 32), Runs iprop(recs (prod X W) (maxAll X W) K ∗ A (maxAll X W) c 11 ∗ XW c X W ∗ Pre c) c (k ⟨t0, t1⟩) Q) :
    Runs iprop(recs (prod X W) (maxAll X W) K ∗ A (maxAll X W) c 9 ∗ XW c X W ∗ Pre c) c (k0_part5 xM h0 wM h1 oM h2 sM h3 rM h4 mM h5 aM h6 cc0_scratch4 cc0_scratch5 cc0_scratch6 cc0_scratch7 c (myW c) (SemArray.scalar (sig.barrier 0 rfl)) v127 v128 >>= k) Q := by
  rw [k0_part5_eq_skeleton]
  refine of_bind ?_
  unfold k0_part5_skel
  extract_lets
  refine of_signal (step_signal _ _ _ 9 rfl rfl (by clear h; revert c; decide +kernel) ?_)
  refine of_signal (step_signal _ _ _ 10 rfl rfl (by clear h; revert c; decide +kernel) ?_)
  exact of_pure (h _ _).out

/-- Part 6: the signals up to 14. -/
theorem part6 (v161 : BitVec 32) (c1_i32_108 : BitVec 32) {k : _ → Prog (TpuEff nD τ sig (Elt F) Λ₀ .tc) α}
    (h : ∀ (t0 : BitVec 32) (t1 : BitVec 32), Runs iprop(recs (prod X W) (maxAll X W) K ∗ A (maxAll X W) c 14 ∗ XW c X W ∗ Pre c) c (k ⟨t0, t1⟩) Q) :
    Runs iprop(recs (prod X W) (maxAll X W) K ∗ A (maxAll X W) c 11 ∗ XW c X W ∗ Pre c) c (k0_part6 xM h0 wM h1 oM h2 sM h3 rM h4 mM h5 aM h6 cc0_scratch4 cc0_scratch5 cc0_scratch6 cc0_scratch7 c (myW c) (SemArray.scalar (sig.barrier 0 rfl)) v161 c1_i32_108 >>= k) Q := by
  rw [k0_part6_eq_skeleton]
  refine of_bind ?_
  unfold k0_part6_skel
  extract_lets
  refine of_signal (step_signal _ _ _ 11 rfl rfl (by clear h; revert c; decide +kernel) ?_)
  refine of_signal (step_signal _ _ _ 12 rfl rfl (by clear h; revert c; decide +kernel) ?_)
  refine of_signal (step_signal _ _ _ 13 rfl rfl (by clear h; revert c; decide +kernel) ?_)
  exact of_pure (h _ _).out

/-- Part 7: the signals up to 16. -/
theorem part7 (v192 : BitVec 32) (v193 : BitVec 32) {k : _ → Prog (TpuEff nD τ sig (Elt F) Λ₀ .tc) α}
    (h : ∀ (t0 : BitVec 32) (t1 : BitVec 32), Runs iprop(recs (prod X W) (maxAll X W) K ∗ A (maxAll X W) c 16 ∗ XW c X W ∗ Pre c) c (k ⟨t0, t1⟩) Q) :
    Runs iprop(recs (prod X W) (maxAll X W) K ∗ A (maxAll X W) c 14 ∗ XW c X W ∗ Pre c) c (k0_part7 xM h0 wM h1 oM h2 sM h3 rM h4 mM h5 aM h6 cc0_scratch4 cc0_scratch5 cc0_scratch6 cc0_scratch7 c (myW c) (SemArray.scalar (sig.barrier 0 rfl)) v192 v193 >>= k) Q := by
  rw [k0_part7_eq_skeleton]
  refine of_bind ?_
  unfold k0_part7_skel
  extract_lets
  refine of_signal (step_signal _ _ _ 14 rfl rfl (by clear h; revert c; decide +kernel) ?_)
  refine of_signal (step_signal _ _ _ 15 rfl rfl (by clear h; revert c; decide +kernel) ?_)
  exact of_pure (h _ _).out

/-- Part 8: the signals up to 19. -/
theorem part8 (v226 : BitVec 32) (c1_i32_153 : BitVec 32) {k : _ → Prog (TpuEff nD τ sig (Elt F) Λ₀ .tc) α}
    (h : ∀ (t0 : BitVec 32) (t1 : BitVec 32), Runs iprop(recs (prod X W) (maxAll X W) K ∗ A (maxAll X W) c 19 ∗ XW c X W ∗ Pre c) c (k ⟨t0, t1⟩) Q) :
    Runs iprop(recs (prod X W) (maxAll X W) K ∗ A (maxAll X W) c 16 ∗ XW c X W ∗ Pre c) c (k0_part8 xM h0 wM h1 oM h2 sM h3 rM h4 mM h5 aM h6 cc0_scratch4 cc0_scratch5 cc0_scratch6 cc0_scratch7 c (myW c) (SemArray.scalar (sig.barrier 0 rfl)) v226 c1_i32_153 >>= k) Q := by
  rw [k0_part8_eq_skeleton]
  refine of_bind ?_
  unfold k0_part8_skel
  extract_lets
  refine of_signal (step_signal _ _ _ 16 rfl rfl (by clear h; revert c; decide +kernel) ?_)
  refine of_signal (step_signal _ _ _ 17 rfl rfl (by clear h; revert c; decide +kernel) ?_)
  refine of_signal (step_signal _ _ _ 18 rfl rfl (by clear h; revert c; decide +kernel) ?_)
  exact of_pure (h _ _).out

/-- Part 9: the signals up to 21. -/
theorem part9 (v257 : BitVec 32) (v258 : BitVec 32) {k : _ → Prog (TpuEff nD τ sig (Elt F) Λ₀ .tc) α}
    (h : ∀ (t0 : BitVec 32) (t1 : BitVec 32), Runs iprop(recs (prod X W) (maxAll X W) K ∗ A (maxAll X W) c 21 ∗ XW c X W ∗ Pre c) c (k ⟨t0, t1⟩) Q) :
    Runs iprop(recs (prod X W) (maxAll X W) K ∗ A (maxAll X W) c 19 ∗ XW c X W ∗ Pre c) c (k0_part9 xM h0 wM h1 oM h2 sM h3 rM h4 mM h5 aM h6 cc0_scratch4 cc0_scratch5 cc0_scratch6 cc0_scratch7 c (myW c) (SemArray.scalar (sig.barrier 0 rfl)) v257 v258 >>= k) Q := by
  rw [k0_part9_eq_skeleton]
  refine of_bind ?_
  unfold k0_part9_skel
  extract_lets
  refine of_signal (step_signal _ _ _ 19 rfl rfl (by clear h; revert c; decide +kernel) ?_)
  refine of_signal (step_signal _ _ _ 20 rfl rfl (by clear h; revert c; decide +kernel) ?_)
  exact of_pure (h _ _).out

/-- Part 10: the signals up to 24. -/
theorem part10 (v291 : BitVec 32) (c1_i32_198 : BitVec 32) {k : _ → Prog (TpuEff nD τ sig (Elt F) Λ₀ .tc) α}
    (h : ∀ (t0 : BitVec 32) (t1 : BitVec 32), Runs iprop(recs (prod X W) (maxAll X W) K ∗ A (maxAll X W) c 24 ∗ XW c X W ∗ Pre c) c (k ⟨t0, t1⟩) Q) :
    Runs iprop(recs (prod X W) (maxAll X W) K ∗ A (maxAll X W) c 21 ∗ XW c X W ∗ Pre c) c (k0_part10 xM h0 wM h1 oM h2 sM h3 rM h4 mM h5 aM h6 cc0_scratch4 cc0_scratch5 cc0_scratch6 cc0_scratch7 c (myW c) (SemArray.scalar (sig.barrier 0 rfl)) v291 c1_i32_198 >>= k) Q := by
  rw [k0_part10_eq_skeleton]
  refine of_bind ?_
  unfold k0_part10_skel
  extract_lets
  refine of_signal (step_signal _ _ _ 21 rfl rfl (by clear h; revert c; decide +kernel) ?_)
  refine of_signal (step_signal _ _ _ 22 rfl rfl (by clear h; revert c; decide +kernel) ?_)
  refine of_signal (step_signal _ _ _ 23 rfl rfl (by clear h; revert c; decide +kernel) ?_)
  exact of_pure (h _ _).out

/-- Part 11: the signals up to 26. -/
theorem part11 (v322 : BitVec 32) (v323 : BitVec 32) {k : _ → Prog (TpuEff nD τ sig (Elt F) Λ₀ .tc) α}
    (h : ∀ (t0 : BitVec 32) (t1 : BitVec 32), Runs iprop(recs (prod X W) (maxAll X W) K ∗ A (maxAll X W) c 26 ∗ XW c X W ∗ Pre c) c (k ⟨t0, t1⟩) Q) :
    Runs iprop(recs (prod X W) (maxAll X W) K ∗ A (maxAll X W) c 24 ∗ XW c X W ∗ Pre c) c (k0_part11 xM h0 wM h1 oM h2 sM h3 rM h4 mM h5 aM h6 cc0_scratch4 cc0_scratch5 cc0_scratch6 cc0_scratch7 c (myW c) (SemArray.scalar (sig.barrier 0 rfl)) v322 v323 >>= k) Q := by
  rw [k0_part11_eq_skeleton]
  refine of_bind ?_
  unfold k0_part11_skel
  extract_lets
  refine of_signal (step_signal _ _ _ 24 rfl rfl (by clear h; revert c; decide +kernel) ?_)
  refine of_signal (step_signal _ _ _ 25 rfl rfl (by clear h; revert c; decide +kernel) ?_)
  exact of_pure (h _ _).out

/-- Part 12: the signals up to 29. -/
theorem part12 (v356 : BitVec 32) (c1_i32_243 : BitVec 32) {k : _ → Prog (TpuEff nD τ sig (Elt F) Λ₀ .tc) α}
    (h : ∀ (t0 : BitVec 32) (t1 : BitVec 32), Runs iprop(recs (prod X W) (maxAll X W) K ∗ A (maxAll X W) c 29 ∗ XW c X W ∗ Pre c) c (k ⟨t0, t1⟩) Q) :
    Runs iprop(recs (prod X W) (maxAll X W) K ∗ A (maxAll X W) c 26 ∗ XW c X W ∗ Pre c) c (k0_part12 xM h0 wM h1 oM h2 sM h3 rM h4 mM h5 aM h6 cc0_scratch4 cc0_scratch5 cc0_scratch6 cc0_scratch7 c (myW c) (SemArray.scalar (sig.barrier 0 rfl)) v356 c1_i32_243 >>= k) Q := by
  rw [k0_part12_eq_skeleton]
  refine of_bind ?_
  unfold k0_part12_skel
  extract_lets
  refine of_signal (step_signal _ _ _ 26 rfl rfl (by clear h; revert c; decide +kernel) ?_)
  refine of_signal (step_signal _ _ _ 27 rfl rfl (by clear h; revert c; decide +kernel) ?_)
  refine of_signal (step_signal _ _ _ 28 rfl rfl (by clear h; revert c; decide +kernel) ?_)
  exact of_pure (h _ _).out

/-- Part 13: the last signals, and the first product. -/
theorem part13 (v387 : BitVec 32) (v388 : BitVec 32) {k : _ → Prog (TpuEff nD τ sig (Elt F) Λ₀ .tc) α}
    (h : Runs iprop(recs (prod X W) (maxAll X W) K ∗ A (maxAll X W) c 31 ∗ XW c X W ∗ Pre c) c (k ⟨(k0_pay2 (X c)), (prod X W c 0), (maxTo X W c 0)⟩) Q) :
    Runs iprop(recs (prod X W) (maxAll X W) K ∗ A (maxAll X W) c 29 ∗ XW c X W ∗ Pre c) c (k0_part13 xM h0 wM h1 oM h2 sM h3 rM h4 mM h5 aM h6 cc0_scratch4 cc0_scratch5 cc0_scratch6 cc0_scratch7 c (myW c) (SemArray.scalar (sig.barrier 0 rfl)) v387 v388 >>= k) Q := by
  rw [k0_part13_eq_skeleton]
  refine of_bind ?_
  unfold k0_part13_skel
  refine of_signal (step_signal _ _ _ 29 rfl rfl (by clear h; revert c; decide +kernel) ?_)
  refine of_signal (step_signal _ _ _ 30 rfl rfl (by clear h; revert c; decide +kernel) ?_)
  refine of_op (step_load_x _ _ _ X W ?_)
  refine of_op (step_load_w _ _ _ X W 0 rfl ?_)
  exact of_pure h.out

/-- Part 14: the chunks up to 2. -/
theorem part14 {k : _ → Prog (TpuEff nD τ sig (Elt F) Λ₀ .tc) α}
    (h : ∀ (t1 : BitVec 32), Runs iprop(recs (prod X W) (maxAll X W) K ∗ D (prod X W) c 3 2 2 ∗ XW c X W ∗ Hold (maxAll X W) c) c (k ⟨(cut (prod X W c 0) 2), t1⟩) Q) :
    Runs iprop(recs (prod X W) (maxAll X W) K ∗ A (maxAll X W) c 31 ∗ XW c X W ∗ Pre c) c (k0_part14 xM h0 wM h1 oM h2 sM h3 rM h4 mM h5 aM h6 cc0_scratch4 cc0_scratch5 cc0_scratch6 cc0_scratch7 c (myW c) (SemArray.scalar (sig.barrier 0 rfl)) (prod X W c 0) >>= k) Q := by
  rw [k0_part14_eq_skeleton]
  refine of_bind ?_
  unfold k0_part14_skel
  extract_lets
  refine Runs.pre (before_wait K X W _ _) (of_wait (step_barrier _ _ _ rfl rfl (Runs.pre (after_wait K X W _ _) ?_)))
  refine of_op (step_load_s _ _ _ 0 (by omega) fun v => ?_)
  refine of_op (step_store_s _ _ _ 0 (by omega) (pay_store 0 rfl rfl) ?_)
  refine step_sendC _ _ _ 0 (by omega) (cond_ne 0 c) (k0_off1_eq c) (k0_off2_eq c) k0_dev32_eq (fun _ => rfl) ?_
  refine step_own _ _ _ 0 (by omega) (cond_eq 0 c) (k0_off3_eq c) (pay_own 0 rfl rfl) (fun _ => rfl) ?_
  refine of_op (step_load_s _ _ _ 1 (by omega) fun v => ?_)
  refine of_op (step_store_s _ _ _ 1 (by omega) (pay_store 1 rfl rfl) ?_)
  refine step_sendC _ _ _ 1 (by omega) (cond_ne 1 c) (k0_off4_eq c) (k0_off5_eq c) k0_dev33_eq (fun _ => rfl) ?_
  refine step_own _ _ _ 1 (by omega) (cond_eq 1 c) (k0_off6_eq c) (pay_own 1 rfl rfl) (fun _ => rfl) ?_
  refine of_op (step_load_s _ _ _ 2 (by omega) fun v => ?_)
  refine of_op (step_store_s _ _ _ 2 (by omega) (pay_store 2 rfl rfl) ?_)
  exact of_pure (h _).out

/-- Part 15: the chunks up to 4. -/
theorem part15 (v448 : BitVec 32) {k : _ → Prog (TpuEff nD τ sig (Elt F) Λ₀ .tc) α}
    (h : ∀ (t3 : BitVec 32) (t4 : BitVec 32), Runs iprop(recs (prod X W) (maxAll X W) K ∗ D (prod X W) c 5 4 4 ∗ XW c X W ∗ Hold (maxAll X W) c) c (k ⟨(prod X W c 1), (maxTo X W c 1), (cut (prod X W c 1) 0), t3, t4⟩) Q) :
    Runs iprop(recs (prod X W) (maxAll X W) K ∗ D (prod X W) c 3 2 2 ∗ XW c X W ∗ Hold (maxAll X W) c) c (k0_part15 xM h0 wM h1 oM h2 sM h3 rM h4 mM h5 aM h6 cc0_scratch4 cc0_scratch5 cc0_scratch6 cc0_scratch7 c (myW c) (k0_pay2 (X c)) (prod X W c 0) (maxTo X W c 0) (cut (prod X W c 0) 2) v448 >>= k) Q := by
  rw [k0_part15_eq_skeleton]
  refine of_bind ?_
  unfold k0_part15_skel
  extract_lets
  refine step_sendC _ _ _ 2 (by omega) (cond_ne 2 c) (k0_off7_eq c) (k0_off8_eq c) k0_dev34_eq (fun _ => rfl) ?_
  refine step_own _ _ _ 2 (by omega) (cond_eq 2 c) (k0_off9_eq c) (pay_own 2 rfl rfl) (fun _ => rfl) ?_
  refine of_op (step_load_s _ _ _ 3 (by omega) fun v => ?_)
  refine of_op (step_store_s _ _ _ 3 (by omega) (pay_store 3 rfl rfl) ?_)
  refine step_sendC _ _ _ 3 (by omega) (cond_ne 3 c) (k0_off10_eq c) (k0_off11_eq c) k0_dev35_eq (fun _ => rfl) ?_
  refine step_own _ _ _ 3 (by omega) (cond_eq 3 c) (k0_off12_eq c) (pay_own 3 rfl rfl) (fun _ => rfl) ?_
  refine of_op (step_load_w _ _ _ X W 1 rfl ?_)
  refine of_op (step_load_s _ _ _ 4 (by omega) fun v => ?_)
  refine of_op (step_store_s _ _ _ 4 (by omega) (pay_store 4 rfl rfl) ?_)
  exact of_pure (h _ _).out

/-- Part 16: the chunks up to 7. -/
theorem part16 (v478 : BitVec 32) (c0_i32_332 : BitVec 32) {k : _ → Prog (TpuEff nD τ sig (Elt F) Λ₀ .tc) α}
    (h : Runs iprop(recs (prod X W) (maxAll X W) K ∗ D (prod X W) c 8 7 7 ∗ XW c X W ∗ Hold (maxAll X W) c) c (k (cut (prod X W c 1) 3)) Q) :
    Runs iprop(recs (prod X W) (maxAll X W) K ∗ D (prod X W) c 5 4 4 ∗ XW c X W ∗ Hold (maxAll X W) c) c (k0_part16 xM h0 wM h1 oM h2 sM h3 rM h4 mM h5 aM h6 cc0_scratch4 cc0_scratch5 cc0_scratch6 cc0_scratch7 c (myW c) (prod X W c 1) (cut (prod X W c 1) 0) v478 c0_i32_332 >>= k) Q := by
  rw [k0_part16_eq_skeleton]
  refine of_bind ?_
  unfold k0_part16_skel
  extract_lets
  refine step_sendC _ _ _ 4 (by omega) (cond_ne 4 c) (k0_off13_eq c) (k0_off14_eq c) k0_dev36_eq (fun _ => rfl) ?_
  refine step_own _ _ _ 4 (by omega) (cond_eq 4 c) (k0_off15_eq c) (pay_own 4 rfl rfl) (fun _ => rfl) ?_
  refine of_op (step_load_s _ _ _ 5 (by omega) fun v => ?_)
  refine of_op (step_store_s _ _ _ 5 (by omega) (pay_store 5 rfl rfl) ?_)
  refine step_sendC _ _ _ 5 (by omega) (cond_ne 5 c) (k0_off16_eq c) (k0_off17_eq c) k0_dev37_eq (fun _ => rfl) ?_
  refine step_own _ _ _ 5 (by omega) (cond_eq 5 c) (k0_off18_eq c) (pay_own 5 rfl rfl) (fun _ => rfl) ?_
  refine of_op (step_load_s _ _ _ 6 (by omega) fun v => ?_)
  refine of_op (step_store_s _ _ _ 6 (by omega) (pay_store 6 rfl rfl) ?_)
  refine step_sendC _ _ _ 6 (by omega) (cond_ne 6 c) (k0_off19_eq c) (k0_off20_eq c) k0_dev38_eq (fun _ => rfl) ?_
  refine step_own _ _ _ 6 (by omega) (cond_eq 6 c) (k0_off21_eq c) (pay_own 6 rfl rfl) (fun _ => rfl) ?_
  refine of_op (step_load_s _ _ _ 7 (by omega) fun v => ?_)
  refine of_op (step_store_s _ _ _ 7 (by omega) (pay_store 7 rfl rfl) ?_)
  exact of_pure h.out

/-- Part 17: the chunks up to 9. -/
theorem part17 {k : _ → Prog (TpuEff nD τ sig (Elt F) Λ₀ .tc) α}
    (h : ∀ (t3 : BitVec 32), Runs iprop(recs (prod X W) (maxAll X W) K ∗ D (prod X W) c 10 9 9 ∗ XW c X W ∗ Hold (maxAll X W) c) c (k ⟨(prod X W c 2), (maxTo X W c 2), (cut (prod X W c 2) 1), t3⟩) Q) :
    Runs iprop(recs (prod X W) (maxAll X W) K ∗ D (prod X W) c 8 7 7 ∗ XW c X W ∗ Hold (maxAll X W) c) c (k0_part17 xM h0 wM h1 oM h2 sM h3 rM h4 mM h5 aM h6 cc0_scratch4 cc0_scratch5 cc0_scratch6 cc0_scratch7 c (myW c) (k0_pay2 (X c)) (maxTo X W c 1) (cut (prod X W c 1) 3) >>= k) Q := by
  rw [k0_part17_eq_skeleton]
  refine of_bind ?_
  unfold k0_part17_skel
  extract_lets
  refine step_sendC _ _ _ 7 (by omega) (cond_ne 7 c) (k0_off22_eq c) (k0_off23_eq c) k0_dev39_eq (fun _ => rfl) ?_
  refine step_own _ _ _ 7 (by omega) (cond_eq 7 c) (k0_off24_eq c) (pay_own 7 rfl rfl) (fun _ => rfl) ?_
  refine of_op (step_load_w _ _ _ X W 2 rfl ?_)
  refine of_op (step_load_s _ _ _ 8 (by omega) fun v => ?_)
  refine of_op (step_store_s _ _ _ 8 (by omega) (pay_store 8 rfl rfl) ?_)
  refine step_sendC _ _ _ 8 (by omega) (cond_ne 8 c) (k0_off25_eq c) (k0_off26_eq c) k0_dev40_eq (fun _ => rfl) ?_
  refine step_own _ _ _ 8 (by omega) (cond_eq 8 c) (k0_off27_eq c) (pay_own 8 rfl rfl) (fun _ => rfl) ?_
  refine of_op (step_load_s _ _ _ 9 (by omega) fun v => ?_)
  refine of_op (step_store_s _ _ _ 9 (by omega) (pay_store 9 rfl rfl) ?_)
  exact of_pure (h _).out

/-- Part 18: the chunks up to 11. -/
theorem part18 (c9_i32_373 : BitVec 32) {k : _ → Prog (TpuEff nD τ sig (Elt F) Λ₀ .tc) α}
    (h : Runs iprop(recs (prod X W) (maxAll X W) K ∗ D (prod X W) c 12 12 12 ∗ XW c X W ∗ Hold (maxAll X W) c) c (k (wCols W c 3)) Q) :
    Runs iprop(recs (prod X W) (maxAll X W) K ∗ D (prod X W) c 10 9 9 ∗ XW c X W ∗ Hold (maxAll X W) c) c (k0_part18 xM h0 wM h1 oM h2 sM h3 rM h4 mM h5 aM h6 cc0_scratch4 cc0_scratch5 cc0_scratch6 cc0_scratch7 c (myW c) (prod X W c 2) (cut (prod X W c 2) 1) c9_i32_373 >>= k) Q := by
  rw [k0_part18_eq_skeleton]
  refine of_bind ?_
  unfold k0_part18_skel
  extract_lets
  refine step_sendC _ _ _ 9 (by omega) (cond_ne 9 c) (k0_off28_eq c) (k0_off29_eq c) k0_dev41_eq (fun _ => rfl) ?_
  refine step_own _ _ _ 9 (by omega) (cond_eq 9 c) (k0_off30_eq c) (pay_own 9 rfl rfl) (fun _ => rfl) ?_
  refine of_op (step_load_s _ _ _ 10 (by omega) fun v => ?_)
  refine of_op (step_store_s _ _ _ 10 (by omega) (pay_store 10 rfl rfl) ?_)
  refine step_sendC _ _ _ 10 (by omega) (cond_ne 10 c) (k0_off31_eq c) (k0_off32_eq c) k0_dev42_eq (fun _ => rfl) ?_
  refine step_own _ _ _ 10 (by omega) (cond_eq 10 c) (k0_off33_eq c) (pay_own 10 rfl rfl) (fun _ => rfl) ?_
  refine of_op (step_load_s _ _ _ 11 (by omega) fun v => ?_)
  refine of_op (step_store_s _ _ _ 11 (by omega) (pay_store 11 rfl rfl) ?_)
  refine step_sendC _ _ _ 11 (by omega) (cond_ne 11 c) (k0_off34_eq c) (k0_off35_eq c) k0_dev43_eq (fun _ => rfl) ?_
  refine step_own _ _ _ 11 (by omega) (cond_eq 11 c) (k0_off36_eq c) (pay_own 11 rfl rfl) (fun _ => rfl) ?_
  refine of_op (step_load_w _ _ _ X W 3 rfl ?_)
  exact of_pure h.out

/-- Part 19: the chunks up to 13. -/
theorem part19 {k : _ → Prog (TpuEff nD τ sig (Elt F) Λ₀ .tc) α}
    (h : Runs iprop(recs (prod X W) (maxAll X W) K ∗ D (prod X W) c 14 14 14 ∗ XW c X W ∗ Hold (maxAll X W) c) c (k ⟨(prod X W c 3), (maxTo X W c 3), (cut (prod X W c 3) 2)⟩) Q) :
    Runs iprop(recs (prod X W) (maxAll X W) K ∗ D (prod X W) c 12 12 12 ∗ XW c X W ∗ Hold (maxAll X W) c) c (k0_part19 xM h0 wM h1 oM h2 sM h3 rM h4 mM h5 aM h6 cc0_scratch4 cc0_scratch5 cc0_scratch6 cc0_scratch7 c (myW c) (k0_pay2 (X c)) (maxTo X W c 2) (wCols W c 3) >>= k) Q := by
  rw [k0_part19_eq_skeleton]
  refine of_bind ?_
  unfold k0_part19_skel
  extract_lets
  refine of_op (step_load_s _ _ _ 12 (by omega) fun v => ?_)
  refine of_op (step_store_s _ _ _ 12 (by omega) (pay_store 12 rfl rfl) ?_)
  refine step_sendC _ _ _ 12 (by omega) (cond_ne 12 c) (k0_off37_eq c) (k0_off38_eq c) k0_dev44_eq (fun _ => rfl) ?_
  refine step_own _ _ _ 12 (by omega) (cond_eq 12 c) (k0_off39_eq c) (pay_own 12 rfl rfl) (fun _ => rfl) ?_
  refine of_op (step_load_s _ _ _ 13 (by omega) fun v => ?_)
  refine of_op (step_store_s _ _ _ 13 (by omega) (pay_store 13 rfl rfl) ?_)
  refine step_sendC _ _ _ 13 (by omega) (cond_ne 13 c) (k0_off40_eq c) (k0_off41_eq c) k0_dev45_eq (fun _ => rfl) ?_
  refine step_own _ _ _ 13 (by omega) (cond_eq 13 c) (k0_off42_eq c) (pay_own 13 rfl rfl) (fun _ => rfl) ?_
  exact of_pure h.out

/-- Part 20: the chunks up to 15. -/
theorem part20 {k : _ → Prog (TpuEff nD τ sig (Elt F) Λ₀ .tc) α}
    (h : ∀ (t3 : Vec F S1x128x64 .f32), Runs iprop(recs (prod X W) (maxAll X W) K ∗ D (prod X W) c 16 16 16 ∗ XW c X W ∗ Hold (maxAll X W) c) c (k ⟨(prod X W c 4), (maxTo X W c 4), (cut (prod X W c 4) 0), t3⟩) Q) :
    Runs iprop(recs (prod X W) (maxAll X W) K ∗ D (prod X W) c 14 14 14 ∗ XW c X W ∗ Hold (maxAll X W) c) c (k0_part20 xM h0 wM h1 oM h2 sM h3 rM h4 mM h5 aM h6 cc0_scratch4 cc0_scratch5 cc0_scratch6 cc0_scratch7 c (myW c) (k0_pay2 (X c)) (prod X W c 3) (maxTo X W c 3) (cut (prod X W c 3) 2) >>= k) Q := by
  rw [k0_part20_eq_skeleton]
  refine of_bind ?_
  unfold k0_part20_skel
  extract_lets
  refine of_op (step_load_s _ _ _ 14 (by omega) fun v => ?_)
  refine of_op (step_store_s _ _ _ 14 (by omega) (pay_store 14 rfl rfl) ?_)
  refine step_sendC _ _ _ 14 (by omega) (cond_ne 14 c) (k0_off43_eq c) (k0_off44_eq c) k0_dev46_eq (fun _ => rfl) ?_
  refine step_own _ _ _ 14 (by omega) (cond_eq 14 c) (k0_off45_eq c) (pay_own 14 rfl rfl) (fun _ => rfl) ?_
  refine of_op (step_load_s _ _ _ 15 (by omega) fun v => ?_)
  refine of_op (step_store_s _ _ _ 15 (by omega) (pay_store 15 rfl rfl) ?_)
  refine step_sendC _ _ _ 15 (by omega) (cond_ne 15 c) (k0_off46_eq c) (k0_off47_eq c) k0_dev47_eq (fun _ => rfl) ?_
  refine step_own _ _ _ 15 (by omega) (cond_eq 15 c) (k0_off48_eq c) (pay_own 15 rfl rfl) (fun _ => rfl) ?_
  refine of_op (step_load_w _ _ _ X W 4 rfl ?_)
  refine of_op (step_load_s _ _ _ 16 (by omega) fun v => ?_)
  exact of_pure (h _).out

/-- Part 21: the chunks up to 18. -/
theorem part21 (v624 : Vec F S1x128x64 .f32) {k : _ → Prog (TpuEff nD τ sig (Elt F) Λ₀ .tc) α}
    (h : Runs iprop(recs (prod X W) (maxAll X W) K ∗ D (prod X W) c 19 19 18 ∗ XW c X W ∗ Hold (maxAll X W) c) c (k (cut (prod X W c 4) 2)) Q) :
    Runs iprop(recs (prod X W) (maxAll X W) K ∗ D (prod X W) c 16 16 16 ∗ XW c X W ∗ Hold (maxAll X W) c) c (k0_part21 xM h0 wM h1 oM h2 sM h3 rM h4 mM h5 aM h6 cc0_scratch4 cc0_scratch5 cc0_scratch6 cc0_scratch7 c (myW c) (prod X W c 4) (cut (prod X W c 4) 0) v624 >>= k) Q := by
  rw [k0_part21_eq_skeleton]
  refine of_bind ?_
  unfold k0_part21_skel
  extract_lets
  refine of_op (step_store_s _ _ _ 16 (by omega) (pay_store 16 rfl rfl) ?_)
  refine step_sendC _ _ _ 16 (by omega) (cond_ne 16 c) (k0_off49_eq c) (k0_off50_eq c) k0_dev48_eq (fun _ => rfl) ?_
  refine step_own _ _ _ 16 (by omega) (cond_eq 16 c) (k0_off51_eq c) (pay_own 16 rfl rfl) (fun _ => rfl) ?_
  refine of_op (step_load_s _ _ _ 17 (by omega) fun v => ?_)
  refine of_op (step_store_s _ _ _ 17 (by omega) (pay_store 17 rfl rfl) ?_)
  refine step_sendC _ _ _ 17 (by omega) (cond_ne 17 c) (k0_off52_eq c) (k0_off53_eq c) k0_dev49_eq (fun _ => rfl) ?_
  refine step_own _ _ _ 17 (by omega) (cond_eq 17 c) (k0_off54_eq c) (pay_own 17 rfl rfl) (fun _ => rfl) ?_
  refine of_op (step_load_s _ _ _ 18 (by omega) fun v => ?_)
  refine of_op (step_store_s _ _ _ 18 (by omega) (pay_store 18 rfl rfl) ?_)
  refine step_sendC _ _ _ 18 (by omega) (cond_ne 18 c) (k0_off55_eq c) (k0_off56_eq c) k0_dev50_eq (fun _ => rfl) ?_
  exact of_pure h.out

/-- Part 22: the chunks up to 20. -/
theorem part22 {k : _ → Prog (TpuEff nD τ sig (Elt F) Λ₀ .tc) α}
    (h : Runs iprop(recs (prod X W) (maxAll X W) K ∗ D (prod X W) c 21 21 21 ∗ XW c X W ∗ Hold (maxAll X W) c) c (k ⟨(prod X W c 5), (maxTo X W c 5)⟩) Q) :
    Runs iprop(recs (prod X W) (maxAll X W) K ∗ D (prod X W) c 19 19 18 ∗ XW c X W ∗ Hold (maxAll X W) c) c (k0_part22 xM h0 wM h1 oM h2 sM h3 rM h4 mM h5 aM h6 cc0_scratch4 cc0_scratch5 cc0_scratch6 cc0_scratch7 c (myW c) (k0_pay2 (X c)) (prod X W c 4) (maxTo X W c 4) (cut (prod X W c 4) 2) >>= k) Q := by
  rw [k0_part22_eq_skeleton]
  refine of_bind ?_
  unfold k0_part22_skel
  extract_lets
  refine step_own _ _ _ 18 (by omega) (cond_eq 18 c) (k0_off57_eq c) (pay_own 18 rfl rfl) (fun _ => rfl) ?_
  refine of_op (step_load_s _ _ _ 19 (by omega) fun v => ?_)
  refine of_op (step_store_s _ _ _ 19 (by omega) (pay_store 19 rfl rfl) ?_)
  refine step_sendC _ _ _ 19 (by omega) (cond_ne 19 c) (k0_off58_eq c) (k0_off59_eq c) k0_dev51_eq (fun _ => rfl) ?_
  refine step_own _ _ _ 19 (by omega) (cond_eq 19 c) (k0_off60_eq c) (pay_own 19 rfl rfl) (fun _ => rfl) ?_
  refine of_op (step_load_w _ _ _ X W 5 rfl ?_)
  refine of_op (step_load_s _ _ _ 20 (by omega) fun v => ?_)
  refine of_op (step_store_s _ _ _ 20 (by omega) (pay_store 20 rfl rfl) ?_)
  refine step_sendC _ _ _ 20 (by omega) (cond_ne 20 c) (k0_off61_eq c) (k0_off62_eq c) k0_dev52_eq (fun _ => rfl) ?_
  refine step_own _ _ _ 20 (by omega) (cond_eq 20 c) (k0_off63_eq c) (pay_own 20 rfl rfl) (fun _ => rfl) ?_
  exact of_pure h.out

/-- Part 23: the chunks up to 23. -/
theorem part23 {k : _ → Prog (TpuEff nD τ sig (Elt F) Λ₀ .tc) α}
    (h : Runs iprop(recs (prod X W) (maxAll X W) K ∗ D (prod X W) c 24 24 23 ∗ XW c X W ∗ Hold (maxAll X W) c) c (k (cut (prod X W c 5) 3)) Q) :
    Runs iprop(recs (prod X W) (maxAll X W) K ∗ D (prod X W) c 21 21 21 ∗ XW c X W ∗ Hold (maxAll X W) c) c (k0_part23 xM h0 wM h1 oM h2 sM h3 rM h4 mM h5 aM h6 cc0_scratch4 cc0_scratch5 cc0_scratch6 cc0_scratch7 c (myW c) (prod X W c 5) >>= k) Q := by
  rw [k0_part23_eq_skeleton]
  refine of_bind ?_
  unfold k0_part23_skel
  extract_lets
  refine of_op (step_load_s _ _ _ 21 (by omega) fun v => ?_)
  refine of_op (step_store_s _ _ _ 21 (by omega) (pay_store 21 rfl rfl) ?_)
  refine step_sendC _ _ _ 21 (by omega) (cond_ne 21 c) (k0_off64_eq c) (k0_off65_eq c) k0_dev53_eq (fun _ => rfl) ?_
  refine step_own _ _ _ 21 (by omega) (cond_eq 21 c) (k0_off66_eq c) (pay_own 21 rfl rfl) (fun _ => rfl) ?_
  refine of_op (step_load_s _ _ _ 22 (by omega) fun v => ?_)
  refine of_op (step_store_s _ _ _ 22 (by omega) (pay_store 22 rfl rfl) ?_)
  refine step_sendC _ _ _ 22 (by omega) (cond_ne 22 c) (k0_off67_eq c) (k0_off68_eq c) k0_dev54_eq (fun _ => rfl) ?_
  refine step_own _ _ _ 22 (by omega) (cond_eq 22 c) (k0_off69_eq c) (pay_own 22 rfl rfl) (fun _ => rfl) ?_
  refine of_op (step_load_s _ _ _ 23 (by omega) fun v => ?_)
  refine of_op (step_store_s _ _ _ 23 (by omega) (pay_store 23 rfl rfl) ?_)
  refine step_sendC _ _ _ 23 (by omega) (cond_ne 23 c) (k0_off70_eq c) (k0_off71_eq c) k0_dev55_eq (fun _ => rfl) ?_
  exact of_pure h.out

/-- Part 24: the chunks up to 25. -/
theorem part24 {k : _ → Prog (TpuEff nD τ sig (Elt F) Λ₀ .tc) α}
    (h : ∀ (t3 : BitVec 32), Runs iprop(recs (prod X W) (maxAll X W) K ∗ D (prod X W) c 26 26 25 ∗ XW c X W ∗ Hold (maxAll X W) c) c (k ⟨(prod X W c 6), (maxTo X W c 6), (cut (prod X W c 6) 1), t3⟩) Q) :
    Runs iprop(recs (prod X W) (maxAll X W) K ∗ D (prod X W) c 24 24 23 ∗ XW c X W ∗ Hold (maxAll X W) c) c (k0_part24 xM h0 wM h1 oM h2 sM h3 rM h4 mM h5 aM h6 cc0_scratch4 cc0_scratch5 cc0_scratch6 cc0_scratch7 c (myW c) (k0_pay2 (X c)) (maxTo X W c 5) (cut (prod X W c 5) 3) >>= k) Q := by
  rw [k0_part24_eq_skeleton]
  refine of_bind ?_
  unfold k0_part24_skel
  extract_lets
  refine step_own _ _ _ 23 (by omega) (cond_eq 23 c) (k0_off72_eq c) (pay_own 23 rfl rfl) (fun _ => rfl) ?_
  refine of_op (step_load_w _ _ _ X W 6 rfl ?_)
  refine of_op (step_load_s _ _ _ 24 (by omega) fun v => ?_)
  refine of_op (step_store_s _ _ _ 24 (by omega) (pay_store 24 rfl rfl) ?_)
  refine step_sendC _ _ _ 24 (by omega) (cond_ne 24 c) (k0_off73_eq c) (k0_off74_eq c) k0_dev56_eq (fun _ => rfl) ?_
  refine step_own _ _ _ 24 (by omega) (cond_eq 24 c) (k0_off75_eq c) (pay_own 24 rfl rfl) (fun _ => rfl) ?_
  refine of_op (step_load_s _ _ _ 25 (by omega) fun v => ?_)
  refine of_op (step_store_s _ _ _ 25 (by omega) (pay_store 25 rfl rfl) ?_)
  refine step_sendC _ _ _ 25 (by omega) (cond_ne 25 c) (k0_off76_eq c) (k0_off77_eq c) k0_dev57_eq (fun _ => rfl) ?_
  exact of_pure (h _).out

/-- Part 25: the chunks up to 27. -/
theorem part25 (c25_i32_521 : BitVec 32) {k : _ → Prog (TpuEff nD τ sig (Elt F) Λ₀ .tc) α}
    (h : Runs iprop(recs (prod X W) (maxAll X W) K ∗ D (prod X W) c 28 28 28 ∗ XW c X W ∗ Hold (maxAll X W) c) c (k ⟨(prod X W c 7), (k0_pay102 (k0_pay2 (X c)) (wCols W c 7))⟩) Q) :
    Runs iprop(recs (prod X W) (maxAll X W) K ∗ D (prod X W) c 26 26 25 ∗ XW c X W ∗ Hold (maxAll X W) c) c (k0_part25 xM h0 wM h1 oM h2 sM h3 rM h4 mM h5 aM h6 cc0_scratch4 cc0_scratch5 cc0_scratch6 cc0_scratch7 c (myW c) (k0_pay2 (X c)) (prod X W c 6) (cut (prod X W c 6) 1) c25_i32_521 >>= k) Q := by
  rw [k0_part25_eq_skeleton]
  refine of_bind ?_
  unfold k0_part25_skel
  extract_lets
  refine step_own _ _ _ 25 (by omega) (cond_eq 25 c) (k0_off78_eq c) (pay_own 25 rfl rfl) (fun _ => rfl) ?_
  refine of_op (step_load_s _ _ _ 26 (by omega) fun v => ?_)
  refine of_op (step_store_s _ _ _ 26 (by omega) (pay_store 26 rfl rfl) ?_)
  refine step_sendC _ _ _ 26 (by omega) (cond_ne 26 c) (k0_off79_eq c) (k0_off80_eq c) k0_dev58_eq (fun _ => rfl) ?_
  refine step_own _ _ _ 26 (by omega) (cond_eq 26 c) (k0_off81_eq c) (pay_own 26 rfl rfl) (fun _ => rfl) ?_
  refine of_op (step_load_s _ _ _ 27 (by omega) fun v => ?_)
  refine of_op (step_store_s _ _ _ 27 (by omega) (pay_store 27 rfl rfl) ?_)
  refine step_sendC _ _ _ 27 (by omega) (cond_ne 27 c) (k0_off82_eq c) (k0_off83_eq c) k0_dev59_eq (fun _ => rfl) ?_
  refine step_own _ _ _ 27 (by omega) (cond_eq 27 c) (k0_off84_eq c) (pay_own 27 rfl rfl) (fun _ => rfl) ?_
  refine of_op (step_load_w _ _ _ X W 7 rfl ?_)
  exact of_pure h.out

/-- Part 26: the chunks up to 30. -/
theorem part26 {k : _ → Prog (TpuEff nD τ sig (Elt F) Λ₀ .tc) α}
    (h : ∀ (t2 : BitVec 32), Runs iprop(recs (prod X W) (maxAll X W) K ∗ D (prod X W) c 31 30 30 ∗ XW c X W ∗ Hold (maxAll X W) c) c (k ⟨(maxAll X W c), (cut (prod X W c 7) 2), t2⟩) Q) :
    Runs iprop(recs (prod X W) (maxAll X W) K ∗ D (prod X W) c 28 28 28 ∗ XW c X W ∗ Hold (maxAll X W) c) c (k0_part26 xM h0 wM h1 oM h2 sM h3 rM h4 mM h5 aM h6 cc0_scratch4 cc0_scratch5 cc0_scratch6 cc0_scratch7 c (myW c) (maxTo X W c 6) (prod X W c 7) (k0_pay102 (k0_pay2 (X c)) (wCols W c 7)) >>= k) Q := by
  rw [k0_part26_eq_skeleton]
  refine of_bind ?_
  unfold k0_part26_skel
  extract_lets
  refine of_op (step_load_s _ _ _ 28 (by omega) fun v => ?_)
  refine of_op (step_store_s _ _ _ 28 (by omega) (pay_store 28 rfl rfl) ?_)
  refine step_sendC _ _ _ 28 (by omega) (cond_ne 28 c) (k0_off85_eq c) (k0_off86_eq c) k0_dev60_eq (fun _ => rfl) ?_
  refine step_own _ _ _ 28 (by omega) (cond_eq 28 c) (k0_off87_eq c) (pay_own 28 rfl rfl) (fun _ => rfl) ?_
  refine of_op (step_load_s _ _ _ 29 (by omega) fun v => ?_)
  refine of_op (step_store_s _ _ _ 29 (by omega) (pay_store 29 rfl rfl) ?_)
  refine step_sendC _ _ _ 29 (by omega) (cond_ne 29 c) (k0_off88_eq c) (k0_off89_eq c) k0_dev61_eq (fun _ => rfl) ?_
  refine step_own _ _ _ 29 (by omega) (cond_eq 29 c) (k0_off90_eq c) (pay_own 29 rfl rfl) (fun _ => rfl) ?_
  refine of_op (step_load_s _ _ _ 30 (by omega) fun v => ?_)
  refine of_op (step_store_s _ _ _ 30 (by omega) (pay_store 30 rfl rfl) ?_)
  exact of_pure (h _).out

/-- Part 27: the maximum to the devices up to 2. -/
theorem part27 (v798 : BitVec 32) {k : _ → Prog (TpuEff nD τ sig (Elt F) Λ₀ .tc) α}
    (h : ∀ (t0 : PUnit), Runs iprop(recs (prod X W) (maxAll X W) K ∗ C (maxAll X W) c 3 ∗ XW c X W ∗ Hold2 (prod X W) (maxAll X W) c) c (k t0) Q) :
    Runs iprop(recs (prod X W) (maxAll X W) K ∗ D (prod X W) c 31 30 30 ∗ XW c X W ∗ Hold (maxAll X W) c) c (k0_part27 xM h0 wM h1 oM h2 sM h3 rM h4 mM h5 aM h6 cc0_scratch4 cc0_scratch5 cc0_scratch6 cc0_scratch7 c (myW c) (prod X W c 7) (maxAll X W c) (cut (prod X W c 7) 2) v798 >>= k) Q := by
  rw [k0_part27_eq_skeleton]
  refine of_bind ?_
  unfold k0_part27_skel
  extract_lets
  refine step_sendC _ _ _ 30 (by omega) (cond_ne 30 c) (k0_off91_eq c) (k0_off92_eq c) k0_dev62_eq (fun _ => rfl) ?_
  refine step_own _ _ _ 30 (by omega) (cond_eq 30 c) (k0_off93_eq c) (pay_own 30 rfl rfl) (fun _ => rfl) ?_
  refine of_op (step_load_s _ _ _ 31 (by omega) fun v => ?_)
  refine of_op (step_store_s _ _ _ 31 (by omega) (pay_store 31 rfl rfl) ?_)
  refine step_sendC _ _ _ 31 (by omega) (cond_ne 31 c) (k0_off94_eq c) (k0_off95_eq c) k0_dev63_eq (fun _ => rfl) ?_
  refine step_own _ _ _ 31 (by omega) (cond_eq 31 c) (k0_off96_eq c) (pay_own 31 rfl rfl) (fun _ => rfl) ?_
  refine of_op (step_load_m K X W _ _ fun v => ?_)
  refine of_op (step_store_m K X W _ _ rfl ?_)
  refine step_maxC _ _ _ 0 (by omega) (cond_ne 0 c) (k0_off97_eq c) (k0_off98_eq c) k0_dev64_eq (fun _ => rfl) ?_
  refine step_maxC _ _ _ 1 (by omega) (cond_ne 1 c) (k0_off99_eq c) (k0_off100_eq c) k0_dev65_eq (fun _ => rfl) ?_
  refine step_maxC _ _ _ 2 (by omega) (cond_ne 2 c) (k0_off101_eq c) (k0_off102_eq c) k0_dev66_eq (fun _ => rfl) ?_
  exact of_pure (h _).out

/-- Part 28: the maximum to the devices up to 10. -/
theorem part28 {k : _ → Prog (TpuEff nD τ sig (Elt F) Λ₀ .tc) α}
    (h : ∀ (t0 : BitVec 32), Runs iprop(recs (prod X W) (maxAll X W) K ∗ C (maxAll X W) c 11 ∗ XW c X W ∗ Hold2 (prod X W) (maxAll X W) c) c (k t0) Q) :
    Runs iprop(recs (prod X W) (maxAll X W) K ∗ C (maxAll X W) c 3 ∗ XW c X W ∗ Hold2 (prod X W) (maxAll X W) c) c (k0_part28 xM h0 wM h1 oM h2 sM h3 rM h4 mM h5 aM h6 cc0_scratch4 cc0_scratch5 cc0_scratch6 cc0_scratch7 c (myW c) >>= k) Q := by
  rw [k0_part28_eq_skeleton]
  refine of_bind ?_
  unfold k0_part28_skel
  extract_lets
  refine step_maxC _ _ _ 3 (by omega) (cond_ne 3 c) (k0_off103_eq c) (k0_off104_eq c) k0_dev67_eq (fun _ => rfl) ?_
  refine step_maxC _ _ _ 4 (by omega) (cond_ne 4 c) (k0_off105_eq c) (k0_off106_eq c) k0_dev68_eq (fun _ => rfl) ?_
  refine step_maxC _ _ _ 5 (by omega) (cond_ne 5 c) (k0_off107_eq c) (k0_off108_eq c) k0_dev69_eq (fun _ => rfl) ?_
  refine step_maxC _ _ _ 6 (by omega) (cond_ne 6 c) (k0_off109_eq c) (k0_off110_eq c) k0_dev70_eq (fun _ => rfl) ?_
  refine step_maxC _ _ _ 7 (by omega) (cond_ne 7 c) (k0_off111_eq c) (k0_off112_eq c) k0_dev71_eq (fun _ => rfl) ?_
  refine step_maxC _ _ _ 8 (by omega) (cond_ne 8 c) (k0_off113_eq c) (k0_off114_eq c) k0_dev72_eq (fun _ => rfl) ?_
  refine step_maxC _ _ _ 9 (by omega) (cond_ne 9 c) (k0_off115_eq c) (k0_off116_eq c) k0_dev73_eq (fun _ => rfl) ?_
  refine step_maxC _ _ _ 10 (by omega) (cond_ne 10 c) (k0_off117_eq c) (k0_off118_eq c) k0_dev74_eq (fun _ => rfl) ?_
  exact of_pure (h _).out

/-- Part 29: the maximum to the devices up to 19. -/
theorem part29 (v851 : BitVec 32) {k : _ → Prog (TpuEff nD τ sig (Elt F) Λ₀ .tc) α}
    (h : ∀ (t0 : BitVec 32), Runs iprop(recs (prod X W) (maxAll X W) K ∗ C (maxAll X W) c 20 ∗ XW c X W ∗ Hold2 (prod X W) (maxAll X W) c) c (k t0) Q) :
    Runs iprop(recs (prod X W) (maxAll X W) K ∗ C (maxAll X W) c 11 ∗ XW c X W ∗ Hold2 (prod X W) (maxAll X W) c) c (k0_part29 xM h0 wM h1 oM h2 sM h3 rM h4 mM h5 aM h6 cc0_scratch4 cc0_scratch5 cc0_scratch6 cc0_scratch7 c (myW c) v851 >>= k) Q := by
  rw [k0_part29_eq_skeleton]
  refine of_bind ?_
  unfold k0_part29_skel
  extract_lets
  refine step_maxC _ _ _ 11 (by omega) (cond_ne 11 c) (k0_off119_eq c) (k0_off120_eq c) k0_dev75_eq (fun _ => rfl) ?_
  refine step_maxC _ _ _ 12 (by omega) (cond_ne 12 c) (k0_off121_eq c) (k0_off122_eq c) k0_dev76_eq (fun _ => rfl) ?_
  refine step_maxC _ _ _ 13 (by omega) (cond_ne 13 c) (k0_off123_eq c) (k0_off124_eq c) k0_dev77_eq (fun _ => rfl) ?_
  refine step_maxC _ _ _ 14 (by omega) (cond_ne 14 c) (k0_off125_eq c) (k0_off126_eq c) k0_dev78_eq (fun _ => rfl) ?_
  refine step_maxC _ _ _ 15 (by omega) (cond_ne 15 c) (k0_off127_eq c) (k0_off128_eq c) k0_dev79_eq (fun _ => rfl) ?_
  refine step_maxC _ _ _ 16 (by omega) (cond_ne 16 c) (k0_off129_eq c) (k0_off130_eq c) k0_dev80_eq (fun _ => rfl) ?_
  refine step_maxC _ _ _ 17 (by omega) (cond_ne 17 c) (k0_off131_eq c) (k0_off132_eq c) k0_dev81_eq (fun _ => rfl) ?_
  refine step_maxC _ _ _ 18 (by omega) (cond_ne 18 c) (k0_off133_eq c) (k0_off134_eq c) k0_dev82_eq (fun _ => rfl) ?_
  refine step_maxC _ _ _ 19 (by omega) (cond_ne 19 c) (k0_off135_eq c) (k0_off136_eq c) k0_dev83_eq (fun _ => rfl) ?_
  exact of_pure (h _).out

/-- Part 30: the maximum to the devices up to 27. -/
theorem part30 (c20_i32_637 : BitVec 32) {k : _ → Prog (TpuEff nD τ sig (Elt F) Λ₀ .tc) α}
    (h : ∀ (t0 : BitVec 32) (t1 : BitVec 32), Runs iprop(recs (prod X W) (maxAll X W) K ∗ C (maxAll X W) c 28 ∗ XW c X W ∗ Hold2 (prod X W) (maxAll X W) c) c (k ⟨t0, t1⟩) Q) :
    Runs iprop(recs (prod X W) (maxAll X W) K ∗ C (maxAll X W) c 20 ∗ XW c X W ∗ Hold2 (prod X W) (maxAll X W) c) c (k0_part30 xM h0 wM h1 oM h2 sM h3 rM h4 mM h5 aM h6 cc0_scratch4 cc0_scratch5 cc0_scratch6 cc0_scratch7 c (myW c) c20_i32_637 >>= k) Q := by
  rw [k0_part30_eq_skeleton]
  refine of_bind ?_
  unfold k0_part30_skel
  extract_lets
  refine step_maxC _ _ _ 20 (by omega) (cond_ne 20 c) (k0_off137_eq c) (k0_off138_eq c) k0_dev84_eq (fun _ => rfl) ?_
  refine step_maxC _ _ _ 21 (by omega) (cond_ne 21 c) (k0_off139_eq c) (k0_off140_eq c) k0_dev85_eq (fun _ => rfl) ?_
  refine step_maxC _ _ _ 22 (by omega) (cond_ne 22 c) (k0_off141_eq c) (k0_off142_eq c) k0_dev86_eq (fun _ => rfl) ?_
  refine step_maxC _ _ _ 23 (by omega) (cond_ne 23 c) (k0_off143_eq c) (k0_off144_eq c) k0_dev87_eq (fun _ => rfl) ?_
  refine step_maxC _ _ _ 24 (by omega) (cond_ne 24 c) (k0_off145_eq c) (k0_off146_eq c) k0_dev88_eq (fun _ => rfl) ?_
  refine step_maxC _ _ _ 25 (by omega) (cond_ne 25 c) (k0_off147_eq c) (k0_off148_eq c) k0_dev89_eq (fun _ => rfl) ?_
  refine step_maxC _ _ _ 26 (by omega) (cond_ne 26 c) (k0_off149_eq c) (k0_off150_eq c) k0_dev90_eq (fun _ => rfl) ?_
  refine step_maxC _ _ _ 27 (by omega) (cond_ne 27 c) (k0_off151_eq c) (k0_off152_eq c) k0_dev91_eq (fun _ => rfl) ?_
  exact of_pure (h _ _).out

/-- Part 31: the waits for what lands from the devices up to 1. -/
theorem part31 (v902 : BitVec 32) (c0_i32_663 : BitVec 32) {k : _ → Prog (TpuEff nD τ sig (Elt F) Λ₀ .tc) α}
    (h : Runs iprop(recs (prod X W) (maxAll X W) K ∗ E c ∗ Wt (prod X W) (maxAll X W) c 1 2 ∗ Wt (prod X W) (maxAll X W) c 3 2 ∗ (XW c X W ∗ Hold3 (prod X W) (maxAll X W) c)) c (k ⟨(Scalar.extui (Scalar.cmpi .ne (myW c) 2#32)), (0#32)⟩) Q) :
    Runs iprop(recs (prod X W) (maxAll X W) K ∗ C (maxAll X W) c 28 ∗ XW c X W ∗ Hold2 (prod X W) (maxAll X W) c) c (k0_part31 xM h0 wM h1 oM h2 sM h3 rM h4 mM h5 aM h6 cc0_scratch4 cc0_scratch5 cc0_scratch6 cc0_scratch7 c (myW c) v902 c0_i32_663 >>= k) Q := by
  rw [k0_part31_eq_skeleton]
  refine of_bind ?_
  unfold k0_part31_skel
  extract_lets
  refine step_maxC _ _ _ 28 (by omega) (cond_ne 28 c) (k0_off153_eq c) (k0_off154_eq c) k0_dev92_eq (fun _ => rfl) ?_
  refine step_maxC _ _ _ 29 (by omega) (cond_ne 29 c) (k0_off155_eq c) (k0_off156_eq c) k0_dev93_eq (fun _ => rfl) ?_
  refine step_maxC _ _ _ 30 (by omega) (cond_ne 30 c) (k0_off157_eq c) (k0_off158_eq c) k0_dev94_eq (fun _ => rfl) ?_
  refine step_maxC _ _ _ 31 (by omega) (cond_ne 31 c) (k0_off159_eq c) (k0_off160_eq c) k0_dev95_eq (fun _ => rfl) ?_
  refine Runs.pre (before_recv K X W _ _) ?_
  refine step_recv _ _ _ 0 (by omega) (cond_ne 0 c) (fun _ => rfl) ?_
  refine step_recv _ _ _ 1 (by omega) (cond_ne 1 c) (fun _ => rfl) ?_
  exact of_pure h.out

/-- Part 32: the waits for what lands from the devices up to 6. -/
theorem part32 {k : _ → Prog (TpuEff nD τ sig (Elt F) Λ₀ .tc) α}
    (h : Runs iprop(recs (prod X W) (maxAll X W) K ∗ E c ∗ Wt (prod X W) (maxAll X W) c 1 7 ∗ Wt (prod X W) (maxAll X W) c 3 7 ∗ (XW c X W ∗ Hold3 (prod X W) (maxAll X W) c)) c (k (Scalar.extui (Scalar.cmpi .ne (myW c) 7#32))) Q) :
    Runs iprop(recs (prod X W) (maxAll X W) K ∗ E c ∗ Wt (prod X W) (maxAll X W) c 1 2 ∗ Wt (prod X W) (maxAll X W) c 3 2 ∗ (XW c X W ∗ Hold3 (prod X W) (maxAll X W) c)) c (k0_part32 xM h0 wM h1 oM h2 sM h3 rM h4 mM h5 aM h6 cc0_scratch4 cc0_scratch5 cc0_scratch6 cc0_scratch7 (myW c) (Scalar.extui (Scalar.cmpi .ne (myW c) 2#32)) (0#32) >>= k) Q := by
  rw [k0_part32_eq_skeleton]
  refine of_bind ?_
  unfold k0_part32_skel
  extract_lets
  refine step_recv _ _ _ 2 (by omega) (cond_ne 2 c) (fun _ => rfl) ?_
  refine step_recv _ _ _ 3 (by omega) (cond_ne 3 c) (fun _ => rfl) ?_
  refine step_recv _ _ _ 4 (by omega) (cond_ne 4 c) (fun _ => rfl) ?_
  refine step_recv _ _ _ 5 (by omega) (cond_ne 5 c) (fun _ => rfl) ?_
  refine step_recv _ _ _ 6 (by omega) (cond_ne 6 c) (fun _ => rfl) ?_
  exact of_pure h.out

/-- Part 33: the waits for what lands from the devices up to 11. -/
theorem part33 {k : _ → Prog (TpuEff nD τ sig (Elt F) Λ₀ .tc) α}
    (h : Runs iprop(recs (prod X W) (maxAll X W) K ∗ E c ∗ Wt (prod X W) (maxAll X W) c 1 12 ∗ Wt (prod X W) (maxAll X W) c 3 12 ∗ (XW c X W ∗ Hold3 (prod X W) (maxAll X W) c)) c (k (12#32)) Q) :
    Runs iprop(recs (prod X W) (maxAll X W) K ∗ E c ∗ Wt (prod X W) (maxAll X W) c 1 7 ∗ Wt (prod X W) (maxAll X W) c 3 7 ∗ (XW c X W ∗ Hold3 (prod X W) (maxAll X W) c)) c (k0_part33 xM h0 wM h1 oM h2 sM h3 rM h4 mM h5 aM h6 cc0_scratch4 cc0_scratch5 cc0_scratch6 cc0_scratch7 (myW c) (Scalar.extui (Scalar.cmpi .ne (myW c) 7#32)) >>= k) Q := by
  rw [k0_part33_eq_skeleton]
  refine of_bind ?_
  unfold k0_part33_skel
  extract_lets
  refine step_recv _ _ _ 7 (by omega) (cond_ne 7 c) (fun _ => rfl) ?_
  refine step_recv _ _ _ 8 (by omega) (cond_ne 8 c) (fun _ => rfl) ?_
  refine step_recv _ _ _ 9 (by omega) (cond_ne 9 c) (fun _ => rfl) ?_
  refine step_recv _ _ _ 10 (by omega) (cond_ne 10 c) (fun _ => rfl) ?_
  refine step_recv _ _ _ 11 (by omega) (cond_ne 11 c) (fun _ => rfl) ?_
  exact of_pure h.out

/-- Part 34: the waits for what lands from the devices up to 15. -/
theorem part34 {k : _ → Prog (TpuEff nD τ sig (Elt F) Λ₀ .tc) α}
    (h : Runs iprop(recs (prod X W) (maxAll X W) K ∗ E c ∗ Wt (prod X W) (maxAll X W) c 1 16 ∗ Wt (prod X W) (maxAll X W) c 3 16 ∗ (XW c X W ∗ Hold3 (prod X W) (maxAll X W) c)) c (k (Scalar.extui (Scalar.cmpi .ne (myW c) 16#32))) Q) :
    Runs iprop(recs (prod X W) (maxAll X W) K ∗ E c ∗ Wt (prod X W) (maxAll X W) c 1 12 ∗ Wt (prod X W) (maxAll X W) c 3 12 ∗ (XW c X W ∗ Hold3 (prod X W) (maxAll X W) c)) c (k0_part34 xM h0 wM h1 oM h2 sM h3 rM h4 mM h5 aM h6 cc0_scratch4 cc0_scratch5 cc0_scratch6 cc0_scratch7 (myW c) (12#32) >>= k) Q := by
  rw [k0_part34_eq_skeleton]
  refine of_bind ?_
  unfold k0_part34_skel
  extract_lets
  refine step_recv _ _ _ 12 (by omega) (cond_ne 12 c) (fun _ => rfl) ?_
  refine step_recv _ _ _ 13 (by omega) (cond_ne 13 c) (fun _ => rfl) ?_
  refine step_recv _ _ _ 14 (by omega) (cond_ne 14 c) (fun _ => rfl) ?_
  refine step_recv _ _ _ 15 (by omega) (cond_ne 15 c) (fun _ => rfl) ?_
  exact of_pure h.out

/-- Part 35: the waits for what lands from the devices up to 20. -/
theorem part35 {k : _ → Prog (TpuEff nD τ sig (Elt F) Λ₀ .tc) α}
    (h : Runs iprop(recs (prod X W) (maxAll X W) K ∗ E c ∗ Wt (prod X W) (maxAll X W) c 1 21 ∗ Wt (prod X W) (maxAll X W) c 3 21 ∗ (XW c X W ∗ Hold3 (prod X W) (maxAll X W) c)) c (k (Scalar.extui (Scalar.cmpi .ne (myW c) 21#32))) Q) :
    Runs iprop(recs (prod X W) (maxAll X W) K ∗ E c ∗ Wt (prod X W) (maxAll X W) c 1 16 ∗ Wt (prod X W) (maxAll X W) c 3 16 ∗ (XW c X W ∗ Hold3 (prod X W) (maxAll X W) c)) c (k0_part35 xM h0 wM h1 oM h2 sM h3 rM h4 mM h5 aM h6 cc0_scratch4 cc0_scratch5 cc0_scratch6 cc0_scratch7 (myW c) (Scalar.extui (Scalar.cmpi .ne (myW c) 16#32)) >>= k) Q := by
  rw [k0_part35_eq_skeleton]
  refine of_bind ?_
  unfold k0_part35_skel
  extract_lets
  refine step_recv _ _ _ 16 (by omega) (cond_ne 16 c) (fun _ => rfl) ?_
  refine step_recv _ _ _ 17 (by omega) (cond_ne 17 c) (fun _ => rfl) ?_
  refine step_recv _ _ _ 18 (by omega) (cond_ne 18 c) (fun _ => rfl) ?_
  refine step_recv _ _ _ 19 (by omega) (cond_ne 19 c) (fun _ => rfl) ?_
  refine step_recv _ _ _ 20 (by omega) (cond_ne 20 c) (fun _ => rfl) ?_
  exact of_pure h.out

/-- Part 36: the waits for what lands from the devices up to 24. -/
theorem part36 {k : _ → Prog (TpuEff nD τ sig (Elt F) Λ₀ .tc) α}
    (h : Runs iprop(recs (prod X W) (maxAll X W) K ∗ E c ∗ Wt (prod X W) (maxAll X W) c 1 25 ∗ Wt (prod X W) (maxAll X W) c 3 25 ∗ (XW c X W ∗ Hold3 (prod X W) (maxAll X W) c)) c (k (Scalar.cmpi .ne (Scalar.extui (Scalar.cmpi .ne (myW c) 25#32)) 0#32)) Q) :
    Runs iprop(recs (prod X W) (maxAll X W) K ∗ E c ∗ Wt (prod X W) (maxAll X W) c 1 21 ∗ Wt (prod X W) (maxAll X W) c 3 21 ∗ (XW c X W ∗ Hold3 (prod X W) (maxAll X W) c)) c (k0_part36 xM h0 wM h1 oM h2 sM h3 rM h4 mM h5 aM h6 cc0_scratch4 cc0_scratch5 cc0_scratch6 cc0_scratch7 (myW c) (Scalar.extui (Scalar.cmpi .ne (myW c) 21#32)) >>= k) Q := by
  rw [k0_part36_eq_skeleton]
  refine of_bind ?_
  unfold k0_part36_skel
  extract_lets
  refine step_recv _ _ _ 21 (by omega) (cond_ne 21 c) (fun _ => rfl) ?_
  refine step_recv _ _ _ 22 (by omega) (cond_ne 22 c) (fun _ => rfl) ?_
  refine step_recv _ _ _ 23 (by omega) (cond_ne 23 c) (fun _ => rfl) ?_
  refine step_recv _ _ _ 24 (by omega) (cond_ne 24 c) (fun _ => rfl) ?_
  exact of_pure h.out

/-- Part 37: the waits for what lands from the devices up to 29. -/
theorem part37 {k : _ → Prog (TpuEff nD τ sig (Elt F) Λ₀ .tc) α}
    (h : Runs iprop(recs (prod X W) (maxAll X W) K ∗ E c ∗ Wt (prod X W) (maxAll X W) c 1 30 ∗ Wt (prod X W) (maxAll X W) c 3 30 ∗ (XW c X W ∗ Hold3 (prod X W) (maxAll X W) c)) c (k (Scalar.extui (Scalar.cmpi .ne (myW c) 30#32))) Q) :
    Runs iprop(recs (prod X W) (maxAll X W) K ∗ E c ∗ Wt (prod X W) (maxAll X W) c 1 25 ∗ Wt (prod X W) (maxAll X W) c 3 25 ∗ (XW c X W ∗ Hold3 (prod X W) (maxAll X W) c)) c (k0_part37 xM h0 wM h1 oM h2 sM h3 rM h4 mM h5 aM h6 cc0_scratch4 cc0_scratch5 cc0_scratch6 cc0_scratch7 (myW c) (Scalar.cmpi .ne (Scalar.extui (Scalar.cmpi .ne (myW c) 25#32)) 0#32) >>= k) Q := by
  rw [k0_part37_eq_skeleton]
  refine of_bind ?_
  unfold k0_part37_skel
  extract_lets
  refine step_recv _ _ _ 25 (by omega) (cond_ne 25 c) (fun _ => rfl) ?_
  refine step_recv _ _ _ 26 (by omega) (cond_ne 26 c) (fun _ => rfl) ?_
  refine step_recv _ _ _ 27 (by omega) (cond_ne 27 c) (fun _ => rfl) ?_
  refine step_recv _ _ _ 28 (by omega) (cond_ne 28 c) (fun _ => rfl) ?_
  refine step_recv _ _ _ 29 (by omega) (cond_ne 29 c) (fun _ => rfl) ?_
  exact of_pure h.out

/-- Part 38: the last waits for what lands, and the result. -/
theorem part38 {k : _ → Prog (TpuEff nD τ sig (Elt F) Λ₀ .tc) α}
    (h : ∀ (t0 : BitVec 32), Runs iprop(recs (prod X W) (maxAll X W) K ∗ E c ∗ Wt (prod X W) (maxAll X W) c 0 1 ∗ (Wt (prod X W) (maxAll X W) c 2 0 ∗ XW c X W) ∗ Hold4 (prod X W) (maxAll X W) c (outOf X W c)) c (k t0) Q) :
    Runs iprop(recs (prod X W) (maxAll X W) K ∗ E c ∗ Wt (prod X W) (maxAll X W) c 1 30 ∗ Wt (prod X W) (maxAll X W) c 3 30 ∗ (XW c X W ∗ Hold3 (prod X W) (maxAll X W) c)) c (k0_part38 xM h0 wM h1 oM h2 sM h3 rM h4 mM h5 aM h6 cc0_scratch4 cc0_scratch5 cc0_scratch6 cc0_scratch7 c (myW c) (maxAll X W c) (Scalar.extui (Scalar.cmpi .ne (myW c) 30#32)) >>= k) Q := by
  rw [k0_part38_eq_skeleton]
  refine of_bind ?_
  unfold k0_part38_skel
  extract_lets
  refine step_recv _ _ _ 30 (by omega) (cond_ne 30 c) (fun _ => rfl) ?_
  refine step_recv _ _ _ 31 (by omega) (cond_ne 31 c) (fun _ => rfl) ?_
  refine Runs.pre (after_recv K X W _ _) (of_op (step_load_tab _ ?_))
  refine of_op (step_load_got _ ?_)
  refine of_op (step_load_out fun v => ?_)
  refine of_op (step_store_out (v := outOf X W c) ?_)
  refine Runs.pre (before_sent K X W _ _ _) ?_
  refine step_sent0 _ _ _ 0 (by omega) (cond_ne 0 c) (fun _ => rfl) ?_
  exact of_pure (h _).out

/-- Part 39: the waits for the chunks sent up to 7. -/
theorem part39 (c1_i32_977 : BitVec 32) {k : _ → Prog (TpuEff nD τ sig (Elt F) Λ₀ .tc) α}
    (h : ∀ (t0 : BitVec 32), Runs iprop(recs (prod X W) (maxAll X W) K ∗ E c ∗ Wt (prod X W) (maxAll X W) c 0 8 ∗ (Wt (prod X W) (maxAll X W) c 2 0 ∗ XW c X W) ∗ Hold4 (prod X W) (maxAll X W) c (outOf X W c)) c (k t0) Q) :
    Runs iprop(recs (prod X W) (maxAll X W) K ∗ E c ∗ Wt (prod X W) (maxAll X W) c 0 1 ∗ (Wt (prod X W) (maxAll X W) c 2 0 ∗ XW c X W) ∗ Hold4 (prod X W) (maxAll X W) c (outOf X W c)) c (k0_part39 xM h0 wM h1 oM h2 sM h3 rM h4 mM h5 aM h6 cc0_scratch4 cc0_scratch5 cc0_scratch6 cc0_scratch7 c (myW c) c1_i32_977 >>= k) Q := by
  rw [k0_part39_eq_skeleton]
  refine of_bind ?_
  unfold k0_part39_skel
  extract_lets
  refine step_sent0 _ _ _ 1 (by omega) (cond_ne 1 c) (fun _ => rfl) ?_
  refine step_sent0 _ _ _ 2 (by omega) (cond_ne 2 c) (fun _ => rfl) ?_
  refine step_sent0 _ _ _ 3 (by omega) (cond_ne 3 c) (fun _ => rfl) ?_
  refine step_sent0 _ _ _ 4 (by omega) (cond_ne 4 c) (fun _ => rfl) ?_
  refine step_sent0 _ _ _ 5 (by omega) (cond_ne 5 c) (fun _ => rfl) ?_
  refine step_sent0 _ _ _ 6 (by omega) (cond_ne 6 c) (fun _ => rfl) ?_
  refine step_sent0 _ _ _ 7 (by omega) (cond_ne 7 c) (fun _ => rfl) ?_
  exact of_pure (h _).out

/-- Part 40: the waits for the chunks sent up to 15. -/
theorem part40 (v1053 : BitVec 32) {k : _ → Prog (TpuEff nD τ sig (Elt F) Λ₀ .tc) α}
    (h : ∀ (t0 : BitVec 32), Runs iprop(recs (prod X W) (maxAll X W) K ∗ E c ∗ Wt (prod X W) (maxAll X W) c 0 16 ∗ (Wt (prod X W) (maxAll X W) c 2 0 ∗ XW c X W) ∗ Hold4 (prod X W) (maxAll X W) c (outOf X W c)) c (k t0) Q) :
    Runs iprop(recs (prod X W) (maxAll X W) K ∗ E c ∗ Wt (prod X W) (maxAll X W) c 0 8 ∗ (Wt (prod X W) (maxAll X W) c 2 0 ∗ XW c X W) ∗ Hold4 (prod X W) (maxAll X W) c (outOf X W c)) c (k0_part40 xM h0 wM h1 oM h2 sM h3 rM h4 mM h5 aM h6 cc0_scratch4 cc0_scratch5 cc0_scratch6 cc0_scratch7 c (myW c) v1053 >>= k) Q := by
  rw [k0_part40_eq_skeleton]
  refine of_bind ?_
  unfold k0_part40_skel
  extract_lets
  refine step_sent0 _ _ _ 8 (by omega) (cond_ne 8 c) (fun _ => rfl) ?_
  refine step_sent0 _ _ _ 9 (by omega) (cond_ne 9 c) (fun _ => rfl) ?_
  refine step_sent0 _ _ _ 10 (by omega) (cond_ne 10 c) (fun _ => rfl) ?_
  refine step_sent0 _ _ _ 11 (by omega) (cond_ne 11 c) (fun _ => rfl) ?_
  refine step_sent0 _ _ _ 12 (by omega) (cond_ne 12 c) (fun _ => rfl) ?_
  refine step_sent0 _ _ _ 13 (by omega) (cond_ne 13 c) (fun _ => rfl) ?_
  refine step_sent0 _ _ _ 14 (by omega) (cond_ne 14 c) (fun _ => rfl) ?_
  refine step_sent0 _ _ _ 15 (by omega) (cond_ne 15 c) (fun _ => rfl) ?_
  exact of_pure (h _).out

/-- Part 41: the waits for the chunks sent up to 22. -/
theorem part41 (c16_i32_1037 : BitVec 32) {k : _ → Prog (TpuEff nD τ sig (Elt F) Λ₀ .tc) α}
    (h : ∀ (t0 : BitVec 32), Runs iprop(recs (prod X W) (maxAll X W) K ∗ E c ∗ Wt (prod X W) (maxAll X W) c 0 23 ∗ (Wt (prod X W) (maxAll X W) c 2 0 ∗ XW c X W) ∗ Hold4 (prod X W) (maxAll X W) c (outOf X W c)) c (k t0) Q) :
    Runs iprop(recs (prod X W) (maxAll X W) K ∗ E c ∗ Wt (prod X W) (maxAll X W) c 0 16 ∗ (Wt (prod X W) (maxAll X W) c 2 0 ∗ XW c X W) ∗ Hold4 (prod X W) (maxAll X W) c (outOf X W c)) c (k0_part41 xM h0 wM h1 oM h2 sM h3 rM h4 mM h5 aM h6 cc0_scratch4 cc0_scratch5 cc0_scratch6 cc0_scratch7 c (myW c) c16_i32_1037 >>= k) Q := by
  rw [k0_part41_eq_skeleton]
  refine of_bind ?_
  unfold k0_part41_skel
  extract_lets
  refine step_sent0 _ _ _ 16 (by omega) (cond_ne 16 c) (fun _ => rfl) ?_
  refine step_sent0 _ _ _ 17 (by omega) (cond_ne 17 c) (fun _ => rfl) ?_
  refine step_sent0 _ _ _ 18 (by omega) (cond_ne 18 c) (fun _ => rfl) ?_
  refine step_sent0 _ _ _ 19 (by omega) (cond_ne 19 c) (fun _ => rfl) ?_
  refine step_sent0 _ _ _ 20 (by omega) (cond_ne 20 c) (fun _ => rfl) ?_
  refine step_sent0 _ _ _ 21 (by omega) (cond_ne 21 c) (fun _ => rfl) ?_
  refine step_sent0 _ _ _ 22 (by omega) (cond_ne 22 c) (fun _ => rfl) ?_
  exact of_pure (h _).out

/-- Part 42: the waits for the chunks sent up to 30. -/
theorem part42 (v1098 : BitVec 32) {k : _ → Prog (TpuEff nD τ sig (Elt F) Λ₀ .tc) α}
    (h : ∀ (t0 : BitVec 32), Runs iprop(recs (prod X W) (maxAll X W) K ∗ E c ∗ Wt (prod X W) (maxAll X W) c 0 31 ∗ (Wt (prod X W) (maxAll X W) c 2 0 ∗ XW c X W) ∗ Hold4 (prod X W) (maxAll X W) c (outOf X W c)) c (k t0) Q) :
    Runs iprop(recs (prod X W) (maxAll X W) K ∗ E c ∗ Wt (prod X W) (maxAll X W) c 0 23 ∗ (Wt (prod X W) (maxAll X W) c 2 0 ∗ XW c X W) ∗ Hold4 (prod X W) (maxAll X W) c (outOf X W c)) c (k0_part42 xM h0 wM h1 oM h2 sM h3 rM h4 mM h5 aM h6 cc0_scratch4 cc0_scratch5 cc0_scratch6 cc0_scratch7 c (myW c) v1098 >>= k) Q := by
  rw [k0_part42_eq_skeleton]
  refine of_bind ?_
  unfold k0_part42_skel
  extract_lets
  refine step_sent0 _ _ _ 23 (by omega) (cond_ne 23 c) (fun _ => rfl) ?_
  refine step_sent0 _ _ _ 24 (by omega) (cond_ne 24 c) (fun _ => rfl) ?_
  refine step_sent0 _ _ _ 25 (by omega) (cond_ne 25 c) (fun _ => rfl) ?_
  refine step_sent0 _ _ _ 26 (by omega) (cond_ne 26 c) (fun _ => rfl) ?_
  refine step_sent0 _ _ _ 27 (by omega) (cond_ne 27 c) (fun _ => rfl) ?_
  refine step_sent0 _ _ _ 28 (by omega) (cond_ne 28 c) (fun _ => rfl) ?_
  refine step_sent0 _ _ _ 29 (by omega) (cond_ne 29 c) (fun _ => rfl) ?_
  refine step_sent0 _ _ _ 30 (by omega) (cond_ne 30 c) (fun _ => rfl) ?_
  exact of_pure (h _).out

/-- Part 43: the waits for the maxima sent up to 6. -/
theorem part43 (c31_i32_1097 : BitVec 32) {k : _ → Prog (TpuEff nD τ sig (Elt F) Λ₀ .tc) α}
    (h : ∀ (t0 : BitVec 32), Runs iprop(recs (prod X W) (maxAll X W) K ∗ E c ∗ Wt (prod X W) (maxAll X W) c 2 7 ∗ (Wt (prod X W) (maxAll X W) c 0 32 ∗ XW c X W) ∗ Hold4 (prod X W) (maxAll X W) c (outOf X W c)) c (k t0) Q) :
    Runs iprop(recs (prod X W) (maxAll X W) K ∗ E c ∗ Wt (prod X W) (maxAll X W) c 0 31 ∗ (Wt (prod X W) (maxAll X W) c 2 0 ∗ XW c X W) ∗ Hold4 (prod X W) (maxAll X W) c (outOf X W c)) c (k0_part43 xM h0 wM h1 oM h2 sM h3 rM h4 mM h5 aM h6 cc0_scratch4 cc0_scratch5 cc0_scratch6 cc0_scratch7 c (myW c) c31_i32_1097 >>= k) Q := by
  rw [k0_part43_eq_skeleton]
  refine of_bind ?_
  unfold k0_part43_skel
  extract_lets
  refine step_sent0 _ _ _ 31 (by omega) (cond_ne 31 c) (fun _ => rfl) ?_
  refine Runs.pre (swap_sent K X W _ _ _ _ _) ?_
  refine step_sent2 _ _ _ 0 (by omega) (cond_ne 0 c) (fun _ => rfl) ?_
  refine step_sent2 _ _ _ 1 (by omega) (cond_ne 1 c) (fun _ => rfl) ?_
  refine step_sent2 _ _ _ 2 (by omega) (cond_ne 2 c) (fun _ => rfl) ?_
  refine step_sent2 _ _ _ 3 (by omega) (cond_ne 3 c) (fun _ => rfl) ?_
  refine step_sent2 _ _ _ 4 (by omega) (cond_ne 4 c) (fun _ => rfl) ?_
  refine step_sent2 _ _ _ 5 (by omega) (cond_ne 5 c) (fun _ => rfl) ?_
  refine step_sent2 _ _ _ 6 (by omega) (cond_ne 6 c) (fun _ => rfl) ?_
  exact of_pure (h _).out

/-- Part 44: the waits for the maxima sent up to 15. -/
theorem part44 (v1146 : BitVec 32) {k : _ → Prog (TpuEff nD τ sig (Elt F) Λ₀ .tc) α}
    (h : ∀ (t0 : BitVec 32), Runs iprop(recs (prod X W) (maxAll X W) K ∗ E c ∗ Wt (prod X W) (maxAll X W) c 2 16 ∗ (Wt (prod X W) (maxAll X W) c 0 32 ∗ XW c X W) ∗ Hold4 (prod X W) (maxAll X W) c (outOf X W c)) c (k t0) Q) :
    Runs iprop(recs (prod X W) (maxAll X W) K ∗ E c ∗ Wt (prod X W) (maxAll X W) c 2 7 ∗ (Wt (prod X W) (maxAll X W) c 0 32 ∗ XW c X W) ∗ Hold4 (prod X W) (maxAll X W) c (outOf X W c)) c (k0_part44 xM h0 wM h1 oM h2 sM h3 rM h4 mM h5 aM h6 cc0_scratch4 cc0_scratch5 cc0_scratch6 cc0_scratch7 c (myW c) v1146 >>= k) Q := by
  rw [k0_part44_eq_skeleton]
  refine of_bind ?_
  unfold k0_part44_skel
  extract_lets
  refine step_sent2 _ _ _ 7 (by omega) (cond_ne 7 c) (fun _ => rfl) ?_
  refine step_sent2 _ _ _ 8 (by omega) (cond_ne 8 c) (fun _ => rfl) ?_
  refine step_sent2 _ _ _ 9 (by omega) (cond_ne 9 c) (fun _ => rfl) ?_
  refine step_sent2 _ _ _ 10 (by omega) (cond_ne 10 c) (fun _ => rfl) ?_
  refine step_sent2 _ _ _ 11 (by omega) (cond_ne 11 c) (fun _ => rfl) ?_
  refine step_sent2 _ _ _ 12 (by omega) (cond_ne 12 c) (fun _ => rfl) ?_
  refine step_sent2 _ _ _ 13 (by omega) (cond_ne 13 c) (fun _ => rfl) ?_
  refine step_sent2 _ _ _ 14 (by omega) (cond_ne 14 c) (fun _ => rfl) ?_
  refine step_sent2 _ _ _ 15 (by omega) (cond_ne 15 c) (fun _ => rfl) ?_
  exact of_pure (h _).out

/-- Part 45: the waits for the maxima sent up to 23. -/
theorem part45 (c16_i32_1149 : BitVec 32) {k : _ → Prog (TpuEff nD τ sig (Elt F) Λ₀ .tc) α}
    (h : ∀ (t0 : BitVec 32) (t1 : BitVec 32), Runs iprop(recs (prod X W) (maxAll X W) K ∗ E c ∗ Wt (prod X W) (maxAll X W) c 2 24 ∗ (Wt (prod X W) (maxAll X W) c 0 32 ∗ XW c X W) ∗ Hold4 (prod X W) (maxAll X W) c (outOf X W c)) c (k ⟨t0, t1⟩) Q) :
    Runs iprop(recs (prod X W) (maxAll X W) K ∗ E c ∗ Wt (prod X W) (maxAll X W) c 2 16 ∗ (Wt (prod X W) (maxAll X W) c 0 32 ∗ XW c X W) ∗ Hold4 (prod X W) (maxAll X W) c (outOf X W c)) c (k0_part45 xM h0 wM h1 oM h2 sM h3 rM h4 mM h5 aM h6 cc0_scratch4 cc0_scratch5 cc0_scratch6 cc0_scratch7 c (myW c) c16_i32_1149 >>= k) Q := by
  rw [k0_part45_eq_skeleton]
  refine of_bind ?_
  unfold k0_part45_skel
  extract_lets
  refine step_sent2 _ _ _ 16 (by omega) (cond_ne 16 c) (fun _ => rfl) ?_
  refine step_sent2 _ _ _ 17 (by omega) (cond_ne 17 c) (fun _ => rfl) ?_
  refine step_sent2 _ _ _ 18 (by omega) (cond_ne 18 c) (fun _ => rfl) ?_
  refine step_sent2 _ _ _ 19 (by omega) (cond_ne 19 c) (fun _ => rfl) ?_
  refine step_sent2 _ _ _ 20 (by omega) (cond_ne 20 c) (fun _ => rfl) ?_
  refine step_sent2 _ _ _ 21 (by omega) (cond_ne 21 c) (fun _ => rfl) ?_
  refine step_sent2 _ _ _ 22 (by omega) (cond_ne 22 c) (fun _ => rfl) ?_
  refine step_sent2 _ _ _ 23 (by omega) (cond_ne 23 c) (fun _ => rfl) ?_
  exact of_pure (h _ _).out

/-- Part 46: all the parts before it, and two waits more. -/
theorem part46 {k : _ → Prog (TpuEff nD τ sig (Elt F) Λ₀ .tc) α}
    (h : Runs iprop(recs (prod X W) (maxAll X W) K ∗ E c ∗ Wt (prod X W) (maxAll X W) c 2 26 ∗ (Wt (prod X W) (maxAll X W) c 0 32 ∗ XW c X W) ∗ Hold4 (prod X W) (maxAll X W) c (outOf X W c)) c (k ⟨c, myW c⟩) Q) :
    Runs iprop(recs (prod X W) (maxAll X W) K ∗ (Start c ∗ ∃ f, aAll c f) ∗ XW c X W ∗ Pre c) c (k0_part46 xM h0 wM h1 oM h2 sM h3 rM h4 mM h5 aM h6 cc0_scratch4 cc0_scratch5 cc0_scratch6 cc0_scratch7 >>= k) Q := by
  rw [k0_part46_eq_skeleton]
  refine of_bind ?_
  unfold k0_part46_skel
  refine part1 K X W h0 h1 h2 h3 h4 h5 h6 (fun _ _ => ?_)
  refine part2 K X W h0 h1 h2 h3 h4 h5 h6 _ _ (fun _ _ => ?_)
  refine part3 K X W h0 h1 h2 h3 h4 h5 h6 _ _ (fun _ _ => ?_)
  refine part4 K X W h0 h1 h2 h3 h4 h5 h6 _ _ (fun _ _ => ?_)
  refine part5 K X W h0 h1 h2 h3 h4 h5 h6 _ _ (fun _ _ => ?_)
  refine part6 K X W h0 h1 h2 h3 h4 h5 h6 _ _ (fun _ _ => ?_)
  refine part7 K X W h0 h1 h2 h3 h4 h5 h6 _ _ (fun _ _ => ?_)
  refine part8 K X W h0 h1 h2 h3 h4 h5 h6 _ _ (fun _ _ => ?_)
  refine part9 K X W h0 h1 h2 h3 h4 h5 h6 _ _ (fun _ _ => ?_)
  refine part10 K X W h0 h1 h2 h3 h4 h5 h6 _ _ (fun _ _ => ?_)
  refine part11 K X W h0 h1 h2 h3 h4 h5 h6 _ _ (fun _ _ => ?_)
  refine part12 K X W h0 h1 h2 h3 h4 h5 h6 _ _ (fun _ _ => ?_)
  refine part13 K X W h0 h1 h2 h3 h4 h5 h6 _ _ ?_
  refine part14 K X W h0 h1 h2 h3 h4 h5 h6 (fun _ => ?_)
  refine part15 K X W h0 h1 h2 h3 h4 h5 h6 _ (fun _ _ => ?_)
  refine part16 K X W h0 h1 h2 h3 h4 h5 h6 _ _ ?_
  refine part17 K X W h0 h1 h2 h3 h4 h5 h6 (fun _ => ?_)
  refine part18 K X W h0 h1 h2 h3 h4 h5 h6 _ ?_
  refine part19 K X W h0 h1 h2 h3 h4 h5 h6 ?_
  refine part20 K X W h0 h1 h2 h3 h4 h5 h6 (fun _ => ?_)
  refine part21 K X W h0 h1 h2 h3 h4 h5 h6 _ ?_
  refine part22 K X W h0 h1 h2 h3 h4 h5 h6 ?_
  refine part23 K X W h0 h1 h2 h3 h4 h5 h6 ?_
  refine part24 K X W h0 h1 h2 h3 h4 h5 h6 (fun _ => ?_)
  refine part25 K X W h0 h1 h2 h3 h4 h5 h6 _ ?_
  refine part26 K X W h0 h1 h2 h3 h4 h5 h6 (fun _ => ?_)
  refine part27 K X W h0 h1 h2 h3 h4 h5 h6 _ (fun _ => ?_)
  refine part28 K X W h0 h1 h2 h3 h4 h5 h6 (fun _ => ?_)
  refine part29 K X W h0 h1 h2 h3 h4 h5 h6 _ (fun _ => ?_)
  refine part30 K X W h0 h1 h2 h3 h4 h5 h6 _ (fun _ _ => ?_)
  refine part31 K X W h0 h1 h2 h3 h4 h5 h6 _ _ ?_
  refine part32 K X W h0 h1 h2 h3 h4 h5 h6 ?_
  refine part33 K X W h0 h1 h2 h3 h4 h5 h6 ?_
  refine part34 K X W h0 h1 h2 h3 h4 h5 h6 ?_
  refine part35 K X W h0 h1 h2 h3 h4 h5 h6 ?_
  refine part36 K X W h0 h1 h2 h3 h4 h5 h6 ?_
  refine part37 K X W h0 h1 h2 h3 h4 h5 h6 ?_
  refine part38 K X W h0 h1 h2 h3 h4 h5 h6 (fun _ => ?_)
  refine part39 K X W h0 h1 h2 h3 h4 h5 h6 _ (fun _ => ?_)
  refine part40 K X W h0 h1 h2 h3 h4 h5 h6 _ (fun _ => ?_)
  refine part41 K X W h0 h1 h2 h3 h4 h5 h6 _ (fun _ => ?_)
  refine part42 K X W h0 h1 h2 h3 h4 h5 h6 _ (fun _ => ?_)
  refine part43 K X W h0 h1 h2 h3 h4 h5 h6 _ (fun _ => ?_)
  refine part44 K X W h0 h1 h2 h3 h4 h5 h6 _ (fun _ => ?_)
  refine part45 K X W h0 h1 h2 h3 h4 h5 h6 _ (fun _ _ => ?_)
  extract_lets
  refine step_sent2 _ _ _ 24 (by omega) (cond_ne 24 c) (fun _ => rfl) ?_
  refine step_sent2 _ _ _ 25 (by omega) (cond_ne 25 c) (fun _ => rfl) ?_
  exact of_pure h.out

/-- The whole body: the device ends with every chunk and maximum received and everything it sent waited for. -/
theorem whole {Q : PUnit → sProp (MT nD τ sig Unit (Elt F) ℕ UU ℕ)}
    (h : iprop(recs (prod X W) (maxAll X W) K ∗ E c ∗ Wt (prod X W) (maxAll X W) c 2 32 ∗ (Wt (prod X W) (maxAll X W) c 0 32 ∗ XW c X W) ∗ Hold4 (prod X W) (maxAll X W) c (outOf X W c)) ⊢ (iprop(|={Set.univ}=> Q ⟨⟩) : sProp 𝕄)) :
    Runs iprop(recs (prod X W) (maxAll X W) K ∗ (Start c ∗ ∃ f, aAll c f) ∗ XW c X W ∗ Pre c) c (cc0_body xM h0 wM h1 oM h2 sM h3 rM h4 mM h5 aM h6 cc0_scratch4 cc0_scratch5 cc0_scratch6 cc0_scratch7) Q := by
  rw [cc0_body_eq_skeleton]
  unfold cc0_body_skel
  refine part46 K X W h0 h1 h2 h3 h4 h5 h6 ?_
  extract_lets
  refine step_sent2 _ _ _ 26 (by omega) (cond_ne 26 c) (fun _ => rfl) ?_
  refine step_sent2 _ _ _ 27 (by omega) (cond_ne 27 c) (fun _ => rfl) ?_
  refine step_sent2 _ _ _ 28 (by omega) (cond_ne 28 c) (fun _ => rfl) ?_
  refine step_sent2 _ _ _ 29 (by omega) (cond_ne 29 c) (fun _ => rfl) ?_
  refine step_sent2 _ _ _ 30 (by omega) (cond_ne 30 c) (fun _ => rfl) ?_
  refine step_sent2 _ _ _ 31 (by omega) (cond_ne 31 c) (fun _ => rfl) ?_
  unfold Runs
  show _ ⊢ WP c (Prog.ret PUnit.unit) Q
  unfold WP
  rw [wp_ret]
  exact h

end Parts

end Cert.KI
-- ==== Proof.KIGhost.lean ====
/-
The launch: the ghost state the devices start from, the credits of what they owe one another, the body at the one grid
point, and the run of all thirty-two devices.
-/
module

public import proofs.«01_k».proof.Proof.KIParts
public import proofs.«01_k».proof.Proof.Gen.KernelIdeal.Points
public import proofs.«01_k».proof.Proof.Gen.KernelIdeal.Launch
public import Idealize.ShloMosaic.Lib.Pipeline.Launch

@[expose] public section

set_option maxRecDepth 16384

noncomputable section

namespace Cert.KI

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx (ix2 ix3)

variable {F : FTy → Type} [FloatOps F]

local notation "𝕄" => MT nD τ sig Unit (Elt F) ℕ UU ℕ

abbrev Key : Type := Option (Fin 4 × Fin 32)

section Launch

variable (m : (ℓ : Loc nD τ sig) → Buf (Elt F) ℓ) (ρ : Dev nD → PrngReg)

/-- The memory the run starts from, its counters at zero. -/
def s₀ : MemSt nD τ sig (Elt F) := ⟨m, fun _ => 0, ρ⟩

/-- The block of the left operand device `c` stages. -/
def Xs (c : Dev nD) : (cc0_stg0_0 : Ref sig .tc).ty.Contents (Elt F) :=
  (win0_0.blk (0 : Fin 1)).view.read (Elt F) ((s₀ m ρ).mem ((c : Thread nD τ).loc main_arg0))
/-- The right operand as device `c` stages it. -/
def Ws (c : Dev nD) : (cc0_stg1_0 : Ref sig .tc).ty.Contents (Elt F) :=
  (win0_1.blk (0 : Fin 1)).view.read (Elt F) ((s₀ m ρ).mem ((c : Thread nD τ).loc main_arg1))

/-- The rectified products and the local maxima of this run. -/
def Pr : Dev nD → Fin 8 → FVec F S128x256 .f32 := prod (Xs m ρ) (Ws m ρ)
def Mx : Dev nD → F .f32 := maxAll (Xs m ρ) (Ws m ρ)

/-! ## Minting -/

theorem cellAt_inj : Function.Injective cellAt := by
  rintro ⟨c, k⟩ ⟨c', k'⟩ h
  have hc : (cellAt (c, k)).1.1 = (cellAt (c', k')).1.1 := congrArg (fun g : GSem nD τ sig => g.1.1) h
  have hs : (cellAt (c, k)).2 = (cellAt (c', k')).2 := congrArg Prod.snd h
  rcases k with _ | ⟨k, p⟩ <;> rcases k' with _ | ⟨k', p'⟩
  · exact congrArg (fun d => (d, none)) hc
  · exact absurd hs (fun h => by cases h)
  · exact absurd hs (fun h => by cases h)
  · have hq : dsem k p = dsem k' p' := SemLoc.dma.inj hs
    have hk : (k, p) = (k', p') := Option.some.inj (by rw [← ix_dsem, hq, ix_dsem])
    exact Prod.ext hc (congrArg some hk)

/-- Every cell of the protocol. -/
def cellSet : Finset (GSem nD τ sig) := Finset.univ.map ⟨cellAt, cellAt_inj⟩

/-- Which cell device `c`'s payment to `q` of a kind goes to: its signal, the two cells of a chunk, the two of a maximum. -/
def payTo (c : Dev nD) (q : Dev nD) : Option (Fin 4) → (Dev nD × Key) × Dev nD
  | none => ((q, none), c)
  | some k => if k.val % 2 = 0 then ((c, some (k, q)), q) else ((q, some (k, c)), c)

theorem payTo_inj : Function.Injective fun x : (Dev nD × Dev nD) × Option (Fin 4) => payTo x.1.1 x.1.2 x.2 := by
  rintro ⟨⟨c, q⟩, k⟩ ⟨⟨c', q'⟩, k'⟩ h
  have hk : k = k' := by
    have h2 : (payTo c q k).1.2.map Prod.fst = (payTo c' q' k').1.2.map Prod.fst := congrArg (fun y : (Dev nD × Key) × Dev nD => y.1.2.map Prod.fst) h
    have hp : ∀ (c q : Dev nD) (k : Option (Fin 4)), (payTo c q k).1.2.map Prod.fst = k := fun c q k => by
      rcases k with _ | k
      · rfl
      · dsimp only [payTo]; split <;> rfl
    rw [hp, hp] at h2; exact h2
  subst hk
  have hcq : (c, q) = (c', q') := by
    rcases k with _ | k
    · have h1 : ((q, none), c) = (((q', none), c') : (Dev nD × Key) × Dev nD) := h
      exact Prod.ext (congrArg Prod.snd h1) (congrArg (fun y => y.1.1) h1)
    · dsimp only [payTo] at h
      split at h
      · exact Prod.ext (congrArg (fun y : (Dev nD × Key) × Dev nD => y.1.1) h) (congrArg (fun y : (Dev nD × Key) × Dev nD => y.2) h)
      · exact Prod.ext (congrArg (fun y : (Dev nD × Key) × Dev nD => y.2) h) (congrArg (fun y : (Dev nD × Key) × Dev nD => y.1.1) h)
  rw [hcq]

def tokAt (x : (Dev nD × Dev nD) × Option (Fin 4)) : GSem nD τ sig × ℕ × Dev nD :=
  (cellAt (payTo x.1.1 x.1.2 x.2).1, 0, (payTo x.1.1 x.1.2 x.2).2)
theorem tokAt_inj : Function.Injective tokAt := fun x y h =>
  payTo_inj (Prod.ext (cellAt_inj (congrArg (fun z : GSem nD τ sig × ℕ × Dev nD => z.1) h)) (congrArg (fun z : GSem nD τ sig × ℕ × Dev nD => z.2.2) h))
/-- The rights to pay, all of them. -/
def tokSet : Finset (GSem nD τ sig × ℕ × Dev nD) := Finset.univ.map ⟨tokAt, tokAt_inj⟩

def u₀ : UU := (initOf (Pipeline.cells cfgs cellOf_inj) (Pipeline.launchToks cfgs cellOf_inj), initOf cellSet tokSet)

/-- The rights device `c` pays with. -/
def toks (c : Dev nD) : sProp 𝕄 := iprop(tokB c ∗ tokD c ∗ tokC c)

/-- What device `c` is dealt: the rounds of its cells, its positions, its rights. -/
def G (c : Dev nD) : sProp 𝕄 :=
  iprop((bigSep Finset.univ fun k : Key => roundState ER (rd (Pr m ρ) (Mx m ρ)) (cellAt (c, k)) 0)
    ∗ (bigSep Finset.univ fun k : Key => reached ER (cellAt (c, k)) 0)
    ∗ (bigSep Finset.univ fun k : Key => atPos ER (cellAt (c, k)) 0 ∅ 0) ∗ toks c)

theorem bigSep_key (Φ : Key → sProp 𝕄) :
    bigSep Finset.univ Φ = iprop(Φ none ∗ bigSep Finset.univ fun k : Fin 4 => bigSep Finset.univ fun p : Fin 32 => Φ (some (k, p))) := by
  rw [← bigSep_univ_prod (fun x : Fin 4 × Fin 32 => Φ (some x)), show (Finset.univ : Finset Key) = insert none (Finset.univ.map Function.Embedding.some) from by
    ext x; rcases x with _ | x <;> simp, bigSep_insert (by simp), bigSep_map]
  rfl
theorem bigSep_four (Φ : Fin 4 → sProp 𝕄) : bigSep Finset.univ Φ = iprop(Φ 0 ∗ Φ 1 ∗ Φ 2 ∗ Φ 3) := bigSep_univ_eq_bigSepL [0, 1, 2, 3] (by decide) (by decide) Φ
theorem bigSep_kind (Φ : Option (Fin 4) → sProp 𝕄) : bigSep Finset.univ Φ = iprop(Φ none ∗ Φ (some 0) ∗ Φ (some 1) ∗ Φ (some 2) ∗ Φ (some 3)) :=
  bigSep_univ_eq_bigSepL [none, some 0, some 1, some 2, some 3] (by decide) (by decide) Φ

/-- The rights minted, as the devices hold them. -/
theorem toks_deal : bigSep tokSet (fun x => (dutyTok ER x.1 x.2.1 x.2.2 : sProp 𝕄)) ⊢ bigSep Finset.univ fun c : Dev nD => toks c := by
  unfold tokSet
  rw [bigSep_map, bigSep_univ_prod, bigSep_univ_prod]
  refine fam_mono fun c _ => ?_
  unfold toks tokB tokD tokC
  rw [← bigSep_sep', ← bigSep_sep']
  refine fam_mono fun q _ => ?_
  rw [bigSep_kind]
  show iprop(dutyTok ER (barCell q) 0 c ∗ dutyTok ER (dcell 0 c q) 0 q ∗ dutyTok ER (dcell 1 q c) 0 c ∗ dutyTok ER (dcell 2 c q) 0 q ∗ dutyTok ER (dcell 3 q c) 0 c) ⊢ _
  by_cases h : q = c
  · rw [if_pos h, if_pos h, if_pos h]
    iintro -
    isplitl; · iempintro
    isplitl <;> iempintro
  · rw [if_neg h, if_neg h, if_neg h]
    iintro ⟨H0, H1, H2, H3, H4⟩
    isplitl [H0]; · iexact H0
    isplitl [H1 H2]
    · isplitl [H1] <;> iassumption
    isplitl [H3] <;> iassumption

theorem fund_all : BI.own (ER (initOf cellSet tokSet)) ⊢ (|==> bigSep Finset.univ (G m ρ) : sProp 𝕄) := by
  have hX (Φ : GSem nD τ sig → sProp 𝕄) : bigSep cellSet Φ = bigSep Finset.univ fun c : Dev nD => bigSep Finset.univ fun k : Key => Φ (cellAt (c, k)) := by
    unfold cellSet; rw [bigSep_map, bigSep_univ_prod]; rfl
  iintro HX
  imod (Rounds.fund ER (rd (Pr m ρ) (Mx m ρ)) cellSet tokSet) $$ HX with ⟨Hst, Hr, Hat, Htok⟩
  imodintro
  ihave Hst := (Entails.of_eq (hX fun g => roundState ER (rd (Pr m ρ) (Mx m ρ)) g 0)) $$ Hst
  ihave Hat := (Entails.of_eq (hX fun g => atPos ER g 0 ∅ 0)) $$ Hat
  ihave Hr := (Entails.of_eq (hX fun g => reached ER g 0)) $$ Hr
  ihave Htok := toks_deal $$ Htok
  unfold G; simp only [bigSep_sep']
  isplitl [Hst]; · iexact Hst
  isplitl [Hr]; · iexact Hr
  isplitl [Hat] <;> iassumption

/-! ## Semaphores -/

/-- The scoped semaphores of the kernel: the four arrays. -/
abbrev osem : Fin 4 × Fin 32 → SemLoc sig := fun x => .dma (dsem x.1 x.2)

theorem osem_inj : Function.Injective osem := fun x y h =>
  Option.some.inj (by rw [← ix_dsem x.1 x.2, ← ix_dsem y.1 y.2, SemLoc.dma.inj h])

theorem ownSemFacts : Pipeline.OwnSemFacts cfg0.spec osem where
  isScoped := by decide +kernel
  inj := osem_inj
  disj := by decide +kernel

theorem ownSems0_eq (c : Dev nD) : (Pipeline.ownSems0 (Ix := Unit) (Name := ℕ) (U := UU) (Lvl := ℕ) (Val := Elt F) (τ := τ) osem c : sProp 𝕄)
    = iprop(zeros c 0 ∗ zeros c 1 ∗ zeros c 2 ∗ zeros c 3) := by
  unfold Pipeline.ownSems0 zeros
  rw [bigSep_univ_prod, bigSep_four]
theorem unscopedSems0_eq (c : Dev nD) : (unscopedSems0 c : sProp 𝕄) = semVal (barCell c) 0 := by
  unfold unscopedSems0; rw [bigSep_eq_bigSepL_of_eq [SemLoc.reg barS] (by decide +kernel) (by decide)]; rfl

theorem sems0_eq (c : Dev nD) :
    iprop(Pipeline.ownSems0 (Ix := Unit) (Name := ℕ) (U := UU) (Lvl := ℕ) (Val := Elt F) (τ := τ) osem c ∗ unscopedSems0 c)
      ⊢ (bigSep Finset.univ fun k : Key => semVal (cellAt (c, k)) 0 : sProp 𝕄) := by
  rw [ownSems0_eq, unscopedSems0_eq, bigSep_key, bigSep_four]
  unfold zeros
  iintro ⟨H, HB⟩
  isplitl [HB]
  · iexact HB
  iexact H

/-! ## The names -/

/-- The cells' records, under names `K`. -/
def G' (c : Dev nD) : sProp 𝕄 :=
  iprop((∃ K : Dev nD × Key → ℕ, bigSep Finset.univ fun x => iprop(cellInv ER (rd (Pr m ρ) (Mx m ρ)) (K x) (cellAt x) ∗ reached ER (cellAt x) 0))
    ∗ (bigSep Finset.univ fun k : Key => atPos ER (cellAt (c, k)) 0 ∅ 0) ∗ toks c)

theorem core_alloc (c : Dev nD) :
    iprop(Pipeline.ownSems0 (Ix := Unit) (Name := ℕ) (U := UU) (Lvl := ℕ) (Val := Elt F) (τ := τ) osem c ∗ unscopedSems0 c ∗ G m ρ c)
      ⊢ |={Set.univ}=> iprop((bigSep Finset.univ fun k : Key => iprop(∃ κ : ℕ, cellInv ER (rd (Pr m ρ) (Mx m ρ)) κ (cellAt (c, k)) ∗ reached ER (cellAt (c, k)) 0))
          ∗ (bigSep Finset.univ fun k : Key => atPos ER (cellAt (c, k)) 0 ∅ 0) ∗ toks c) := by
  unfold G
  iintro ⟨Hos, Hus, Hst, Hr, Hat, Htok⟩
  ihave Hv := (sems0_eq (F := F) c) $$ [Hos Hus]
  · isplitl [Hos] <;> iassumption
  imod (show iprop((bigSep Finset.univ fun k : Key => semVal (cellAt (c, k)) 0)
        ∗ bigSep Finset.univ fun k : Key => roundState ER (rd (Pr m ρ) (Mx m ρ)) (cellAt (c, k)) 0)
      ⊢ (|={Set.univ}=> bigSep Finset.univ fun k : Key => iprop(∃ κ : ℕ, cellInv ER (rd (Pr m ρ) (Mx m ρ)) κ (cellAt (c, k))) : sProp 𝕄) from by
        rw [← bigSep_sep']
        exact (fam_mono fun k _ => (Rounds.body_intro ER (rd (Pr m ρ) (Mx m ρ)) (cellAt (c, k))).trans inv_alloc).trans (bigSep_fupd _ _)) $$ [Hv Hst] with Hinv
  · isplitl [Hv] <;> iassumption
  imodintro
  isplitl [Hinv Hr]
  · ihave H := (Entails.of_eq (bigSep_sep' Finset.univ (fun k : Key => iprop(∃ κ : ℕ, cellInv ER (rd (Pr m ρ) (Mx m ρ)) κ (cellAt (c, k))))
      (fun k : Key => (reached ER (cellAt (c, k)) 0 : sProp 𝕄))).symm) $$ [Hinv Hr]
    · isplitl [Hinv] <;> iassumption
    iapply (fam_mono (Φ := fun k : Key => iprop((∃ κ : ℕ, cellInv ER (rd (Pr m ρ) (Mx m ρ)) κ (cellAt (c, k))) ∗ reached ER (cellAt (c, k)) 0)) fun k _ => by
      iintro ⟨⟨%κ, HI⟩, HR⟩
      iexists κ
      isplitl [HI] <;> iassumption)
    iexact H
  isplitl [Hat] <;> iassumption

theorem regroup :
    (bigSep Finset.univ fun c : Dev nD => iprop((bigSep Finset.univ fun k : Key => iprop(∃ κ : ℕ, cellInv ER (rd (Pr m ρ) (Mx m ρ)) κ (cellAt (c, k)) ∗ reached ER (cellAt (c, k)) 0))
          ∗ (bigSep Finset.univ fun k : Key => atPos ER (cellAt (c, k)) 0 ∅ 0) ∗ toks c) : sProp 𝕄)
      ⊢ bigSep Finset.univ (G' m ρ) := by
  rw [bigSep_sep', ← bigSep_univ_prod (fun x : Dev nD × Key => iprop(∃ κ : ℕ, cellInv ER (rd (Pr m ρ) (Mx m ρ)) κ (cellAt x) ∗ reached ER (cellAt x) 0))]
  iintro ⟨HI, H⟩
  ihave HK := (BI.bigSep_exists_pi Finset.univ (fun (x : Dev nD × Key) (κ : ℕ) => (iprop(cellInv ER (rd (Pr m ρ) (Mx m ρ)) κ (cellAt x) ∗ reached ER (cellAt x) 0) : sProp 𝕄))) $$ HI
  iapply (fam_pers (R := iprop(∃ K : Dev nD × Key → ℕ, bigSep Finset.univ fun x => iprop(cellInv ER (rd (Pr m ρ) (Mx m ρ)) (K x) (cellAt x) ∗ reached ER (cellAt x) 0)))
    fun c _ => (show _ ⊢ G' m ρ c from Entails.of_eq (by unfold G'; rfl)))
  isplitl [HK] <;> iassumption

/-- Every device's counters at once become the protocol's cells. -/
theorem glob : (bigSep Finset.univ fun c => iprop(Pipeline.ownSems0 (Ix := Unit) (Name := ℕ) (U := UU) (Lvl := ℕ) (Val := Elt F) (τ := τ) osem c ∗ unscopedSems0 c ∗ G m ρ c) : sProp 𝕄)
    ⊢ |={Set.univ}=> bigSep Finset.univ (G' m ρ) :=
  ((fam_mono fun c _ => core_alloc m ρ c).trans (bigSep_fupd _ _)).trans (BI.fupd_mono (regroup m ρ))

end Launch

end Cert.KI
-- ==== Proof.KILaunch.lean ====
/-
The run: what the devices owe at the start and the credits this makes, the body at the one grid point, and the run of
all thirty-two devices from any memory.
-/
module

public import proofs.«01_k».proof.Proof.KIGhost
public import Idealize.ShloMosaic.Lib.Pipeline.CollectiveSegs
public import Idealize.ShloMosaic.Lib.Pipeline.Kit

@[expose] public section

set_option maxRecDepth 16384

noncomputable section

namespace Cert.KI

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx (ix2 ix3)

variable {F : FTy → Type} [FloatOps F]

local notation "𝕄" => MT nD τ sig Unit (Elt F) ℕ UU ℕ

open Pipeline (Dat)

section Launch

/-! ## Dues and credits -/

/-- What device `c` owes at the start: every signal, chunk and maximum. -/
def O₀ (c : Dev nD) : CellTallies nD τ sig Unit := OB c 0 + (OD c 0 + OA c 0)

/-- The credit of what device `c` waits for. -/
def T₀ (c : Dev nD) : CellTallies nD τ sig Unit :=
  tallyAt (barCell c) () 31 + ((∑ q ∈ Finset.univ.erase c, tallyAt (dcell 1 c q) () ND) + ∑ q ∈ Finset.univ.erase c, tallyAt (dcell 3 c q) () NA)

/-- Summed over ordered pairs of distinct devices, either index first. -/
theorem sum_swap (f : Dev nD → Dev nD → CellTallies nD τ sig Unit) :
    (∑ d, ∑ q ∈ Finset.univ.erase d, f d q) = ∑ q, ∑ d ∈ Finset.univ.erase q, f d q :=
  Finset.sum_comm' fun d q => by simp [ne_comm]

theorem tally_times (g : GSem nD τ sig) (n : ℕ) : n • (tallyAt g () 1 : CellTallies nD τ sig Unit) = tallyAt g () n := by
  funext g'; refine Finsupp.ext fun u => ?_
  rw [Pi.smul_apply, Finsupp.smul_apply, tallyAt_apply, tallyAt_apply]
  split <;> simp

/-- The signals the others make to `q`. -/
theorem signals_at (q : Dev nD) : (∑ _d ∈ Finset.univ.erase q, (tallyAt (barCell q) () 1 : CellTallies nD τ sig Unit)) = tallyAt (barCell q) () 31 := by
  rw [Finset.sum_const, tally_times, Finset.card_erase_of_mem (Finset.mem_univ q), Finset.card_univ, Fintype.card_fin]
  rfl

theorem sum_dues : (∑ d, O₀ d) = ∑ d, T₀ d := by
  unfold O₀ T₀ OB OD OA
  simp only [Finset.sum_add_distrib, later_zero, upto_zero]
  rw [sum_swap (fun d q => tallyAt (barCell q) () 1), sum_swap (fun d q => tallyAt (dcell 1 q d) () ND), sum_swap (fun d q => tallyAt (dcell 3 q d) () NA),
    Finset.sum_congr rfl fun q _ => signals_at q]

theorem credit_own (d : Dev nD) (g : GSem nD τ sig) (h : T₀ d g ≠ 0) : g.1 = (d.tc : Thread nD τ) := by
  by_contra hn
  apply h
  have h0 : ∀ (sm : SemLoc sig) (n : ℕ), (tallyAt ((d : Thread nD τ), sm) () n : CellTallies nD τ sig Unit) g = 0 := fun sm n =>
    tallyAt_ne_cell (g := ((d : Thread nD τ), sm)) (g' := g) (fun h => hn (congrArg Prod.fst h)) () n
  unfold T₀
  rw [Pi.add_apply, Pi.add_apply, Finset.sum_apply, Finset.sum_apply, h0, Finset.sum_eq_zero (fun q _ => h0 _ _), Finset.sum_eq_zero (fun q _ => h0 _ _), add_zero, add_zero]

/-- A family over the other devices, with nothing at the own index. -/
theorem erase_emp (c : Dev nD) (Φ : Dev nD → sProp 𝕄) :
    bigSep (Finset.univ.erase c) Φ ⊢ bigSep Finset.univ fun q => if q = c then iprop(emp) else Φ q := by
  rw [bigSep_split c (fun q => if q = c then iprop(emp) else Φ q), if_pos rfl,
    bigSep_congr (s := Finset.univ.erase c) (Ψ := Φ) (fun q hq => if_neg (Finset.ne_of_mem_erase hq))]
  iintro H
  isplitr
  · iempintro
  iexact H

theorem creds (c : Dev nD) :
    (Pipeline.launchCred O₀ c : sProp 𝕄) ⊢ iprop(cred (tallyAt (barCell c) () 31) ∗ crdAll c 1 ∗ crdAll c 3) := by
  rw [Pipeline.launchCred_of_sum O₀ T₀ sum_dues credit_own c]
  unfold T₀ crdAll
  rw [BI.Entails.antisymm (cred_add _ _).1 (cred_add _ _).2, BI.Entails.antisymm (cred_add _ _).1 (cred_add _ _).2, Pipeline.cred_finsetSum, Pipeline.cred_finsetSum]
  exact sep_mono_right (BIClass.sep_mono (erase_emp c _) (erase_emp c _))

theorem dues_pos {c : Dev nD} {g : GSem nD τ sig} {u : Unit} (h : 0 < O₀ c g u) : g.1.2 = .tc ∧ 1 ≤ lv g () := by
  unfold O₀ at h
  rw [Pi.add_apply, Finsupp.add_apply, Pi.add_apply, Finsupp.add_apply] at h
  rcases Nat.eq_zero_or_pos (OB c 0 g u) with hb | hb
  · rcases Nat.eq_zero_or_pos (OD c 0 g u) with hd | hd
    · obtain ⟨q, rfl⟩ := OA_pos (c := c) (n := 0) (g := g) (u := u) (by omega)
      exact ⟨rfl, by rw [lv_dma]; decide⟩
    · obtain ⟨q, rfl⟩ := OD_pos hd
      exact ⟨rfl, by rw [lv_dma]; decide⟩
  · obtain ⟨q, rfl⟩ := OB_pos hb
    exact ⟨rfl, le_of_eq (lv_bar q).symm⟩

/-- The semaphores staging the windows wait below everything owed. -/
theorem mayWait_stage (c : Dev nD) (q : DmaSem sig) (hq : ix q = none) (O : CellTallies nD τ sig Unit) (hO : O = O₀ c ∨ O = 0) :
    (levAts L lv : sProp 𝕄) ⊢ MayWait (c : Thread nD τ) (.dma q) () O := by
  rcases hO with rfl | rfl
  · refine MayOwe.of_cut (L := L) (lev := lv) 0 (fun p hp => by rw [Finset.mem_singleton.mp hp, L_tc]; exact Finset.mem_singleton_self _)
      (fun g u hg => by
        have h := (dues_pos hg).1
        show () ∈ L g
        unfold L; rw [if_pos h]; exact Finset.mem_singleton_self _)
      (fun p hp => by rw [Finset.mem_singleton.mp hp]; dsimp only [lv]; rw [hq])
      (fun g u hg => (dues_pos hg).2)
  · rw [MayWait_zero]; iintro -; iempintro

variable (m : (ℓ : Loc nD τ sig) → Buf (Elt F) ℓ) (ρ : Dev nD → PrngReg)

/-! ## The one grid point -/

theorem cfg0_N : cfg0.N = 1 := by decide
def t₀ : Fin cfg0.N := ⟨0, by rw [cfg0_N]; decide⟩
theorem fin_N (t : Fin cfg0.N) : t = t₀ := by
  obtain ⟨t, ht⟩ := t; have := cfg0_N; exact Fin.ext (by simp only [t₀]; omega)

/-- The result of device `c`. -/
def outAt (c : Dev nD) : (cc0_stg2_0 : Ref sig .tc).ty.Contents (Elt F) := outOf (Xs m ρ) (Ws m ρ) c

/-- What device `c`'s body starts from besides its buffers. -/
def start (c : Dev nD) : sProp 𝕄 :=
  iprop(G' m ρ c ∗ (cred (tallyAt (barCell c) () 31) ∗ crdAll c 1 ∗ crdAll c 3) ∗ levAts L lv)

/-- The kernel's own buffers, at anything. -/
def scratch (c : Dev nD) : sProp 𝕄 :=
  iprop((∃ f, sAll (F := F) c f) ∗ (∃ f, rAll (F := F) c f) ∗ (∃ f, mAll (F := F) c f) ∗ ∃ f, aAll (F := F) c f)

def Φ₀ (c : Dev nD) : sProp 𝕄 := iprop(start m ρ c ∗ scratch c)
def Φ₁ (c : Dev nD) : sProp 𝕄 := iprop(scratch (F := F) c ∗ semVal (barCell c) 0 ∗ zeros c 0 ∗ zeros c 1 ∗ zeros c 2 ∗ zeros c 3)

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => Xs m ρ c
    | ⟨1, _⟩ => Ws m ρ c
    | ⟨2, _⟩ => outAt m ρ c
  Φ t := match t with
    | ⟨0, _⟩ => Φ₀ m ρ c
    | ⟨_ + 1, _⟩ => Φ₁ c
  q _ := fullShare
  owed t := match t with
    | ⟨0, _⟩ => O₀ c
    | ⟨_ + 1, _⟩ => 0

theorem share_eq (c : Dev nD) (w : Fin cfg0.W) : (dats m ρ 0 c).share w = fullShare := by unfold Dat.share; split <;> rfl

/-- A staging buffer of device `c` at given contents. -/
def stg (c : Dev nD) (b : Ref sig .tc) (X : b.ty.Contents (Elt F)) : sProp 𝕄 :=
  iprop(∃ f : Buf (Elt F) ((c : Thread nD τ).loc b), ⌜f = X⌝ ∗ (((c : Thread nD τ).loc b) ↦{fullShare} f))

theorem owns_stg (c : Dev nD) (b : Ref sig .tc) (X : b.ty.Contents (Elt F)) :
    (owns (Ix := Unit) (Name := ℕ) (U := UU) (Lvl := ℕ) (c : Thread nD τ) (Memref.whole b) fullShare X : sProp 𝕄) = stg c b X := by
  unfold owns stg; simp only [Memref.view_whole, View.read_whole, View.set_whole]

def bodyPre (c : Dev nD) : sProp 𝕄 :=
  iprop(Φ₀ m ρ c ∗ (dats m ρ 0 c).owesAt () t₀.castSucc
    ∗ (∃ d, stg c cc0_stg0_0 ((dats m ρ 0 c).before (0 : Fin 3) t₀ d))
    ∗ (∃ d, stg c cc0_stg1_0 ((dats m ρ 0 c).before (1 : Fin 3) t₀ d))
    ∗ (∃ d, stg c cc0_stg2_0 ((dats m ρ 0 c).before (2 : Fin 3) t₀ d)))

def bodyPost (c : Dev nD) : sProp 𝕄 :=
  iprop(Φ₁ (F := F) c ∗ (dats m ρ 0 c).owesAt () t₀.succ ∗ stg c cc0_stg0_0 (Xs m ρ c) ∗ stg c cc0_stg1_0 (Ws m ρ c) ∗ stg c cc0_stg2_0 (outAt m ρ c))

/-- The cells as the devices' positions list them. -/
theorem pos_all (c : Dev nD) : (bigSep Finset.univ fun k : Key => (atPos ER (cellAt (c, k)) 0 ∅ 0 : sProp 𝕄))
    = iprop(atPos ER (barCell c) 0 ∅ 0 ∗ posAll c 0 ∗ posAll c 1 ∗ posAll c 2 ∗ posAll c 3) := by
  rw [bigSep_key, bigSep_four]; unfold posAll; rfl

/-- What the launch hands a device is what its program starts from. -/
theorem enter (c : Dev nD) : bodyPre m ρ c ⊢ iprop(∃ K, recs (Pr m ρ) (Mx m ρ) K ∗ (Start c ∗ ∃ f, aAll c f) ∗ XW c (Xs m ρ) (Ws m ρ) ∗ Pre c) := by
  unfold bodyPre Φ₀ start G' scratch toks stg
  rw [pos_all]
  iintro ⟨⟨⟨⟨⟨%K, HI⟩, ⟨HaB, Ha⟩, HtB, HtD, HtC⟩, ⟨HcB, Hc1, Hc3⟩, Hlev⟩, Hs, Hr, Hm, Ha'⟩, Ho, ⟨%d0, %g0, %hg0, Hx⟩, ⟨%d1, %g1, %hg1, Hw⟩, ⟨%d2, %g2, %hg2, Hout⟩⟩
  have hx : g0 = Xs m ρ c := by rw [hg0]; unfold Dat.before; rw [if_pos (fetch0_0 t₀)]; rfl
  have hw : g1 = Ws m ρ c := by rw [hg1]; unfold Dat.before; rw [if_pos (fetch0_1 t₀)]; rfl
  subst hx hw
  unfold Dat.owesAt Pipeline.owesWithin
  icases Ho with ⟨%W, %hW, HO⟩
  iexists K
  isplitl [HI Hlev]
  · unfold recs
    isplitl [HI] <;> iassumption
  isplitl [HO Hr HtB Ha']
  · isplitl [HO Hr HtB]
    · unfold Start
      isplitl [HO]
      · iexists W; iexact HO
      isplitl [Hr] <;> iassumption
    iexact Ha'
  isplitl [Hx Hw]
  · unfold XW
    isplitl [Hx] <;> iassumption
  unfold Pre Late
  isplitl [HcB HaB]
  · isplitl [HcB] <;> iassumption
  isplitl [Hs]; · iexact Hs
  isplitl [HtD]; · iexact HtD
  isplitl [HtC]; · iexact HtC
  isplitl [Hm]; · iexact Hm
  isplitl [Hout]
  · iexists g2; unfold oAll; iexact Hout
  icases Ha with ⟨H0, H1, H2, H3⟩
  isplitl [H0]; · iexact H0
  isplitl [H1]; · iexact H1
  isplitl [H2]; · iexact H2
  isplitl [H3]; · iexact H3
  isplitl [Hc1] <;> iassumption

/-- What the program ends with is what the launch takes back. -/
theorem leave (c : Dev nD) : iprop(Done (Pr m ρ) (Mx m ρ) c (outAt m ρ c) ∗ XW c (Xs m ρ) (Ws m ρ)) ⊢ bodyPost m ρ c := by
  unfold Done E XW bodyPost Φ₁ scratch stg
  iintro ⟨⟨⟨%W, HO⟩, Ho, ⟨Hs, Hr, Hm, Ha⟩, Hz⟩, Hx, Hw⟩
  isplitl [Hs Hr Hm Ha Hz]
  · isplitl [Hs Hr Hm Ha]
    · isplitl [Hs]
      · iexists _; iexact Hs
      isplitl [Hr]
      · iexists _; iexact Hr
      isplitl [Hm]
      · iexists _; iexact Hm
      iexists _; iexact Ha
    iexact Hz
  isplitl [HO]
  · unfold Dat.owesAt Pipeline.owesWithin
    iexists W
    isplitr
    · ipureintro; exact fun _ _ => Or.inl trivial
    iexact HO
  isplitl [Hx]
  · iexists _
    isplitr
    · ipureintro; rfl
    iexact Hx
  isplitl [Hw]
  · iexists _
    isplitr
    · ipureintro; rfl
    iexact Hw
  iexists _
  isplitr
  · ipureintro; rfl
  unfold oAll
  iexact Ho

theorem run_body (c : Dev nD) : bodyPre m ρ c
    ⊢ wp frame (wpE (defs₀ (F := F)) 𝒱₀ c none) Set.univ
      (cc0_body xM (Memref.isWhole_whole _) wM (Memref.isWhole_whole _) oM (Memref.isWhole_whole _) sM (Memref.isWhole_whole _) rM (Memref.isWhole_whole _)
        mM (Memref.isWhole_whole _) aM (Memref.isWhole_whole _) cc0_scratch4 cc0_scratch5 cc0_scratch6 cc0_scratch7) (fun _ => bodyPost m ρ c) := by
  refine (enter m ρ c).trans ?_
  iintro ⟨%K, H⟩
  have h := whole K (Xs m ρ) (Ws m ρ) (c := c) (Q := fun _ => bodyPost m ρ c) (Memref.isWhole_whole _) (Memref.isWhole_whole _) (Memref.isWhole_whole _)
    (Memref.isWhole_whole _) (Memref.isWhole_whole _) (Memref.isWhole_whole _) (Memref.isWhole_whole _) (by
      iintro ⟨Hr, HE, H2, ⟨H0, HX⟩, H4⟩
      imod (finish (Pr m ρ) (Mx m ρ) K c (outAt m ρ c)) $$ [Hr HE H2 H0 H4] with HD
      · isplitl [Hr]; · iexact Hr
        isplitl [HE]; · iexact HE
        isplitl [H0]; · iexact H0
        isplitl [H2]; · iexact H2
        iexact H4
      imodintro
      iapply (leave m ρ c)
      isplitl [HD] <;> iassumption)
  unfold Runs WP at h
  iapply h
  iexact H

theorem bigSep_W (Φ : Fin cfg0.W → sProp 𝕄) : bigSep Finset.univ Φ = iprop(Φ (0 : Fin 3) ∗ Φ (1 : Fin 3) ∗ Φ (2 : Fin 3)) := bigSep_W0 Φ

theorem body_obligation (c : Dev nD) : Pipeline.BodyObligation (dats m ρ 0 c) defs₀ 𝒱₀ () Set.univ := fun t => by
  rw [fin_N t]
  rw [bigSep_W, bigSep_W]
  simp only [owns_stg]
  exact run_body m ρ c

/-! ## The side conditions -/

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m ρ c)
      ⊢ |={Set.univ}=> iprop(start m ρ c ∗ emp) := by
  iintro ⟨-, Hlev, Hcr, -, HG⟩
  ihave Hc := (creds (F := F) c) $$ Hcr
  imodintro
  unfold start
  isplitl
  · isplitl [HG]; · iexact HG
    isplitl [Hc] <;> iassumption
  · iempintro

theorem phi0_intro (c : Dev nD) :
    iprop(start m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m ρ c from rfl, scopedRest0_eq]
  unfold Φ₀ scratch sAll rAll mAll aAll
  iintro ⟨Hs, -, H⟩
  isplitl [Hs] <;> iassumption

theorem phi1_exit (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = Φ₁ c from rfl, scopedRest0_eq, ownSems0_eq, unscopedSems0_eq]
  unfold Φ₁ scratch sAll rAll mAll aAll
  iintro ⟨H, HB, HZ⟩
  isplitl [HB]; · iexact HB
  isplitl [HZ] <;> iassumption

theorem waits (c : Dev nD) : (levAts L lv : sProp 𝕄) ⊢ Pipeline.cellsWaits cfgs (dats m ρ) () 0 c :=
  Pipeline.cellsWaits_intro cfgs (dats m ρ) () 0 c fun w s t =>
    mayWait_stage c _ (by fin_cases w <;> fin_cases s <;> decide) _ (by
      rcases t with ⟨_ | _, ht⟩
      · exact Or.inl rfl
      · exact Or.inr rfl)

/-! ## The run -/

/-- The arrays at the end. -/
def finalA (c : Dev nD) (w : Fin cfg0.W) : Buf (Elt F) ((cfg0.win w).arr.view.loc (c : Thread nD τ)) := (dats m ρ 0 c).arrAt w cfg0.N

/-- Every device's arrays are the final ones. -/
def QC : PUnit × MemSt nD τ sig (Elt F) → Prop := fun r =>
  ∀ c : Dev nD, ∀ w : Fin cfg0.W, r.2.mem ((cfg0.win w).arr.view.loc (c : Thread nD τ)) = finalA m ρ c w

/-- From any memory with its counters at zero, thirty-two devices running the program end, their arrays the final ones and
    every counter at zero. -/
theorem run_main : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := block_pos0) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m ρ) (G' := G' m ρ) (u₀ := u₀)
    (hu₀ := by
      unfold u₀
      iintro Hu
      ihave H := (ownU_pair _ _) $$ Hu
      icases H with ⟨HP, HX⟩
      imod (fund_all m ρ) $$ HX with HG
      imodintro
      isplitl [HP] <;> iassumption)
    (hglob := glob m ρ)
    (hA := fun _ _ => rfl) (hpf := fun _ k => k.elim0)
    (X := start m ρ) (Y := fun c => unscopedSems0 c) (Z := fun _ => iprop(emp))
    (hX := start_intro m ρ) (hin := phi0_intro m ρ) (hout := phi1_exit m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-- The two operands are never written. -/
theorem finalA_x (c : Dev nD) : finalA m ρ c (0 : Fin 3) = (s₀ m ρ).mem (win0_0.arr.view.loc (c : Thread nD τ)) :=
  (dats (F := F) m ρ 0 c).arrAt_in (0 : Fin 3) rfl _
theorem finalA_w (c : Dev nD) : finalA m ρ c (1 : Fin 3) = (s₀ m ρ).mem (win0_1.arr.view.loc (c : Thread nD τ)) :=
  (dats (F := F) m ρ 0 c).arrAt_in (1 : Fin 3) rfl _

end Launch

end Cert.KI
-- ==== Proof.KIResult.lean ====
/-
What the run leaves in the result array of each device, in terms of the operands in memory.
-/
module

public import proofs.«01_k».proof.Proof.KILaunch
public import Idealize.ShloMosaic.Lib.Pipeline.ValueKit

@[expose] public section

set_option maxRecDepth 16384

noncomputable section

namespace Cert.KI

open Cert.KernelIdeal Cert.KernelIdeal.Gen
open Idealize.ShloMosaic Idealize.ShloMosaic.TcCoe

section Result
variable {F : FTy → Type} [FloatOps F]
variable (m : (ℓ : Loc nD τ sig) → Buf (Elt F) ℓ) (ρ : Dev nD → PrngReg)

/-- The one block of the left operand is all of it. -/
theorem Xs_eq (c : Dev nD) : Xs m ρ c = m ((c : Thread nD τ).loc main_arg0) := by
  funext i
  refine congrArg (m ((c : Thread nD τ).loc main_arg0)) (?_ : (win0_0.blk (0 : Fin 1)).view.emb i = i)
  funext a
  refine Fin.ext ?_
  refine (Pipeline.Window.rect_emb_val_of_index_zero win0_0 (0 : Fin 1) a ?_ i)
  fin_cases a <;> rfl

/-- The one block of the right operand is all of it. -/
theorem Ws_eq (c : Dev nD) : Ws m ρ c = m ((c : Thread nD τ).loc main_arg1) := by
  funext i
  refine congrArg (m ((c : Thread nD τ).loc main_arg1)) (?_ : (win0_1.blk (0 : Fin 1)).view.emb i = i)
  funext a
  refine Fin.ext ?_
  refine (Pipeline.Window.rect_emb_val_of_index_zero win0_1 (0 : Fin 1) a ?_ i)
  fin_cases a <;> rfl

/-- The result array ends as what the body leaves. -/
theorem finalA_out (c : Dev nD) : finalA m ρ c (2 : Fin 3) = outAt m ρ c := by
  refine (dats (F := F) m ρ 0 c).arrAt_eq_of_after_last (2 : Fin 3) t₀ (by decide +kernel) (outAt m ρ c) (fun j => ?_)
  blk_simp
  rfl

end Result

end Cert.KI

end
-- ==== Proof.Maxima.lean ====
/-
In exact arithmetic the greatest entry of an array, as the two programs reduce to it, is at most a bound exactly when every
entry is.
-/
module

public import proofs.«01_k».proof.Proof.KIData
public import proofs.«01_k».proof.Proof.Gen.ReferenceIdeal
public import Idealize.ShloMosaic.Lib.Pointwise
public import Idealize.ShloMosaic.Lib.Pipeline.Value
public import Idealize.ShloMosaic.Lib.Layout

@[expose] public section

set_option maxRecDepth 16384

noncomputable section

namespace Cert.Val

open Idealize.ShloMosaic

/-- The start of a maximum is the least value. -/
theorem ofBits_least : (FloatOps.ofBits (F := Ideal) .f32 0xFF800000#32) = (⊥ : EReal) := by
  show Ideal.ofBits .f32 0xFF800000#32 = ⊥
  simp [Ideal.ofBits, Ideal.ieee]

/-- Some entry-wise bound on a recast array is that bound on the array. -/
theorem shapeCast_le {s t : Shape} (x : s.Idx → EReal) (h : s.ShapeCasts t) (z : EReal) :
    (∀ j, shapeCast t x h j ≤ z) ↔ ∀ i, x i ≤ z :=
  ⟨fun H i => by simpa [shapeCast] using H ((Shape.reshapeEquiv h).symm i), fun H j => H _⟩

/-- A maximum over all the axes, as the kernel reduces, is at most a bound exactly when all entries are. -/
theorem multiReduction_le {s t : Shape} [Subsingleton t.Idx] {axes : List (Fin s.rank)} (x : FVec Ideal s .f32)
    (h : s.Reduces axes t) (hφ : FKind.Formats .f32) (hacc : (0xFF800000#32 : BitVec 32) = FKind.maximumf.neutral .f32 hφ)
    (j : t.Idx) (z : EReal) :
    multiReduction (F := Ideal) .maximumf axes t x 0xFF800000#32 h hφ hacc j ≤ z ↔ ∀ i, x i ≤ z := by
  have e := multiReduction_maximumf_eq_fold (F := Ideal) x 0xFF800000#32 h hφ hacc j
  rw [e, ofBits_least]
  refine (Finset.fold_max_le (s := Finset.univ.filter fun i => h.drop i = j) (f := x) (b := (⊥ : EReal)) z).trans ?_
  exact ⟨fun H i => H.2 i (Finset.mem_filter.mpr ⟨Finset.mem_univ i, Subsingleton.elim _ _⟩), fun H => ⟨bot_le, fun i _ => H i⟩⟩

/-- A maximum over all the axes, as the reference reduces, is at most a bound exactly when all entries are. -/
theorem reduce_le {s t u : Shape} [Subsingleton t.Idx] {axes : List (Fin s.rank)} (x : FVec Ideal s .f32)
    (init : FVec Ideal u .f32) (hi : ∀ i, init i = (⊥ : EReal)) (h : s.ReducesTo axes t) (hu : 0 < u.numel) (j : t.Idx) (z : EReal) :
    Host.reduce (FloatOps.maximumf (F := Ideal) (φ := .f32)) x init h hu j ≤ z ↔ ∀ i, x i ≤ z := by
  rw [Host.reduce_eq_fold, hi]
  refine (Finset.fold_max_le (s := Finset.univ.filter fun i => h.drop i = j) (f := x) (b := (⊥ : EReal)) z).trans ?_
  exact ⟨fun H i => H.2 i (Finset.mem_filter.mpr ⟨Finset.mem_univ i, Subsingleton.elim _ _⟩), fun H => ⟨bot_le, fun i _ => H i⟩⟩

end Cert.Val

end
-- ==== Proof.KIValue.lean ====
/-
The values of the kernel in exact arithmetic, entry by entry: its products, its maxima and what it writes.
-/
module

public import proofs.«01_k».proof.Proof.Maxima
public import proofs.«01_k».proof.Proof.Gen.ReferenceIdeal
public import Idealize.ShloMosaic.Lib.Pointwise
public import Idealize.ShloMosaic.Lib.Pipeline.Value
public import Idealize.ShloMosaic.Lib.Layout

@[expose] public section

set_option maxRecDepth 16384

noncomputable section

namespace Cert.KI

open Cert.KernelIdeal Cert.KernelIdeal.Gen
open Idealize.ShloMosaic hiding ix2 ix3
open Idealize.ShloMosaic.ValueIdx (ix2 ix3)
open Cert.Val

/-- The row of the whole left operand that row `i` of device `c` is. -/
def rowOf (c : Dev nD) (i : Fin 128) : Fin 4096 := ⟨128 * c.val + i.val, by have : c.val < 32 := c.isLt; omega⟩

/-- The column of the whole product that column `l` of device `c` is. -/
def colOf (c : Dev nD) (l : Fin 64) : Fin 2048 := ⟨64 * c.val + l.val, by have : c.val < 32 := c.isLt; omega⟩

/-- A row times a column, zero at the least. -/
def yAt (A : (⟨2, ![4096, 4096]⟩ : Shape).Idx → EReal) (B : (⟨2, ![4096, 2048]⟩ : Shape).Idx → EReal) (r : Fin 4096) (n : Fin 2048) : EReal :=
  max (∑ k : Fin 4096, A (ix2 r k) * B (ix2 k n)) 0

/-- Dividing by a scale, rounding, clipping at 127 on both sides, and multiplying by the scale. -/
def quant {F : FTy → Type} [FloatOps F] (s y : F .f32) : F .f32 :=
  FloatOps.mulf (FloatOps.minimumf (Scalar.ofBits .f32 0x42FE0000#32)
    (FloatOps.maximumf (Scalar.ofBits .f32 0xC2FE0000#32) (FloatOps.roundeven (FloatOps.divf y s)))) s

/-- The greatest entry a device finds in its own maximum `m` and a table. -/
def topOf {F : FTy → Type} [FloatOps F] (m : F .f32) (v : FVec F S32x8x128 .f32) : F .f32 :=
  Scalar.maximumf m (extractAt ![0, 0, 0, 0] (shapeCast S1x1x1x1 (multiReduction .maximumf [1, 2, 3] S1
    (shapeCast S1x32x8x128 v shapeCasts_S32x8x128_S1x32x8x128) 0xFF800000#32
    reduces_S1x32x8x128_S1 (.inl rfl) rfl) shapeCasts_S1_S1x1x1x1) inpos_S1x1x1x1_p0_0_0_0)

/-- The quantiser of the kernel, entry by entry, whatever it is given. -/
theorem pay117_apply {F : FTy → Type} [FloatOps F] (m : F .f32) (v : FVec F S32x8x128 .f32) (y : FVec F S32x128x64 .f32) (i : S4096x64.Idx) :
    k0_pay117 m v y i = quant (Scalar.divf (topOf m v) (Scalar.ofBits .f32 0x42FE0000#32))
      (shapeCast S4096x64 y shapeCasts_S32x128x64_S4096x64 i) := rfl

section Values
variable (A : (⟨2, ![4096, 4096]⟩ : Shape).Idx → EReal) (B : (⟨2, ![4096, 2048]⟩ : Shape).Idx → EReal)
variable (X : Dev nD → S128x4096.Idx → EReal) (W : Dev nD → S4096x2048.Idx → EReal)

/-- An entry of a product is the sum over the row and the column, zero at the least. -/
theorem prod_apply (c : Dev nD) (g : Fin 8) (i : Fin 128) (j : Fin 256) :
    prod (F := Ideal) X W c g (ix2 i j)
      = max (∑ k : Fin 4096, X c (ix2 i k) * W c (ix2 k (⟨256 * g.val + j.val, by omega⟩ : Fin 2048))) 0 := by
  have e : ∀ (x : FVec Ideal S128x4096 .f32) (v : FVec Ideal S4096x256 .f32),
      k0_pay17 (F := Ideal) (k0_pay2 x) v (ix2 i j) = max (∑ k : Fin 4096, x (ix2 i k) * v (ix2 k j)) 0 := by
    intro x v
    unfold k0_pay17 k0_pay2
    rw [shapeCast_self, shapeCast_self]
    simp only [pointwise]
    simp only [Ideal.ofBits_zero_f32, zero_add, ix2_eq_valueIdx]
  exact e (X c) (wCols (F := Ideal) W c g)

variable (hX : ∀ c : Dev nD, ∀ i k, X c (ix2 i k) = A (ix2 (rowOf c i) k))
variable (hW : ∀ c : Dev nD, ∀ k n, W c (ix2 k n) = B (ix2 k n))

include hX hW in
/-- With the rows of the left operand dealt out, it is an entry of the whole product. -/
theorem prod_yAt (c : Dev nD) (g : Fin 8) (i : Fin 128) (j : Fin 256) :
    prod (F := Ideal) X W c g (ix2 i j)
      = yAt A B (rowOf c i) ⟨256 * g.val + j.val, by omega⟩ := by
  rw [prod_apply, yAt]
  simp only [hX, hW]

/-- The greater of two and of a group's entries is at most a bound exactly when each is. -/
theorem up_le (m : EReal) (y : FVec Ideal S128x256 .f32) (z : EReal) :
    up (F := Ideal) m y ≤ z ↔ m ≤ z ∧ ∀ i, y i ≤ z := by
  unfold up
  have : Subsingleton S1.Idx := ⟨fun a b => funext fun k => by fin_cases k; exact Subsingleton.elim (α := Fin 1) _ _⟩
  rw [Ideal.scalar_maximumf_def, max_le_iff]
  refine and_congr Iff.rfl ?_
  refine (multiReduction_le _ _ (.inl rfl) rfl _ _).trans ?_
  exact shapeCast_le _ _ _

/-- The maximum of the groups so far is at most a bound exactly when zero and all their entries are. -/
theorem maxTo_le (c : Dev nD) (z : EReal) : ∀ n, n < 8 →
    (maxTo (F := Ideal) X W c n ≤ z ↔ 0 ≤ z ∧ ∀ g : Fin 8, g.val ≤ n → ∀ i, prod (F := Ideal) X W c g i ≤ z)
  | 0, _ => by
    rw [maxTo, up_le]
    refine and_congr (by rw [← Ideal.ofBits_zero_f32]; exact Iff.rfl) ⟨fun H g hg => ?_, fun H => H 0 (Nat.le_refl _)⟩
    obtain rfl : g = 0 := Fin.ext (by simpa using hg)
    exact H
  | n + 1, hn => by
    rw [maxTo, up_le, maxTo_le c z n (by omega), and_assoc]
    refine and_congr Iff.rfl ⟨fun H g hg => ?_, fun H => ⟨fun g hg => H g (by omega), H _ ?_⟩⟩
    · by_cases h : g.val ≤ n
      · exact H.1 g h
      · obtain rfl : g = ⟨(n + 1) % 8, Nat.mod_lt _ (by decide)⟩ := Fin.ext (by simp only; omega)
        exact H.2
    · simp only; omega

/-- The maximum of a device is at most a bound exactly when zero and all its entries are. -/
theorem maxAll_le (c : Dev nD) (z : EReal) :
    maxAll (F := Ideal) X W c ≤ z ↔ 0 ≤ z ∧ ∀ g i, prod (F := Ideal) X W c g i ≤ z := by
  rw [maxAll, maxTo_le X W c z 7 (by decide)]
  exact and_congr Iff.rfl ⟨fun H g => H g (by omega), fun H g _ => H g⟩

/-- The gathered maxima on device `c`. -/
def gTab (c : Dev nD) : S32x8x128.Idx → EReal := maxTab (F := Ideal) (maxAll (F := Ideal) X W) c

/-- The greatest entry device `c` finds in its own and the gathered maxima. -/
def gMax (c : Dev nD) : EReal := topOf (F := Ideal) (maxAll (F := Ideal) X W c) (gTab X W c)

/-- The scale device `c` finds. -/
def scaleOf (c : Dev nD) : EReal := Scalar.divf (F := Ideal) (φ := .f32) (gMax X W c) (Scalar.ofBits .f32 0x42FE0000#32)

/-- The greatest entry a device finds is at most a bound exactly when zero and all entries of all devices are. -/
theorem gMax_le (c : Dev nD) (z : EReal) :
    gMax X W c ≤ z ↔ 0 ≤ z ∧ ∀ s g i, prod (F := Ideal) X W s g i ≤ z := by
  have : Subsingleton S1.Idx := ⟨fun a b => funext fun k => by fin_cases k; exact Subsingleton.elim (α := Fin 1) _ _⟩
  have e : (extractAt ![0, 0, 0, 0] (shapeCast S1x1x1x1 (multiReduction (F := Ideal) (φ := .f32) .maximumf [1, 2, 3] S1
      (shapeCast S1x32x8x128 (gTab X W c) shapeCasts_S32x8x128_S1x32x8x128) 0xFF800000#32
      reduces_S1x32x8x128_S1 (.inl rfl) rfl) shapeCasts_S1_S1x1x1x1) inpos_S1x1x1x1_p0_0_0_0 ≤ z)
      ↔ ∀ i, gTab X W c i ≤ z :=
    (multiReduction_le _ _ (.inl rfl) rfl _ _).trans (shapeCast_le _ _ _)
  rw [gMax, topOf, Ideal.scalar_maximumf_def, max_le_iff, e, maxAll_le]
  constructor
  · rintro ⟨⟨h0, hc⟩, ht⟩
    refine ⟨h0, fun s => ?_⟩
    by_cases hs : s.val = c.val
    · obtain rfl : s = c := Fin.ext hs
      exact hc
    · have := ht (ix3 s (0 : Fin 8) (0 : Fin 128))
      rw [gTab, maxTab] at this
      rw [if_neg (by exact hs)] at this
      exact ((maxAll_le X W s z).mp this).2
  · rintro ⟨h0, H⟩
    refine ⟨⟨h0, H c⟩, fun i => ?_⟩
    rw [gTab, maxTab]
    split
    · exact (le_of_eq Ideal.ofBits_zero_f32).trans h0
    · exact (maxAll_le X W _ z).mpr ⟨h0, H _⟩

include hX hW in
/-- With the rows dealt out the greatest entry is at most a bound exactly when all entries of the whole product are. -/
theorem gMax_le_yAt (c : Dev nD) (z : EReal) : gMax X W c ≤ z ↔ ∀ r n, yAt A B r n ≤ z := by
  rw [gMax_le]
  constructor
  · rintro ⟨_, H⟩ r n
    have h := H ⟨r.val / 128, by have := r.isLt; show _ < 32; omega⟩ ⟨n.val / 256, by omega⟩
      (ix2 (⟨r.val % 128, Nat.mod_lt _ (by decide)⟩ : Fin 128) (⟨n.val % 256, Nat.mod_lt _ (by decide)⟩ : Fin 256))
    rw [prod_yAt A B X W hX hW] at h
    simp only [rowOf, Nat.div_add_mod] at h
    exact h
  · intro H
    refine ⟨(le_max_right _ _).trans (H 0 0), fun s g i => ?_⟩
    obtain ⟨a, b, rfl⟩ : ∃ (a : Fin 128) (b : Fin 256), i = ix2 a b := ⟨i 0, i 1, by funext k; fin_cases k <;> rfl⟩
    rw [prod_yAt A B X W hX hW]
    exact H _ _

/-- The gathered chunks laid out as rows: row `r` is row `r % 128` of slot `r / 128`. -/
theorem rows_apply (y : FVec Ideal S32x128x64 .f32) (r : Fin 4096) (l : Fin 64) :
    shapeCast S4096x64 y shapeCasts_S32x128x64_S4096x64 (ix2 r l)
      = y (ix3 (⟨r.val / 128, by omega⟩ : Fin 32) (⟨r.val % 128, Nat.mod_lt _ (by decide)⟩ : Fin 128) l) := by
  refine Idealize.ShloMosaic.shapeCast_apply _ _ _ _ ?_
  rw [Shape.rowMajor_val_three, Shape.rowMajor_val_two]
  show (r.val / 128 * 128 + r.val % 128) * 64 + l.val = r.val * 64 + l.val
  rw [Nat.div_add_mod']

/-- An entry of the receive buffer. -/
theorem recvBuf_apply (P : Dev nD → Fin 8 → FVec Ideal S128x256 .f32) (c s : Dev nD) (i : Fin 128) (l : Fin 64) :
    (recvBuf (F := Ideal) P c : FVec Ideal S32x128x64 .f32) (ix3 s i l) = chunk (F := Ideal) P s c i l := by
  unfold recvBuf
  rfl

/-- What the kernel writes, entry by entry. -/
theorem outOf_apply (c : Dev nD) (r : Fin 4096) (l : Fin 64) :
    outOf (F := Ideal) X W c (ix2 r l) = quant (F := Ideal) (scaleOf X W c)
      (chunk (F := Ideal) (prod (F := Ideal) X W) ⟨r.val / 128, by show _ < 32; omega⟩ c ⟨r.val % 128, Nat.mod_lt _ (by decide)⟩ l) := by
  refine (pay117_apply (F := Ideal) (maxAll (F := Ideal) X W c) (gTab X W c) (recvBuf (F := Ideal) (prod (F := Ideal) X W) c) (ix2 r l)).trans ?_
  rw [rows_apply]
  exact congrArg (quant (F := Ideal) (scaleOf X W c))
    (recvBuf_apply (prod (F := Ideal) X W) c ⟨r.val / 128, by show _ < 32; omega⟩ ⟨r.val % 128, Nat.mod_lt _ (by decide)⟩ l)

include hX hW in
/-- With the rows dealt out, it is the quantised entry of the whole product. -/
theorem outOf_yAt (c : Dev nD) (r : Fin 4096) (l : Fin 64) :
    outOf (F := Ideal) X W c (ix2 r l) = quant (F := Ideal) (scaleOf X W c)
      (yAt A B r (colOf c l)) := by
  rw [outOf_apply]
  unfold chunk
  rw [prod_yAt A B X W hX hW]
  congr 2
  · exact Fin.ext (Nat.div_add_mod _ _)
  · refine Fin.ext ?_
    show 256 * (c.val / 4) + (64 * (c.val % 4) + l.val) = 64 * c.val + l.val
    omega

end Values

end Cert.KI

end
-- ==== Proof.RefValue.lean ====
/-
The values of the reference in exact arithmetic, entry by entry, and that the kernel writes each device its columns of them.
-/
module

public import proofs.«01_k».proof.Proof.KIValue
public import proofs.«01_k».proof.Proof.Gen.ReferenceIdeal
public import Idealize.ShloMosaic.Lib.Pointwise
public import Idealize.ShloMosaic.Lib.Pipeline.Value
public import Idealize.ShloMosaic.Lib.Layout

@[expose] public section

set_option maxRecDepth 16384

noncomputable section

namespace Cert.Val

open Cert.ReferenceIdeal Cert.ReferenceIdeal.Gen
open Idealize.ShloMosaic hiding ix2 ix3
open Idealize.ShloMosaic.ValueIdx (ix2 ix3)
open Cert.KI (yAt quant gMax scaleOf gMax_le_yAt outOf outOf_yAt rowOf colOf)

/-- A scalar spread over an array is the scalar at every entry. -/
theorem spread_apply {α : Type} (x : S_.Idx → α) (i : S4096x2048.Idx) (j : S_.Idx) :
    broadcastInDim S4096x2048 ![] bcast_S_S4096x2048 x i = x j :=
  congrArg x (funext fun a => a.elim0)

/-- The product of the reference, negative entries made zero. -/
def refY {F : FTy → Type} [FloatOps F] (A : FVec F S4096x4096 .f32) (B : FVec F S4096x2048 .f32) : FVec F S4096x2048 .f32 :=
  maximumf (Host.dotGeneral dot_S4096x4096_S4096x2048_S4096x2048_1_0_0_1_n_n none A B)
    (broadcastInDim S4096x2048 ![] bcast_S_S4096x2048 (constant S_ .f32 0x00000000#32))

/-- The greatest magnitude of an array. -/
def refMax {F : FTy → Type} [FloatOps F] (Y : FVec F S4096x2048 .f32) : FVec F S_ .f32 :=
  Host.reduce FloatOps.maximumf (Host.absf Y) (constant S_ .f32 0xFF800000#32) reducesTo_S4096x2048_S_d0_1 h_S_

/-- The scale of an array. -/
def refScale {F : FTy → Type} [FloatOps F] (Y : FVec F S4096x2048 .f32) : FVec F S_ .f32 :=
  Host.divf (refMax Y) (constant S_ .f32 0x42FE0000#32)

/-- An array quantised. -/
def refQuant {F : FTy → Type} [FloatOps F] (Y : FVec F S4096x2048 .f32) : FVec F S4096x2048 .f32 :=
  mulf (minimumf (broadcastInDim S4096x2048 ![] bcast_S_S4096x2048 (id (constant S_ .f32 0x42FE0000#32)))
    (maximumf (broadcastInDim S4096x2048 ![] bcast_S_S4096x2048 (id (constant S_ .f32 0xC2FE0000#32)))
      (Host.roundeven (Host.divf Y (broadcastInDim S4096x2048 ![] bcast_S_S4096x2048 (refScale Y))))))
    (broadcastInDim S4096x2048 ![] bcast_S_S4096x2048 (refScale Y))

/-- The result of the reference. -/
def refOut {F : FTy → Type} [FloatOps F] (A : FVec F S4096x4096 .f32) (B : FVec F S4096x2048 .f32) : FVec F S4096x2048 .f32 :=
  refQuant (refY A B)

/-- The one index of a scalar. -/
def only : S_.Idx := fun a => a.elim0

/-- An entry of a quantised array, in any arithmetic. -/
theorem refQuant_apply {F : FTy → Type} [FloatOps F] (Y : FVec F S4096x2048 .f32) (i : S4096x2048.Idx) :
    refQuant Y i = FloatOps.mulf (FloatOps.minimumf (FloatOps.ofBits .f32 0x42FE0000#32) (FloatOps.maximumf (FloatOps.ofBits .f32 0xC2FE0000#32)
      (FloatOps.hostUnary .roundeven (FloatOps.hostDivf (Y i) (refScale Y only))))) (refScale Y only) := by
  have e := spread_apply (refScale Y) i only
  unfold refQuant
  rw [← e]
  rfl

/-- In exact arithmetic it is quantised as the kernel does. -/
theorem refQuant_ideal (Y : FVec Ideal S4096x2048 .f32) (i : S4096x2048.Idx) :
    refQuant (F := Ideal) Y i = quant (F := Ideal) (refScale (F := Ideal) Y only) (Y i) := by
  rw [refQuant_apply, Ideal.hostDivf_def, Ideal.hostUnary_roundeven_def]
  unfold quant
  rw [Ideal.roundeven_def, Ideal.divf_def]

section Values
variable (A : FVec Ideal S4096x4096 .f32) (B : FVec Ideal S4096x2048 .f32)

/-- An entry of the product of the reference. -/
theorem refY_apply (r : Fin 4096) (n : Fin 2048) : refY (F := Ideal) A B (ix2 r n) = yAt A B r n := by
  unfold refY yAt
  have e := spread_apply (constant (F := Ideal) S_ .f32 0x00000000#32) (ix2 r n) only
  rw [maximumf_apply, e]
  simp only [pointwise]
  simp only [Ideal.ofBits_zero_f32, zero_add, ix2_eq_valueIdx]

/-- The greatest magnitude of the product is at most a bound exactly when every entry is. -/
theorem refMax_le (z : EReal) : refMax (F := Ideal) (refY (F := Ideal) A B) only ≤ z ↔ ∀ r n, yAt A B r n ≤ z := by
  have : Subsingleton S_.Idx := ⟨fun a b => funext fun k => k.elim0⟩
  have hp : ∀ i : S4096x2048.Idx, Host.absf (F := Ideal) (refY (F := Ideal) A B) i = yAt A B (i 0) (i 1) := by
    intro i
    obtain ⟨a, b, rfl⟩ : ∃ (a : Fin 4096) (b : Fin 2048), i = ix2 a b := ⟨i 0, i 1, by funext k; fin_cases k <;> rfl⟩
    rw [Host.absf_apply, refY_apply, Ideal.hostAbsf_def]
    have h0 : (0 : EReal) ≤ yAt A B a b := le_max_right _ _
    refine (max_eq_left ?_ : max (yAt A B a b) (-(yAt A B a b)) = _)
    exact (EReal.neg_le_neg_iff.mpr h0).trans ((le_of_eq neg_zero).trans h0)
  refine (reduce_le _ _ (fun i => ofBits_least) _ _ _ z).trans ?_
  exact ⟨fun H r n => (hp (ix2 r n)).symm.trans_le (H (ix2 r n)), fun H i => (hp i).trans_le (H _ _)⟩

variable (X : Dev Cert.KernelIdeal.nD → Cert.KernelIdeal.S128x4096.Idx → EReal) (W : Dev Cert.KernelIdeal.nD → Cert.KernelIdeal.S4096x2048.Idx → EReal)

/-- When each device holds its rows of the left operand and all of the right, what it writes is its columns of the
    reference's result. -/
theorem outOf_eq (hX : ∀ c : Dev Cert.KernelIdeal.nD, X c = Layout.block ⟨2, ![128, 4096]⟩ ⟨2, ![4096, 4096]⟩ 0 32 c A)
    (hW : ∀ c, W c = B) (c : Dev Cert.KernelIdeal.nD) :
    outOf (F := Ideal) X W c = Layout.block ⟨2, ![4096, 64]⟩ ⟨2, ![4096, 2048]⟩ 1 32 c (refOut (F := Ideal) A B) := by
  have hX' : ∀ c : Dev Cert.KernelIdeal.nD, ∀ (i : Fin 128) (k : Fin 4096),
      X c (ix2 i k) = A (ix2 (rowOf c i) k) := by
    intro c i k
    rw [hX c, Layout.block_apply]
    refine congrArg A (funext fun a => Fin.ext ?_)
    fin_cases a
    · exact (Layout.idx_rows_val _ c (ix2 i k)).1.trans (by show c.val * 128 + i.val = 128 * c.val + i.val; rw [Nat.mul_comm])
    · exact (Layout.idx_rows_val _ c (ix2 i k)).2
  have hW' : ∀ c, ∀ (k : Fin 4096) (n : Fin 2048), W c (ix2 k n) = B (ix2 k n) := fun c k n => by rw [hW c]
  have hm : gMax X W c = refMax (F := Ideal) (refY (F := Ideal) A B) only :=
    eq_of_forall_ge_iff fun z => (gMax_le_yAt A B X W hX' hW' c z).trans (refMax_le A B z).symm
  have hs : scaleOf X W c = refScale (F := Ideal) (refY (F := Ideal) A B) only := by
    unfold scaleOf refScale
    rw [hm, Host.divf_apply, Ideal.hostDivf_def, Ideal.scalar_divf_def]
    rfl
  funext i
  obtain ⟨r, l, rfl⟩ : ∃ (r : Fin 4096) (l : Fin 64), i = ix2 r l := ⟨i 0, i 1, by funext k; fin_cases k <;> rfl⟩
  refine (outOf_yAt A B X W hX' hW' c r l).trans ?_
  have hi : (Layout.Tiles.idx (S := ⟨2, ![4096, 64]⟩) (T := ⟨2, ![4096, 2048]⟩) (a := 1) (k := 32) (by decide) c (ix2 r l))
      = ix2 r (colOf c l) := by
    funext a
    refine Fin.ext ?_
    fin_cases a
    · exact (Layout.idx_cols_val _ c (ix2 r l)).1
    · exact (Layout.idx_cols_val _ c (ix2 r l)).2.trans (by show c.val * 64 + l.val = 64 * c.val + l.val; rw [Nat.mul_comm])
  rw [Layout.block_apply, hi, refOut, refQuant_ideal, refY_apply, hs]

end Values

end Cert.Val

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import Idealize.ShloMosaic.Adequacy
public import Idealize.ShloMosaic.Init
public import proofs.«01_k».proof.Proof.Gen.ReferenceIdeal.Run
public import proofs.«01_k».proof.Proof.KILaunch
public import proofs.«01_k».proof.Proof.KFLaunch
public import proofs.«01_k».proof.Proof.KIResult
public import proofs.«01_k».proof.Proof.RefValue

@[expose] public section

noncomputable section

namespace Cert.Proof

open Idealize.ShloMosaic Idealize.SL.Sem Cert.Kernel

/-- The kernel ends with its operands unchanged and every counter at zero. -/
theorem frame_p : Cert.quiescent_Kernel := fun m g _ =>
  (θ_run _ _ _).mono (fun _ h => ⟨fun c => ⟨(h.1 c 0).trans (Cert.KF.finalA_x m g c), (h.1 c 1).trans (Cert.KF.finalA_w m g c)⟩, h.2⟩) (Cert.KF.run_main m g)

/-- So does the kernel in exact arithmetic. -/
theorem frame_pi : Cert.quiescent_KernelIdeal := fun m g _ =>
  (θ_run _ _ _).mono (fun _ h => ⟨fun c => ⟨(h.1 c 0).trans (Cert.KI.finalA_x m g c), (h.1 c 1).trans (Cert.KI.finalA_w m g c)⟩, h.2⟩) (Cert.KI.run_main m g)

/-- So does the reference. -/
theorem frame_ri : Cert.quiescent_ReferenceIdeal := fun m g _ =>
  (θ_run _ _ _).mono (fun r h => ⟨fun c => ⟨(h c).2.1, (h c).2.2⟩, sem_eq_zero_of_no_sems rfl r.2⟩) (Cert.ReferenceIdeal.Value.run m g)

/-- In exact arithmetic each device of the kernel writes its columns of the reference's result. -/
theorem algebraic : Cert.algebraic_KernelIdeal_ReferenceIdeal := fun m g m' g' _ h =>
  ⟨Cert.Val.refOut (F := Ideal) (m' (((0 : Dev Cert.ReferenceIdeal.nD).tc : Thread Cert.ReferenceIdeal.nD Cert.ReferenceIdeal.τ).loc Cert.ReferenceIdeal.main_arg0))
      (m' (((0 : Dev Cert.ReferenceIdeal.nD).tc : Thread Cert.ReferenceIdeal.nD Cert.ReferenceIdeal.τ).loc Cert.ReferenceIdeal.main_arg1)),
    (θ_run _ _ _).mono (fun _ r c => ⟨((r.1 c 2).trans (Cert.KI.finalA_out m g c)).trans
        (Cert.Val.outOf_eq _ _ _ _ (fun c => (Cert.KI.Xs_eq m g c).trans (h c).1) (fun c => (Cert.KI.Ws_eq m g c).trans (h c).2) c),
      (r.1 c 0).trans (Cert.KI.finalA_x m g c), (r.1 c 1).trans (Cert.KI.finalA_w m g c)⟩) (Cert.KI.run_main m g),
    (θ_run _ _ _).mono (fun _ r => r 0) (Cert.ReferenceIdeal.Value.run m' g')⟩

/-- All five claims. -/
theorem claim : Cert.Claim := ⟨Cert.Kernel.Gen.facts, Cert.KernelIdeal.Gen.facts, Cert.ReferenceIdeal.Gen.facts,
  frame_p, frame_pi, frame_ri, trivial, algebraic⟩

end Cert.Proof

end
